-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2))
      ∧ r.2.sem = fun _ => 0)

def preserves_Kernel_KernelIdeal : Prop :=
  IdealRules.named_const.Statement Cert.KernelIdeal.κ "slope0" .f32 0xBF8293EE#32 ((-(((Real.sqrt 2) * (Real.log 2))⁻¹) : ℝ) : EReal)
  ∧ IdealRules.named_const.Statement Cert.KernelIdeal.κ "slope1" .f32 0xBF38AA3B#32 ((-(((Real.sqrt 4) * (Real.log 2))⁻¹) : ℝ) : EReal)
  ∧ IdealRules.named_const.Statement Cert.KernelIdeal.κ "slope2" .f32 0xBF0293EE#32 ((-(((Real.sqrt 8) * (Real.log 2))⁻¹) : ℝ) : EReal)
  ∧ IdealRules.named_const.Statement Cert.KernelIdeal.κ "slope3" .f32 0xBEB8AA3B#32 ((-(((Real.sqrt 16) * (Real.log 2))⁻¹) : ℝ) : EReal)
  ∧ IdealRules.named_const.Statement Cert.KernelIdeal.κ "slope4" .f32 0xBE8293EE#32 ((-(((Real.sqrt 32) * (Real.log 2))⁻¹) : ℝ) : EReal)
  ∧ IdealRules.named_const.Statement Cert.KernelIdeal.κ "slope5" .f32 0xBE38AA3B#32 ((-(((Real.sqrt 64) * (Real.log 2))⁻¹) : ℝ) : EReal)
  ∧ IdealRules.named_const.Statement Cert.KernelIdeal.κ "slope6" .f32 0xBE0293EE#32 ((-(((Real.sqrt 128) * (Real.log 2))⁻¹) : ℝ) : EReal)
  ∧ IdealRules.named_const.Statement Cert.KernelIdeal.κ "slope7" .f32 0xBDB8AA3B#32 ((-(((Real.sqrt 256) * (Real.log 2))⁻¹) : ℝ) : EReal)
  ∧ IdealRules.named_const.Statement Cert.KernelIdeal.κ "slope8" .f32 0xBD8293EE#32 ((-(((Real.sqrt 512) * (Real.log 2))⁻¹) : ℝ) : EReal)
  ∧ IdealRules.named_const.Statement Cert.KernelIdeal.κ "slope9" .f32 0xBD38AA3B#32 ((-(((Real.sqrt 1024) * (Real.log 2))⁻¹) : ℝ) : EReal)
  ∧ IdealRules.named_const.Statement Cert.KernelIdeal.κ "slope10" .f32 0xBD0293EE#32 ((-(((Real.sqrt 2048) * (Real.log 2))⁻¹) : ℝ) : EReal)
  ∧ IdealRules.named_const.Statement Cert.KernelIdeal.κ "slope11" .f32 0xBCB8AA3B#32 ((-(((Real.sqrt 4096) * (Real.log 2))⁻¹) : ℝ) : EReal)
  ∧ IdealRules.named_const.Statement Cert.KernelIdeal.κ "slope12" .f32 0xBC8293EE#32 ((-(((Real.sqrt 8192) * (Real.log 2))⁻¹) : ℝ) : EReal)
  ∧ IdealRules.named_const.Statement Cert.KernelIdeal.κ "slope13" .f32 0xBC38AA3B#32 ((-(((Real.sqrt 16384) * (Real.log 2))⁻¹) : ℝ) : EReal)
  ∧ IdealRules.named_const.Statement Cert.KernelIdeal.κ "slope14" .f32 0xBC0293EE#32 ((-(((Real.sqrt 32768) * (Real.log 2))⁻¹) : ℝ) : EReal)
  ∧ IdealRules.named_const.Statement Cert.KernelIdeal.κ "slope15" .f32 0xBBB8AA3B#32 ((-(((Real.sqrt 65536) * (Real.log 2))⁻¹) : ℝ) : EReal)
  ∧ IdealRules.named_const.Statement Cert.KernelIdeal.κ "q_scale" .f32 0x3E38AA3B#32 (((8 * (Real.log 2))⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v9) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v18) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v7_0)) (v1 : (c : Dev Cert.OutIdeal.nD) → Buf (Elt Ideal) ((c.tc : Thread Cert.OutIdeal.nD Cert.OutIdeal.τ).loc Cert.OutIdeal.main_v7_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7_0) = v0 c
          ∧ r.2.mem ((c.tc : Thread Cert.OutIdeal.nD Cert.OutIdeal.τ).loc Cert.OutIdeal.main_v7_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_v18) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)) →
    ∃ (v0 : (c : Dev Cert.OddIdeal.nD) → Buf (Elt Ideal) ((c.tc : Thread Cert.OddIdeal.nD Cert.OddIdeal.τ).loc Cert.OddIdeal.main_v5_0)) (v1 : (c : Dev Cert.OddIdeal.nD) → Buf (Elt Ideal) ((c.tc : Thread Cert.OddIdeal.nD Cert.OddIdeal.τ).loc Cert.OddIdeal.main_v5_1)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v5_0) = v0 c
          ∧ r.2.mem ((c.tc : Thread Cert.OddIdeal.nD Cert.OddIdeal.τ).loc Cert.OddIdeal.main_v5_1) = v1 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v3) = v0 c
          ∧ r.2.mem ((c.tc : Thread Cert.OddRefIdeal.nD Cert.OddRefIdeal.τ).loc Cert.OddRefIdeal.main_v17) = v1 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)) →
    ∃ (v0 : (c : Dev Cert.MidIdeal.nD) → Buf (Elt Ideal) ((c.tc : Thread Cert.MidIdeal.nD Cert.MidIdeal.τ).loc Cert.MidIdeal.main_v5_0)) (v1 : (c : Dev Cert.MidIdeal.nD) → Buf (Elt Ideal) ((c.tc : Thread Cert.MidIdeal.nD Cert.MidIdeal.τ).loc Cert.MidIdeal.main_v5_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v5_0) = v0 c
          ∧ r.2.mem ((c.tc : Thread Cert.MidIdeal.nD Cert.MidIdeal.τ).loc Cert.MidIdeal.main_v5_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v5) = v0 c
          ∧ r.2.mem ((c.tc : Thread Cert.MidRefIdeal.nD Cert.MidRefIdeal.τ).loc Cert.MidRefIdeal.main_v19) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_v5) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)) →
    ∃ (v0 : (c : Dev Cert.EvenIdeal.nD) → Buf (Elt Ideal) ((c.tc : Thread Cert.EvenIdeal.nD Cert.EvenIdeal.τ).loc Cert.EvenIdeal.main_v16_0)) (v1 : (c : Dev Cert.EvenIdeal.nD) → Buf (Elt Ideal) ((c.tc : Thread Cert.EvenIdeal.nD Cert.EvenIdeal.τ).loc Cert.EvenIdeal.main_v16_1)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v16_0) = v0 c
          ∧ r.2.mem ((c.tc : Thread Cert.EvenIdeal.nD Cert.EvenIdeal.τ).loc Cert.EvenIdeal.main_v16_1) = v1 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v11) = v0 c
          ∧ r.2.mem ((c.tc : Thread Cert.EvenRefIdeal.nD Cert.EvenRefIdeal.τ).loc Cert.EvenRefIdeal.main_v12) = v1 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)) →
    ∃ (v0 : (c : Dev Cert.FirstIdeal.nD) → Buf (Elt Ideal) ((c.tc : Thread Cert.FirstIdeal.nD Cert.FirstIdeal.τ).loc Cert.FirstIdeal.main_v15_0)) (v1 : (c : Dev Cert.FirstIdeal.nD) → Buf (Elt Ideal) ((c.tc : Thread Cert.FirstIdeal.nD Cert.FirstIdeal.τ).loc Cert.FirstIdeal.main_v15_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v15_0) = v0 c
          ∧ r.2.mem ((c.tc : Thread Cert.FirstIdeal.nD Cert.FirstIdeal.τ).loc Cert.FirstIdeal.main_v15_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v24) = v0 c
          ∧ r.2.mem ((c.tc : Thread Cert.FirstRefIdeal.nD Cert.FirstRefIdeal.τ).loc Cert.FirstRefIdeal.main_v25) = v1 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hOdd : Cert.Odd.Facts) (hOddIdeal : Cert.OddIdeal.Facts) (hOddRefIdeal : Cert.OddRefIdeal.Facts) (hMid : Cert.Mid.Facts) (hMidIdeal : Cert.MidIdeal.Facts) (hMidRefIdeal : Cert.MidRefIdeal.Facts) (hProj : Cert.Proj.Facts) (hProjIdeal : Cert.ProjIdeal.Facts) (hProjRefIdeal : Cert.ProjRefIdeal.Facts) (hEven : Cert.Even.Facts) (hEvenIdeal : Cert.EvenIdeal.Facts) (hEvenRefIdeal : Cert.EvenRefIdeal.Facts) (hFirst : Cert.First.Facts) (hFirstIdeal : Cert.FirstIdeal.Facts) (hFirstRefIdeal : Cert.FirstRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Odd (hOdd := hOdd)
    ∧ quiescent_OddIdeal (hOddIdeal := hOddIdeal)
    ∧ quiescent_OddRefIdeal (hOddRefIdeal := hOddRefIdeal)
    ∧ quiescent_Mid (hMid := hMid)
    ∧ quiescent_MidIdeal (hMidIdeal := hMidIdeal)
    ∧ quiescent_MidRefIdeal (hMidRefIdeal := hMidRefIdeal)
    ∧ quiescent_Proj (hProj := hProj)
    ∧ quiescent_ProjIdeal (hProjIdeal := hProjIdeal)
    ∧ quiescent_ProjRefIdeal (hProjRefIdeal := hProjRefIdeal)
    ∧ quiescent_Even (hEven := hEven)
    ∧ quiescent_EvenIdeal (hEvenIdeal := hEvenIdeal)
    ∧ quiescent_EvenRefIdeal (hEvenRefIdeal := hEvenRefIdeal)
    ∧ quiescent_First (hFirst := hFirst)
    ∧ quiescent_FirstIdeal (hFirstIdeal := hFirstIdeal)
    ∧ quiescent_FirstRefIdeal (hFirstRefIdeal := hFirstRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Odd_OddIdeal
    ∧ algebraic_OddIdeal_OddRefIdeal (hOddIdeal := hOddIdeal) (hOddRefIdeal := hOddRefIdeal)
    ∧ preserves_Mid_MidIdeal
    ∧ algebraic_MidIdeal_MidRefIdeal (hMidIdeal := hMidIdeal) (hMidRefIdeal := hMidRefIdeal)
    ∧ preserves_Proj_ProjIdeal
    ∧ algebraic_ProjIdeal_ProjRefIdeal (hProjIdeal := hProjIdeal) (hProjRefIdeal := hProjRefIdeal)
    ∧ preserves_Even_EvenIdeal
    ∧ algebraic_EvenIdeal_EvenRefIdeal (hEvenIdeal := hEvenIdeal) (hEvenRefIdeal := hEvenRefIdeal)
    ∧ preserves_First_FirstIdeal
    ∧ algebraic_FirstIdeal_FirstRefIdeal (hFirstIdeal := hFirstIdeal) (hFirstRefIdeal := hFirstRefIdeal)
-- ==== Pre_finite.lean ====
abbrev S4x8192x4616 : Shape := ⟨3, ![4, 8192, 4616]⟩
abbrev S16 : Shape := ⟨1, ![16]⟩
abbrev S4x8192x1280 : Shape := ⟨3, ![4, 8192, 1280]⟩
abbrev S_ : Shape := ⟨0, ![]⟩

class Facts : Prop where
  slices_S4x8192x4616_S4x8192x1280_0_0_0 : S4x8192x4616.Slices ![0, 0, 0] S4x8192x1280
  bcast_S_S4x8192x1280 : S_.BroadcastsInDim S4x8192x1280 (![] : Fin 0 → Fin S4x8192x1280.rank)
  bcast_S_S16 : S_.BroadcastsInDim S16 (![] : Fin 0 → Fin S16.rank)

variable [Facts]

def fn {F : FTy → Type} [FloatOps F] (main_arg0 : FVec F S4x8192x4616 .f32) (main_arg1 : FVec F S16 .f32) : IVec S4x8192x1280 1 × IVec S16 1 :=
  let main_v0 : FVec F S4x8192x1280 .f32 := (extractStridedSlice S4x8192x1280 ![0, 0, 0] · slices_S4x8192x4616_S4x8192x1280_0_0_0) main_arg0
  let main_cst : FVec F S_ .f32 := constant S_ .f32 0xFF800000#32
  let main_v1 : FVec F S4x8192x1280 .f32 := broadcastInDim S4x8192x1280 ![] bcast_S_S4x8192x1280 main_cst
  let main_v2 : IVec S4x8192x1280 1 := cmpf .ogt main_v0 main_v1
  let main_cst_0 : FVec F S_ .f32 := constant S_ .f32 0x7F800000#32
  let main_v3 : FVec F S4x8192x1280 .f32 := broadcastInDim S4x8192x1280 ![] bcast_S_S4x8192x1280 main_cst_0
  let main_v4 : IVec S4x8192x1280 1 := cmpf .olt main_v0 main_v3
  let main_v5 : IVec S4x8192x1280 1 := andi main_v2 main_v4
  let main_cst_1 : FVec F S_ .f32 := constant S_ .f32 0xFF800000#32
  let main_v6 : FVec F S16 .f32 := broadcastInDim S16 ![] bcast_S_S16 main_cst_1
  let main_v7 : IVec S16 1 := cmpf .ogt main_arg1 main_v6
  let main_cst_2 : FVec F S_ .f32 := constant S_ .f32 0x7F800000#32
  let main_v8 : FVec F S16 .f32 := broadcastInDim S16 ![] bcast_S_S16 main_cst_2
  let main_v9 : IVec S16 1 := cmpf .olt main_arg1 main_v8
  let main_v10 : IVec S16 1 := andi main_v7 main_v9
  (main_v5, main_v10)
-- ==== Kernel.lean ====
abbrev S4x8192x4616 : Shape := ⟨3, ![4, 8192, 4616]⟩
abbrev S16 : Shape := ⟨1, ![16]⟩
abbrev S4x8192x4608 : Shape := ⟨3, ![4, 8192, 4608]⟩
abbrev S4x8192x1024 : Shape := ⟨3, ![4, 8192, 1024]⟩
abbrev S4x8192x256 : Shape := ⟨3, ![4, 8192, 256]⟩
abbrev S4x8192x512 : Shape := ⟨3, ![4, 8192, 512]⟩
abbrev S32768x4608 : Shape := ⟨2, ![32768, 4608]⟩
abbrev S32768x1024 : Shape := ⟨2, ![32768, 1024]⟩
abbrev S128x1024 : Shape := ⟨2, ![128, 1024]⟩
abbrev S128x256 : Shape := ⟨2, ![128, 256]⟩
abbrev S2x4x512x256 : Shape := ⟨4, ![2, 4, 512, 256]⟩
abbrev S256x128 : Shape := ⟨2, ![256, 128]⟩
abbrev S256x256 : Shape := ⟨2, ![256, 256]⟩
abbrev S512x256 : Shape := ⟨2, ![512, 256]⟩
abbrev S1x1x512x256 : Shape := ⟨4, ![1, 1, 512, 256]⟩
abbrev S128x128 : Shape := ⟨2, ![128, 128]⟩
abbrev S512x128 : Shape := ⟨2, ![512, 128]⟩
abbrev S1 : Shape := ⟨1, ![1]⟩
abbrev S1x128 : Shape := ⟨2, ![1, 128]⟩
abbrev S1x256 : Shape := ⟨2, ![1, 256]⟩
abbrev S256 : Shape := ⟨1, ![256]⟩
abbrev S64x256 : Shape := ⟨2, ![64, 256]⟩
abbrev S64x512 : Shape := ⟨2, ![64, 512]⟩
abbrev S128x512 : Shape := ⟨2, ![128, 512]⟩

abbrev nBuf : Space → Nat
  | .hbm => 14
  | .vmem => 13
  | .smem => 1
  | _ => 0

abbrev bufTy : (tb : Table) → Fin (tcTables nBuf tb) → BufTy
  | .hbm, ⟨0, _⟩ => ⟨S4x8192x4616, .f32⟩
  | .hbm, ⟨1, _⟩ => ⟨S16, .f32⟩
  | .hbm, ⟨2, _⟩ => ⟨S4x8192x4608, .f32⟩
  | .hbm, ⟨3, _⟩ => ⟨S4x8192x1024, .f32⟩
  | .hbm, ⟨4, _⟩ => ⟨S4x8192x256, .f32⟩
  | .hbm, ⟨5, _⟩ => ⟨S4x8192x256, .f32⟩
  | .hbm, ⟨6, _⟩ => ⟨S4x8192x512, .f32⟩
  | .hbm, ⟨7, _⟩ => ⟨S4x8192x512, .f32⟩
  | .hbm, ⟨8, _⟩ => ⟨S4x8192x1024, .f32⟩
  | .hbm, ⟨9, _⟩ => ⟨S4x8192x1024, .f32⟩
  | .hbm, ⟨10, _⟩ => ⟨S4x8192x4608, .f32⟩
  | .hbm, ⟨11, _⟩ => ⟨S32768x4608, .f32⟩
  | .hbm, ⟨12, _⟩ => ⟨S32768x4608, .bf16⟩
  | .hbm, ⟨13, _⟩ => ⟨S32768x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x1024, .bf16⟩
  | .local _ .vmem, ⟨11, _⟩ => ⟨S128x1024, .bf16⟩
  | .local _ .vmem, ⟨12, _⟩ => ⟨S2x4x512x256, .f32⟩
  | .local _ .smem, ⟨0, _⟩ => ⟨S16, .f32⟩
  | _, _ => ⟨S4x8192x4616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 64], ![false, false]⟩

def k0_off1 (i : grid0.Coords) : Fin 4 → Nat :=
  let arg1 : BitVec 32 := BitVec.ofNat 32 (i 1).val
  let c0_i32_2 : BitVec 32 := 0#32
  let v5 : BitVec 1 := Scalar.cmpi .sgt arg1 c0_i32_2
  let c1_i32 : BitVec 32 := 1#32
  let c0_i32_3 : BitVec 32 := 0#32
  let v6 : BitVec 32 := Scalar.select v5 c1_i32 c0_i32_3
  let v87 : Index := Scalar.indexCast v6
  let c0_39 : Index := 0#32
  let c0_40 : Index := 0#32
  let c0_41 : Index := 0#32
  ![v87.toNat, 0, 0, 0]
def k0_off2 (i : grid0.Coords) : Fin 4 → Nat :=
  let arg1 : BitVec 32 := BitVec.ofNat 32 (i 1).val
  let c0_i32_2 : BitVec 32 := 0#32
  let v5 : BitVec 1 := Scalar.cmpi .sgt arg1 c0_i32_2
  let c1_i32 : BitVec 32 := 1#32
  let c0_i32_3 : BitVec 32 := 0#32
  let v6 : BitVec 32 := Scalar.select v5 c1_i32 c0_i32_3
  let v141 : Index := Scalar.indexCast v6
  let c1_53 : Index := 1#32
  let c0_54 : Index := 0#32
  let c0_55 : Index := 0#32
  ![v141.toNat, 1, 0, 0]
def k0_off3 (i : grid0.Coords) : Fin 4 → Nat :=
  let arg1 : BitVec 32 := BitVec.ofNat 32 (i 1).val
  let c0_i32_2 : BitVec 32 := 0#32
  let v5 : BitVec 1 := Scalar.cmpi .sgt arg1 c0_i32_2
  let c1_i32 : BitVec 32 := 1#32
  let c0_i32_3 : BitVec 32 := 0#32
  let v6 : BitVec 32 := Scalar.select v5 c1_i32 c0_i32_3
  let v195 : Index := Scalar.indexCast v6
  let c2_66 : Index := 2#32
  let c0_67 : Index := 0#32
  let c0_68 : Index := 0#32
  ![v195.toNat, 2, 0, 0]
def k0_off4 (i : grid0.Coords) : Fin 4 → Nat :=
  let arg1 : BitVec 32 := BitVec.ofNat 32 (i 1).val
  let c0_i32_2 : BitVec 32 := 0#32
  let v5 : BitVec 1 := Scalar.cmpi .sgt arg1 c0_i32_2
  let c1_i32 : BitVec 32 := 1#32
  let c0_i32_3 : BitVec 32 := 0#32
  let v6 : BitVec 32 := Scalar.select v5 c1_i32 c0_i32_3
  let v249 : Index := Scalar.indexCast v6
  let c3_79 : Index := 3#32
  let c0_80 : Index := 0#32
  let c0_81 : Index := 0#32
  ![v249.toNat, 3, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c16_i32 : BitVec 32 := 16#32
  let c0_i32 : BitVec 32 := 0#32
  ![v1.toNat, c16_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c16_i32 : BitVec 32 := 16#32
  let c0_i32_0 : BitVec 32 := 0#32
  ![v3.toNat, c16_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c17_i32 : BitVec 32 := 17#32
  let c0_i32 : BitVec 32 := 0#32
  ![v1.toNat, c17_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c17_i32 : BitVec 32 := 17#32
  let c0_i32_0 : BitVec 32 := 0#32
  ![v3.toNat, c17_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "q_scale" => some (((8 * (Real.log 2))⁻¹ : ℝ) : EReal)
  | "slope0" => some ((-(((Real.sqrt 2) * (Real.log 2))⁻¹) : ℝ) : EReal)
  | "slope1" => some ((-(((Real.sqrt 4) * (Real.log 2))⁻¹) : ℝ) : EReal)
  | "slope10" => some ((-(((Real.sqrt 2048) * (Real.log 2))⁻¹) : ℝ) : EReal)
  | "slope11" => some ((-(((Real.sqrt 4096) * (Real.log 2))⁻¹) : ℝ) : EReal)
  | "slope12" => some ((-(((Real.sqrt 8192) * (Real.log 2))⁻¹) : ℝ) : EReal)
  | "slope13" => some ((-(((Real.sqrt 16384) * (Real.log 2))⁻¹) : ℝ) : EReal)
  | "slope14" => some ((-(((Real.sqrt 32768) * (Real.log 2))⁻¹) : ℝ) : EReal)
  | "slope15" => some ((-(((Real.sqrt 65536) * (Real.log 2))⁻¹) : ℝ) : EReal)
  | "slope2" => some ((-(((Real.sqrt 8) * (Real.log 2))⁻¹) : ℝ) : EReal)
  | "slope3" => some ((-(((Real.sqrt 16) * (Real.log 2))⁻¹) : ℝ) : EReal)
  | "slope4" => some ((-(((Real.sqrt 32) * (Real.log 2))⁻¹) : ℝ) : EReal)
  | "slope5" => some ((-(((Real.sqrt 64) * (Real.log 2))⁻¹) : ℝ) : EReal)
  | "slope6" => some ((-(((Real.sqrt 128) * (Real.log 2))⁻¹) : ℝ) : EReal)
  | "slope7" => some ((-(((Real.sqrt 256) * (Real.log 2))⁻¹) : ℝ) : EReal)
  | "slope8" => some ((-(((Real.sqrt 512) * (Real.log 2))⁻¹) : ℝ) : EReal)
  | "slope9" => some ((-(((Real.sqrt 1024) * (Real.log 2))⁻¹) : ℝ) : EReal)
  | _ => none
-- ==== ReferenceIdeal.lean ====
abbrev S4x8192x4616 : Shape := ⟨3, ![4, 8192, 4616]⟩
abbrev S16 : Shape := ⟨1, ![16]⟩
abbrev S4x8192x1024 : Shape := ⟨3, ![4, 8192, 1024]⟩
abbrev S4x8192x16x64 : Shape := ⟨4, ![4, 8192, 16, 64]⟩
abbrev S4x8192x256 : Shape := ⟨3, ![4, 8192, 256]⟩
abbrev S4x8192x4x64 : Shape := ⟨4, ![4, 8192, 4, 64]⟩
abbrev S4x64x128x4x4x64 : Shape := ⟨6, ![4, 64, 128, 4, 4, 64]⟩
abbrev S4x64x128x4x64 : Shape := ⟨5, ![4, 64, 128, 4, 64]⟩
abbrev S4x1x128x4x64 : Shape := ⟨5, ![4, 1, 128, 4, 64]⟩
abbrev S_ : Shape := ⟨0, ![]⟩
abbrev S4x63x128x4x64 : Shape := ⟨5, ![4, 63, 128, 4, 64]⟩
abbrev S4x64x256x4x64 : Shape := ⟨5, ![4, 64, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S4x4x1x1 : Shape := ⟨4, ![4, 4, 1, 1]⟩
abbrev S4x64x4x256x128x4 : Shape := ⟨6, ![4, 64, 4, 256, 128, 4]⟩
abbrev S4x64x4x4x128x256 : Shape := ⟨6, ![4, 64, 4, 4, 128, 256]⟩
abbrev S1x1x128x256 : Shape := ⟨4, ![1, 1, 128, 256]⟩
abbrev S4x4x128x256 : Shape := ⟨4, ![4, 4, 128, 256]⟩
abbrev S1x1x4x4x128x256 : Shape := ⟨6, ![1, 1, 4, 4, 128, 256]⟩
abbrev S64x1x1x128x256 : Shape := ⟨5, ![64, 1, 1, 128, 256]⟩
abbrev S4x64x4x4x128 : Shape := ⟨5, ![4, 64, 4, 4, 128]⟩
abbrev S4x64x4x4x128x1 : Shape := ⟨6, ![4, 64, 4, 4, 128, 1]⟩
abbrev S1x1x4x4x1x1 : Shape := ⟨6, ![1, 1, 4, 4, 1, 1]⟩
abbrev S4x64x4x64x4x128 : Shape := ⟨6, ![4, 64, 4, 64, 4, 128]⟩
abbrev S32768x1024 : Shape := ⟨2, ![32768, 1024]⟩

abbrev nBuf : Space → Nat
  | .hbm => 116
  | .vmem => 0
  | .smem => 0
  | _ => 0

abbrev bufTy : (tb : Table) → Fin (tcTables nBuf tb) → BufTy
  | .hbm, ⟨0, _⟩ => ⟨S4x8192x4616, .f32⟩
  | .hbm, ⟨1, _⟩ => ⟨S16, .f32⟩
  | .hbm, ⟨2, _⟩ => ⟨S4x8192x1024, .f32⟩
  | .hbm, ⟨3, _⟩ => ⟨S4x8192x16x64, .f32⟩
  | .hbm, ⟨4, _⟩ => ⟨S4x8192x256, .f32⟩
  | .hbm, ⟨5, _⟩ => ⟨S4x8192x4x64, .f32⟩
  | .hbm, ⟨6, _⟩ => ⟨S4x8192x256, .f32⟩
  | .hbm, ⟨7, _⟩ => ⟨S4x8192x4x64, .f32⟩
  | .hbm, ⟨8, _⟩ => ⟨S4x64x128x4x4x64, .f32⟩
  | .hbm, ⟨9, _⟩ => ⟨S4x64x128x4x64, .f32⟩
  | .hbm, ⟨10, _⟩ => ⟨S4x1x128x4x64, .f32⟩
  | .hbm, ⟨11, _⟩ => ⟨S_, .f32⟩
  | .hbm, ⟨12, _⟩ => ⟨S4x1x128x4x64, .f32⟩
  | .hbm, ⟨13, _⟩ => ⟨S4x63x128x4x64, .f32⟩
  | .hbm, ⟨14, _⟩ => ⟨S4x64x128x4x64, .f32⟩
  | .hbm, ⟨15, _⟩ => ⟨S4x64x256x4x64, .f32⟩
  | .hbm, ⟨16, _⟩ => ⟨S4x64x128x4x64, .f32⟩
  | .hbm, ⟨17, _⟩ => ⟨S4x1x128x4x64, .f32⟩
  | .hbm, ⟨18, _⟩ => ⟨S_, .f32⟩
  | .hbm, ⟨19, _⟩ => ⟨S4x1x128x4x64, .f32⟩
  | .hbm, ⟨20, _⟩ => ⟨S4x63x128x4x64, .f32⟩
  | .hbm, ⟨21, _⟩ => ⟨S4x64x128x4x64, .f32⟩
  | .hbm, ⟨22, _⟩ => ⟨S4x64x256x4x64, .f32⟩
  | .hbm, ⟨23, _⟩ => ⟨S128, .i32⟩
  | .hbm, ⟨24, _⟩ => ⟨S128x1, .i32⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S64, .i32⟩
  | .hbm, ⟨34, _⟩ => ⟨S64x1x1, .i32⟩
  | .hbm, ⟨35, _⟩ => ⟨S_, .i32⟩
  | .hbm, ⟨36, _⟩ => ⟨S64x1x1, .i32⟩
  | .hbm, ⟨37, _⟩ => ⟨S64x1x1, .i32⟩
  | .hbm, ⟨38, _⟩ => ⟨S_, .i32⟩
  | .hbm, ⟨39, _⟩ => ⟨S64x1x1, .i32⟩
  | .hbm, ⟨40, _⟩ => ⟨S64x1x1, .i32⟩
  | .hbm, ⟨41, _⟩ => ⟨S1x1x256, .i32⟩
  | .hbm, ⟨42, _⟩ => ⟨S64x1x256, .i32⟩
  | .hbm, ⟨43, _⟩ => ⟨S64x1x256, .i32⟩
  | .hbm, ⟨44, _⟩ => ⟨S64x1x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S128x256, .i1⟩
  | .hbm, ⟨52, _⟩ => ⟨S_, .i32⟩
  | .hbm, ⟨53, _⟩ => ⟨S64x1x256, .i32⟩
  | .hbm, ⟨54, _⟩ => ⟨S64x1x256, .i1⟩
  | .hbm, ⟨55, _⟩ => ⟨S1x128x256, .i1⟩
  | .hbm, ⟨56, _⟩ => ⟨S64x128x256, .i1⟩
  | .hbm, ⟨57, _⟩ => ⟨S64x128x256, .i1⟩
  | .hbm, ⟨58, _⟩ => ⟨S64x128x256, .i1⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S4x4x1x1, .f32⟩
  | .hbm, ⟨73, _⟩ => ⟨S4x64x4x256x128x4, .f32⟩
  | .hbm, ⟨74, _⟩ => ⟨S4x64x4x4x128x256, .f32⟩
  | .hbm, ⟨75, _⟩ => ⟨S_, .f32⟩
  | .hbm, ⟨76, _⟩ => ⟨S4x64x4x4x128x256, .f32⟩
  | .hbm, ⟨77, _⟩ => ⟨S4x64x4x4x128x256, .f32⟩
  | .hbm, ⟨78, _⟩ => ⟨S128x256, .f32⟩
  | .hbm, ⟨79, _⟩ => ⟨S1x1x128x256, .f32⟩
  | .hbm, ⟨80, _⟩ => ⟨S4x4x128x256, .f32⟩
  | .hbm, ⟨81, _⟩ => ⟨S4x4x128x256, .f32⟩
  | .hbm, ⟨82, _⟩ => ⟨S4x4x128x256, .f32⟩
  | .hbm, ⟨83, _⟩ => ⟨S1x1x4x4x128x256, .f32⟩
  | .hbm, ⟨84, _⟩ => ⟨S4x64x4x4x128x256, .f32⟩
  | .hbm, ⟨85, _⟩ => ⟨S4x64x4x4x128x256, .f32⟩
  | .hbm, ⟨86, _⟩ => ⟨S64x1x1x128x256, .i1⟩
  | .hbm, ⟨87, _⟩ => ⟨S_, .f32⟩
  | .hbm, ⟨88, _⟩ => ⟨S_, .f32⟩
  | .hbm, ⟨89, _⟩ => ⟨S4x64x4x4x128x256, .i1⟩
  | .hbm, ⟨90, _⟩ => ⟨S4x64x4x4x128x256, .f32⟩
  | .hbm, ⟨91, _⟩ => ⟨S4x64x4x4x128x256, .f32⟩
  | .hbm, ⟨92, _⟩ => ⟨S4x4x1x1, .f32⟩
  | .hbm, ⟨93, _⟩ => ⟨S_, .f32⟩
  | .hbm, ⟨94, _⟩ => ⟨S4x64x4x4x128, .f32⟩
  | .hbm, ⟨95, _⟩ => ⟨S4x64x4x4x128x1, .f32⟩
  | .hbm, ⟨96, _⟩ => ⟨S1x1x4x4x1x1, .f32⟩
  | .hbm, ⟨97, _⟩ => ⟨S4x64x4x4x128x1, .f32⟩
  | .hbm, ⟨98, _⟩ => ⟨S4x64x4x4x128x1, .f32⟩
  | .hbm, ⟨99, _⟩ => ⟨S4x64x4x4x128x256, .f32⟩
  | .hbm, ⟨100, _⟩ => ⟨S4x64x4x4x128x256, .f32⟩
  | .hbm, ⟨101, _⟩ => ⟨S4x64x4x4x128x256, .f32⟩
  | .hbm, ⟨102, _⟩ => ⟨S_, .f32⟩
  | .hbm, ⟨103, _⟩ => ⟨S4x64x4x4x128, .f32⟩
  | .hbm, ⟨104, _⟩ => ⟨S4x64x4x4x128x1, .f32⟩
  | .hbm, ⟨105, _⟩ => ⟨S1x1x4x4x1x1, .f32⟩
  | .hbm, ⟨106, _⟩ => ⟨S4x64x4x4x128x1, .f32⟩
  | .hbm, ⟨107, _⟩ => ⟨S4x64x4x4x128x1, .f32⟩
  | .hbm, ⟨108, _⟩ => ⟨S4x64x4x4x128x1, .f32⟩
  | .hbm, ⟨109, _⟩ => ⟨S4x64x4x4x128x1, .f32⟩
  | .hbm, ⟨110, _⟩ => ⟨S4x64x4x4x128x256, .f32⟩
  | .hbm, ⟨111, _⟩ => ⟨S4x64x4x4x128x256, .f32⟩
  | .hbm, ⟨112, _⟩ => ⟨S4x64x4x64x4x128, .f32⟩
  | .hbm, ⟨113, _⟩ => ⟨S4x64x128x4x4x64, .f32⟩
  | .hbm, ⟨114, _⟩ => ⟨S32768x1024, .f32⟩
  | .hbm, ⟨115, _⟩ => ⟨S32768x1024, .bf16⟩
  | _, _ => ⟨S4x8192x4616, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c_1 : Ref sig .tc := ⟨.hbm, 35, rfl⟩
abbrev main_v30 : Ref sig .tc := ⟨.hbm, 36, rfl⟩
abbrev main_v31 : Ref sig .tc := ⟨.hbm, 37, rfl⟩
abbrev main_c_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_c_3 : Ref sig .tc := ⟨.hbm, 45, rfl⟩
abbrev main_v38 : Ref sig .tc := ⟨.hbm, 46, rfl⟩
abbrev main_v39 : Ref sig .tc := ⟨.hbm, 47, rfl⟩
abbrev main_c_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_11 : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_v72 : Ref sig .tc := ⟨.hbm, 91, rfl⟩
abbrev main_v73 : Ref sig .tc := ⟨.hbm, 92, rfl⟩
abbrev main_cst_12 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_13 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩

abbrev nD : Nat := 1
abbrev τ : Topo := Topo.v7x

variable {F : FTy → Type} [FloatOps F]
-- ==== Ffn.lean ====
abbrev S4x8192x2048 : Shape := ⟨3, ![4, 8192, 2048]⟩
abbrev S4x2048x5632 : Shape := ⟨3, ![4, 2048, 5632]⟩
abbrev S32768x2048 : Shape := ⟨2, ![32768, 2048]⟩
abbrev S32768x5632 : Shape := ⟨2, ![32768, 5632]⟩
abbrev S2048x2048 : Shape := ⟨2, ![2048, 2048]⟩
abbrev S1x2048x512 : Shape := ⟨3, ![1, 2048, 512]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S4x2048x5632, .f32⟩
  | .hbm, ⟨2, _⟩ => ⟨S4x2048x5632, .f32⟩
  | .hbm, ⟨3, _⟩ => ⟨S32768x2048, .f32⟩
  | .hbm, ⟨4, _⟩ => ⟨S32768x2048, .bf16⟩
  | .hbm, ⟨5, _⟩ => ⟨S4x2048x5632, .bf16⟩
  | .hbm, ⟨6, _⟩ => ⟨S4x2048x5632, .bf16⟩
  | .hbm, ⟨7, _⟩ => ⟨S32768x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2048x512, .bf16⟩
  | .local _ .vmem, ⟨7, _⟩ => ⟨S2048x512, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnRefIdeal.lean ====
abbrev S4x8192x2048 : Shape := ⟨3, ![4, 8192, 2048]⟩
abbrev S4x2048x5632 : Shape := ⟨3, ![4, 2048, 5632]⟩
abbrev S32768x2048 : Shape := ⟨2, ![32768, 2048]⟩
abbrev S1x2048x5632 : Shape := ⟨3, ![1, 2048, 5632]⟩
abbrev S2048x5632 : Shape := ⟨2, ![2048, 5632]⟩
abbrev S32768x5632 : Shape := ⟨2, ![32768, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048x5632, .f32⟩
  | .hbm, ⟨2, _⟩ => ⟨S4x2048x5632, .f32⟩
  | .hbm, ⟨3, _⟩ => ⟨S32768x2048, .f32⟩
  | .hbm, ⟨4, _⟩ => ⟨S1x2048x5632, .f32⟩
  | .hbm, ⟨5, _⟩ => ⟨S2048x5632, .f32⟩
  | .hbm, ⟨6, _⟩ => ⟨S32768x5632, .f32⟩
  | .hbm, ⟨7, _⟩ => ⟨S32768x5632, .f32⟩
  | .hbm, ⟨8, _⟩ => ⟨S32768x5632, .f32⟩
  | .hbm, ⟨9, _⟩ => ⟨S_, .f32⟩
  | .hbm, ⟨10, _⟩ => ⟨S32768x5632, .f32⟩
  | .hbm, ⟨11, _⟩ => ⟨S32768x5632, .f32⟩
  | .hbm, ⟨12, _⟩ => ⟨S_, .f32⟩
  | .hbm, ⟨13, _⟩ => ⟨S32768x5632, .f32⟩
  | .hbm, ⟨14, _⟩ => ⟨S32768x5632, .f32⟩
  | .hbm, ⟨15, _⟩ => ⟨S32768x5632, .f32⟩
  | .hbm, ⟨16, _⟩ => ⟨S1x2048x5632, .f32⟩
  | .hbm, ⟨17, _⟩ => ⟨S2048x5632, .f32⟩
  | .hbm, ⟨18, _⟩ => ⟨S32768x5632, .f32⟩
  | .hbm, ⟨19, _⟩ => ⟨S32768x5632, .f32⟩
  | .hbm, ⟨20, _⟩ => ⟨S32768x5632, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S4x8192x5632 : Shape := ⟨3, ![4, 8192, 5632]⟩
abbrev S4x5632x2048 : Shape := ⟨3, ![4, 5632, 2048]⟩
abbrev S4x8192x2048 : Shape := ⟨3, ![4, 8192, 2048]⟩
abbrev S2048 : Shape := ⟨1, ![2048]⟩
abbrev S32768x5632 : Shape := ⟨2, ![32768, 5632]⟩
abbrev S32768x2048 : Shape := ⟨2, ![32768, 2048]⟩
abbrev S1x2048 : Shape := ⟨2, ![1, 2048]⟩
abbrev S256x5632 : Shape := ⟨2, ![256, 5632]⟩
abbrev S1x5632x2048 : Shape := ⟨3, ![1, 5632, 2048]⟩
abbrev S256x2048 : Shape := ⟨2, ![256, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x8192x5632, .f32⟩
  | .hbm, ⟨1, _⟩ => ⟨S4x5632x2048, .f32⟩
  | .hbm, ⟨2, _⟩ => ⟨S4x8192x2048, .f32⟩
  | .hbm, ⟨3, _⟩ => ⟨S2048, .f32⟩
  | .hbm, ⟨4, _⟩ => ⟨S32768x5632, .f32⟩
  | .hbm, ⟨5, _⟩ => ⟨S32768x5632, .bf16⟩
  | .hbm, ⟨6, _⟩ => ⟨S4x5632x2048, .bf16⟩
  | .hbm, ⟨7, _⟩ => ⟨S32768x2048, .f32⟩
  | .hbm, ⟨8, _⟩ => ⟨S1x2048, .f32⟩
  | .hbm, ⟨9, _⟩ => ⟨S32768x2048, .f32⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S4x8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownRefIdeal.lean ====
abbrev S4x8192x5632 : Shape := ⟨3, ![4, 8192, 5632]⟩
abbrev S4x5632x2048 : Shape := ⟨3, ![4, 5632, 2048]⟩
abbrev S4x8192x2048 : Shape := ⟨3, ![4, 8192, 2048]⟩
abbrev S2048 : Shape := ⟨1, ![2048]⟩
abbrev S32768x2048 : Shape := ⟨2, ![32768, 2048]⟩
abbrev S32768x5632 : Shape := ⟨2, ![32768, 5632]⟩
abbrev S1x5632x2048 : Shape := ⟨3, ![1, 5632, 2048]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x5632, .f32⟩
  | .hbm, ⟨1, _⟩ => ⟨S4x5632x2048, .f32⟩
  | .hbm, ⟨2, _⟩ => ⟨S4x8192x2048, .f32⟩
  | .hbm, ⟨3, _⟩ => ⟨S2048, .f32⟩
  | .hbm, ⟨4, _⟩ => ⟨S32768x2048, .f32⟩
  | .hbm, ⟨5, _⟩ => ⟨S32768x5632, .f32⟩
  | .hbm, ⟨6, _⟩ => ⟨S1x5632x2048, .f32⟩
  | .hbm, ⟨7, _⟩ => ⟨S5632x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x2048, .f32⟩
  | .hbm, ⟨22, _⟩ => ⟨S32768x2048, .f32⟩
  | .hbm, ⟨23, _⟩ => ⟨S1x2048, .f32⟩
  | .hbm, ⟨24, _⟩ => ⟨S32768x2048, .f32⟩
  | .hbm, ⟨25, _⟩ => ⟨S32768x2048, .f32⟩
  | _, _ => ⟨S4x8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Out.lean ====
abbrev S4x8192x1024 : Shape := ⟨3, ![4, 8192, 1024]⟩
abbrev S2048x2048 : Shape := ⟨2, ![2048, 2048]⟩
abbrev S4x8192x2048 : Shape := ⟨3, ![4, 8192, 2048]⟩
abbrev S2048 : Shape := ⟨1, ![2048]⟩
abbrev S32768x1024 : Shape := ⟨2, ![32768, 1024]⟩
abbrev S32768x2048 : Shape := ⟨2, ![32768, 2048]⟩
abbrev S1x2048 : Shape := ⟨2, ![1, 2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S2048x2048, .f32⟩
  | .hbm, ⟨3, _⟩ => ⟨S4x8192x2048, .f32⟩
  | .hbm, ⟨4, _⟩ => ⟨S2048, .f32⟩
  | .hbm, ⟨5, _⟩ => ⟨S32768x1024, .f32⟩
  | .hbm, ⟨6, _⟩ => ⟨S32768x1024, .bf16⟩
  | .hbm, ⟨7, _⟩ => ⟨S32768x1024, .f32⟩
  | .hbm, ⟨8, _⟩ => ⟨S32768x1024, .bf16⟩
  | .hbm, ⟨9, _⟩ => ⟨S2048x2048, .bf16⟩
  | .hbm, ⟨10, _⟩ => ⟨S32768x2048, .f32⟩
  | .hbm, ⟨11, _⟩ => ⟨S1x2048, .f32⟩
  | .hbm, ⟨12, _⟩ => ⟨S32768x2048, .f32⟩
  | .hbm, ⟨13, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S4x8192x1024 : Shape := ⟨3, ![4, 8192, 1024]⟩
abbrev S2048x2048 : Shape := ⟨2, ![2048, 2048]⟩
abbrev S4x8192x2048 : Shape := ⟨3, ![4, 8192, 2048]⟩
abbrev S2048 : Shape := ⟨1, ![2048]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S2048x2048, .f32⟩
  | .hbm, ⟨3, _⟩ => ⟨S4x8192x2048, .f32⟩
  | .hbm, ⟨4, _⟩ => ⟨S2048, .f32⟩
  | .hbm, ⟨5, _⟩ => ⟨S4x8192x2048, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x2048, .f32⟩
  | .hbm, ⟨22, _⟩ => ⟨S32768x2048, .f32⟩
  | .hbm, ⟨23, _⟩ => ⟨S1x2048, .f32⟩
  | .hbm, ⟨24, _⟩ => ⟨S32768x2048, .f32⟩
  | .hbm, ⟨25, _⟩ => ⟨S32768x2048, .f32⟩
  | .hbm, ⟨26, _⟩ => ⟨S32768x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Odd.lean ====
abbrev S4x8192x2048 : Shape := ⟨3, ![4, 8192, 2048]⟩
abbrev S2048x2048 : Shape := ⟨2, ![2048, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S4x8192x2048, .f32⟩
  | .hbm, ⟨3, _⟩ => ⟨S2048, .f32⟩
  | .hbm, ⟨4, _⟩ => ⟨S32768x2048, .f32⟩
  | .hbm, ⟨5, _⟩ => ⟨S32768x2048, .bf16⟩
  | .hbm, ⟨6, _⟩ => ⟨S2048x2048, .bf16⟩
  | .hbm, ⟨7, _⟩ => ⟨S32768x2048, .f32⟩
  | .hbm, ⟨8, _⟩ => ⟨S1x2048, .f32⟩
  | .hbm, ⟨9, _⟩ => ⟨S32768x2048, .f32⟩
  | .hbm, ⟨10, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OddRefIdeal.lean ====
abbrev S4x8192x2048 : Shape := ⟨3, ![4, 8192, 2048]⟩
abbrev S2048x2048 : Shape := ⟨2, ![2048, 2048]⟩
abbrev S2048 : Shape := ⟨1, ![2048]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S4x8192x2048, .f32⟩
  | .hbm, ⟨3, _⟩ => ⟨S2048, .f32⟩
  | .hbm, ⟨4, _⟩ => ⟨S32768x2048, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Mid.lean ====
abbrev S4x8192x5632 : Shape := ⟨3, ![4, 8192, 5632]⟩
abbrev S4x5632x2048 : Shape := ⟨3, ![4, 5632, 2048]⟩
abbrev S4x8192x2048 : Shape := ⟨3, ![4, 8192, 2048]⟩
abbrev S2048 : Shape := ⟨1, ![2048]⟩
abbrev S32768x5632 : Shape := ⟨2, ![32768, 5632]⟩
abbrev S32768x2048 : Shape := ⟨2, ![32768, 2048]⟩
abbrev S1x2048 : Shape := ⟨2, ![1, 2048]⟩
abbrev S256x5632 : Shape := ⟨2, ![256, 5632]⟩
abbrev S1x5632x2048 : Shape := ⟨3, ![1, 5632, 2048]⟩
abbrev S256x2048 : Shape := ⟨2, ![256, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x8192x5632, .f32⟩
  | .hbm, ⟨1, _⟩ => ⟨S4x5632x2048, .f32⟩
  | .hbm, ⟨2, _⟩ => ⟨S4x8192x2048, .f32⟩
  | .hbm, ⟨3, _⟩ => ⟨S2048, .f32⟩
  | .hbm, ⟨4, _⟩ => ⟨S32768x5632, .f32⟩
  | .hbm, ⟨5, _⟩ => ⟨S32768x5632, .bf16⟩
  | .hbm, ⟨6, _⟩ => ⟨S4x5632x2048, .bf16⟩
  | .hbm, ⟨7, _⟩ => ⟨S32768x2048, .f32⟩
  | .hbm, ⟨8, _⟩ => ⟨S1x2048, .f32⟩
  | .hbm, ⟨9, _⟩ => ⟨S32768x2048, .f32⟩
  | .hbm, ⟨10, _⟩ => ⟨S32768x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4x8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MidRefIdeal.lean ====
abbrev S4x8192x5632 : Shape := ⟨3, ![4, 8192, 5632]⟩
abbrev S4x5632x2048 : Shape := ⟨3, ![4, 5632, 2048]⟩
abbrev S4x8192x2048 : Shape := ⟨3, ![4, 8192, 2048]⟩
abbrev S2048 : Shape := ⟨1, ![2048]⟩
abbrev S32768x2048 : Shape := ⟨2, ![32768, 2048]⟩
abbrev S32768x5632 : Shape := ⟨2, ![32768, 5632]⟩
abbrev S1x5632x2048 : Shape := ⟨3, ![1, 5632, 2048]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x5632, .f32⟩
  | .hbm, ⟨1, _⟩ => ⟨S4x5632x2048, .f32⟩
  | .hbm, ⟨2, _⟩ => ⟨S4x8192x2048, .f32⟩
  | .hbm, ⟨3, _⟩ => ⟨S2048, .f32⟩
  | .hbm, ⟨4, _⟩ => ⟨S32768x2048, .f32⟩
  | .hbm, ⟨5, _⟩ => ⟨S32768x5632, .f32⟩
  | .hbm, ⟨6, _⟩ => ⟨S1x5632x2048, .f32⟩
  | .hbm, ⟨7, _⟩ => ⟨S5632x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x2048, .f32⟩
  | .hbm, ⟨22, _⟩ => ⟨S32768x2048, .f32⟩
  | .hbm, ⟨23, _⟩ => ⟨S1x2048, .f32⟩
  | .hbm, ⟨24, _⟩ => ⟨S32768x2048, .f32⟩
  | .hbm, ⟨25, _⟩ => ⟨S32768x2048, .f32⟩
  | .hbm, ⟨26, _⟩ => ⟨S32768x2048, .bf16⟩
  | _, _ => ⟨S4x8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proj.lean ====
abbrev S4x8192x2048 : Shape := ⟨3, ![4, 8192, 2048]⟩
abbrev S2048 : Shape := ⟨1, ![2048]⟩
abbrev S2048x6160 : Shape := ⟨2, ![2048, 6160]⟩
abbrev S2048x6144 : Shape := ⟨2, ![2048, 6144]⟩
abbrev S2048x16 : Shape := ⟨2, ![2048, 16]⟩
abbrev S_ : Shape := ⟨0, ![]⟩
abbrev S2048x128 : Shape := ⟨2, ![2048, 128]⟩
abbrev S32768x2048 : Shape := ⟨2, ![32768, 2048]⟩
abbrev S1x6144 : Shape := ⟨2, ![1, 6144]⟩
abbrev S1x2048 : Shape := ⟨2, ![1, 2048]⟩
abbrev S32768x6144 : Shape := ⟨2, ![32768, 6144]⟩
abbrev S32768x128 : Shape := ⟨2, ![32768, 128]⟩
abbrev S2048x2048 : Shape := ⟨2, ![2048, 2048]⟩
abbrev S2048x1536 : Shape := ⟨2, ![2048, 1536]⟩
abbrev S1x1536 : Shape := ⟨2, ![1, 1536]⟩
abbrev S8x128 : Shape := ⟨2, ![8, 128]⟩
abbrev S1024x2048 : Shape := ⟨2, ![1024, 2048]⟩
abbrev S1024x1536 : Shape := ⟨2, ![1024, 1536]⟩

abbrev nBuf : Space → Nat
  | .hbm => 17
  | .vmem => 13
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x6160, .f32⟩
  | .hbm, ⟨3, _⟩ => ⟨S2048x6144, .f32⟩
  | .hbm, ⟨4, _⟩ => ⟨S2048x6144, .bf16⟩
  | .hbm, ⟨5, _⟩ => ⟨S2048x16, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x128, .bf16⟩
  | .hbm, ⟨10, _⟩ => ⟨S32768x2048, .f32⟩
  | .hbm, ⟨11, _⟩ => ⟨S32768x2048, .bf16⟩
  | .hbm, ⟨12, _⟩ => ⟨S_, .f32⟩
  | .hbm, ⟨13, _⟩ => ⟨S1x6144, .f32⟩
  | .hbm, ⟨14, _⟩ => ⟨S1x2048, .f32⟩
  | .hbm, ⟨15, _⟩ => ⟨S32768x6144, .bf16⟩
  | .hbm, ⟨16, _⟩ => ⟨S32768x128, .f32⟩
  | .local _ .vmem, ⟨0, _⟩ => ⟨S2048x2048, .bf16⟩
  | .local _ .vmem, ⟨1, _⟩ => ⟨S2048x2048, .bf16⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S1x1536, .f32⟩
  | .local _ .vmem, ⟨6, _⟩ => ⟨S1x1536, .f32⟩
  | .local _ .vmem, ⟨7, _⟩ => ⟨S2048x128, .bf16⟩
  | .local _ .vmem, ⟨8, _⟩ => ⟨S2048x1536, .bf16⟩
  | .local _ .vmem, ⟨9, _⟩ => ⟨S2048x1536, .bf16⟩
  | .local _ .vmem, ⟨10, _⟩ => ⟨S2048x128, .f32⟩
  | .local _ .vmem, ⟨11, _⟩ => ⟨S2048x128, .f32⟩
  | .local _ .vmem, ⟨12, _⟩ => ⟨S8x128, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ProjRefIdeal.lean ====
abbrev S4x8192x2048 : Shape := ⟨3, ![4, 8192, 2048]⟩
abbrev S2048 : Shape := ⟨1, ![2048]⟩
abbrev S2048x6160 : Shape := ⟨2, ![2048, 6160]⟩
abbrev S32768x2048 : Shape := ⟨2, ![32768, 2048]⟩
abbrev S32768x6160 : Shape := ⟨2, ![32768, 6160]⟩
abbrev S32768x6144 : Shape := ⟨2, ![32768, 6144]⟩
abbrev S32768x16 : Shape := ⟨2, ![32768, 16]⟩
abbrev S_ : Shape := ⟨0, ![]⟩
abbrev S32768x128 : Shape := ⟨2, ![32768, 128]⟩

abbrev nBuf : Space → Nat
  | .hbm => 11
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x6160, .f32⟩
  | .hbm, ⟨3, _⟩ => ⟨S32768x2048, .f32⟩
  | .hbm, ⟨4, _⟩ => ⟨S32768x6160, .f32⟩
  | .hbm, ⟨5, _⟩ => ⟨S32768x6144, .f32⟩
  | .hbm, ⟨6, _⟩ => ⟨S32768x6144, .bf16⟩
  | .hbm, ⟨7, _⟩ => ⟨S32768x16, .f32⟩
  | .hbm, ⟨8, _⟩ => ⟨S_, .i32⟩
  | .hbm, ⟨9, _⟩ => ⟨S_, .f32⟩
  | .hbm, ⟨10, _⟩ => ⟨S32768x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Even.lean ====
abbrev S4x8192x2048 : Shape := ⟨3, ![4, 8192, 2048]⟩
abbrev S2048 : Shape := ⟨1, ![2048]⟩
abbrev S2048x4616 : Shape := ⟨2, ![2048, 4616]⟩
abbrev S2048x1024 : Shape := ⟨2, ![2048, 1024]⟩
abbrev S2048x256 : Shape := ⟨2, ![2048, 256]⟩
abbrev S2048x512 : Shape := ⟨2, ![2048, 512]⟩
abbrev S2048x8 : Shape := ⟨2, ![2048, 8]⟩
abbrev S2048x4608 : Shape := ⟨2, ![2048, 4608]⟩
abbrev S_ : Shape := ⟨0, ![]⟩
abbrev S2048x128 : Shape := ⟨2, ![2048, 128]⟩
abbrev S32768x2048 : Shape := ⟨2, ![32768, 2048]⟩
abbrev S1x4608 : Shape := ⟨2, ![1, 4608]⟩
abbrev S1x2048 : Shape := ⟨2, ![1, 2048]⟩
abbrev S32768x4608 : Shape := ⟨2, ![32768, 4608]⟩
abbrev S32768x128 : Shape := ⟨2, ![32768, 128]⟩
abbrev S2048x2048 : Shape := ⟨2, ![2048, 2048]⟩
abbrev S2048x1536 : Shape := ⟨2, ![2048, 1536]⟩
abbrev S1x1536 : Shape := ⟨2, ![1, 1536]⟩
abbrev S8x128 : Shape := ⟨2, ![8, 128]⟩
abbrev S1024x2048 : Shape := ⟨2, ![1024, 2048]⟩
abbrev S1024x1536 : Shape := ⟨2, ![1024, 1536]⟩

abbrev nBuf : Space → Nat
  | .hbm => 24
  | .vmem => 13
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x4616, .f32⟩
  | .hbm, ⟨3, _⟩ => ⟨S2048x1024, .f32⟩
  | .hbm, ⟨4, _⟩ => ⟨S2048x256, .f32⟩
  | .hbm, ⟨5, _⟩ => ⟨S2048x256, .f32⟩
  | .hbm, ⟨6, _⟩ => ⟨S2048x512, .f32⟩
  | .hbm, ⟨7, _⟩ => ⟨S2048x512, .f32⟩
  | .hbm, ⟨8, _⟩ => ⟨S2048x1024, .f32⟩
  | .hbm, ⟨9, _⟩ => ⟨S2048x1024, .f32⟩
  | .hbm, ⟨10, _⟩ => ⟨S2048x8, .f32⟩
  | .hbm, ⟨11, _⟩ => ⟨S2048x4608, .f32⟩
  | .hbm, ⟨12, _⟩ => ⟨S2048x4608, .bf16⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x128, .bf16⟩
  | .hbm, ⟨17, _⟩ => ⟨S32768x2048, .f32⟩
  | .hbm, ⟨18, _⟩ => ⟨S32768x2048, .bf16⟩
  | .hbm, ⟨19, _⟩ => ⟨S_, .f32⟩
  | .hbm, ⟨20, _⟩ => ⟨S1x4608, .f32⟩
  | .hbm, ⟨21, _⟩ => ⟨S1x2048, .f32⟩
  | .hbm, ⟨22, _⟩ => ⟨S32768x4608, .bf16⟩
  | .hbm, ⟨23, _⟩ => ⟨S32768x128, .f32⟩
  | .local _ .vmem, ⟨0, _⟩ => ⟨S2048x2048, .bf16⟩
  | .local _ .vmem, ⟨1, _⟩ => ⟨S2048x2048, .bf16⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S1x1536, .f32⟩
  | .local _ .vmem, ⟨6, _⟩ => ⟨S1x1536, .f32⟩
  | .local _ .vmem, ⟨7, _⟩ => ⟨S2048x128, .bf16⟩
  | .local _ .vmem, ⟨8, _⟩ => ⟨S2048x1536, .bf16⟩
  | .local _ .vmem, ⟨9, _⟩ => ⟨S2048x1536, .bf16⟩
  | .local _ .vmem, ⟨10, _⟩ => ⟨S2048x128, .f32⟩
  | .local _ .vmem, ⟨11, _⟩ => ⟨S2048x128, .f32⟩
  | .local _ .vmem, ⟨12, _⟩ => ⟨S8x128, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== EvenRefIdeal.lean ====
abbrev S4x8192x2048 : Shape := ⟨3, ![4, 8192, 2048]⟩
abbrev S2048 : Shape := ⟨1, ![2048]⟩
abbrev S2048x4616 : Shape := ⟨2, ![2048, 4616]⟩
abbrev S32768x2048 : Shape := ⟨2, ![32768, 2048]⟩
abbrev S32768x4616 : Shape := ⟨2, ![32768, 4616]⟩
abbrev S32768x1024 : Shape := ⟨2, ![32768, 1024]⟩
abbrev S32768x256 : Shape := ⟨2, ![32768, 256]⟩
abbrev S32768x512 : Shape := ⟨2, ![32768, 512]⟩
abbrev S32768x8 : Shape := ⟨2, ![32768, 8]⟩
abbrev S32768x4608 : Shape := ⟨2, ![32768, 4608]⟩
abbrev S_ : Shape := ⟨0, ![]⟩
abbrev S32768x128 : Shape := ⟨2, ![32768, 128]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x4616, .f32⟩
  | .hbm, ⟨3, _⟩ => ⟨S32768x2048, .f32⟩
  | .hbm, ⟨4, _⟩ => ⟨S32768x4616, .f32⟩
  | .hbm, ⟨5, _⟩ => ⟨S32768x1024, .f32⟩
  | .hbm, ⟨6, _⟩ => ⟨S32768x256, .f32⟩
  | .hbm, ⟨7, _⟩ => ⟨S32768x256, .f32⟩
  | .hbm, ⟨8, _⟩ => ⟨S32768x512, .f32⟩
  | .hbm, ⟨9, _⟩ => ⟨S32768x512, .f32⟩
  | .hbm, ⟨10, _⟩ => ⟨S32768x1024, .f32⟩
  | .hbm, ⟨11, _⟩ => ⟨S32768x1024, .f32⟩
  | .hbm, ⟨12, _⟩ => ⟨S32768x8, .f32⟩
  | .hbm, ⟨13, _⟩ => ⟨S32768x4608, .f32⟩
  | .hbm, ⟨14, _⟩ => ⟨S32768x4608, .bf16⟩
  | .hbm, ⟨15, _⟩ => ⟨S_, .i32⟩
  | .hbm, ⟨16, _⟩ => ⟨S_, .f32⟩
  | .hbm, ⟨17, _⟩ => ⟨S32768x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== First.lean ====
abbrev S4x8192x2048 : Shape := ⟨3, ![4, 8192, 2048]⟩
abbrev S2048 : Shape := ⟨1, ![2048]⟩
abbrev S2048x4616 : Shape := ⟨2, ![2048, 4616]⟩
abbrev S2048x1024 : Shape := ⟨2, ![2048, 1024]⟩
abbrev S2048x256 : Shape := ⟨2, ![2048, 256]⟩
abbrev S2048x512 : Shape := ⟨2, ![2048, 512]⟩
abbrev S2048x8 : Shape := ⟨2, ![2048, 8]⟩
abbrev S2048x4608 : Shape := ⟨2, ![2048, 4608]⟩
abbrev S_ : Shape := ⟨0, ![]⟩
abbrev S2048x128 : Shape := ⟨2, ![2048, 128]⟩
abbrev S32768x2048 : Shape := ⟨2, ![32768, 2048]⟩
abbrev S1x4608 : Shape := ⟨2, ![1, 4608]⟩
abbrev S1x2048 : Shape := ⟨2, ![1, 2048]⟩
abbrev S32768x4608 : Shape := ⟨2, ![32768, 4608]⟩
abbrev S32768x128 : Shape := ⟨2, ![32768, 128]⟩
abbrev S1024x2048 : Shape := ⟨2, ![1024, 2048]⟩
abbrev S2048x1536 : Shape := ⟨2, ![2048, 1536]⟩
abbrev S1x1536 : Shape := ⟨2, ![1, 1536]⟩
abbrev S1024x1536 : Shape := ⟨2, ![1024, 1536]⟩
abbrev S1024x128 : Shape := ⟨2, ![1024, 128]⟩
abbrev S1024 : Shape := ⟨1, ![1024]⟩
abbrev S1024x1 : Shape := ⟨2, ![1024, 1]⟩

abbrev nBuf : Space → Nat
  | .hbm => 23
  | .vmem => 13
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x4616, .f32⟩
  | .hbm, ⟨3, _⟩ => ⟨S2048x1024, .f32⟩
  | .hbm, ⟨4, _⟩ => ⟨S2048x256, .f32⟩
  | .hbm, ⟨5, _⟩ => ⟨S2048x256, .f32⟩
  | .hbm, ⟨6, _⟩ => ⟨S2048x512, .f32⟩
  | .hbm, ⟨7, _⟩ => ⟨S2048x512, .f32⟩
  | .hbm, ⟨8, _⟩ => ⟨S2048x1024, .f32⟩
  | .hbm, ⟨9, _⟩ => ⟨S2048x1024, .f32⟩
  | .hbm, ⟨10, _⟩ => ⟨S2048x8, .f32⟩
  | .hbm, ⟨11, _⟩ => ⟨S2048x4608, .f32⟩
  | .hbm, ⟨12, _⟩ => ⟨S2048x4608, .bf16⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x128, .bf16⟩
  | .hbm, ⟨17, _⟩ => ⟨S32768x2048, .f32⟩
  | .hbm, ⟨18, _⟩ => ⟨S_, .f32⟩
  | .hbm, ⟨19, _⟩ => ⟨S1x4608, .f32⟩
  | .hbm, ⟨20, _⟩ => ⟨S1x2048, .f32⟩
  | .hbm, ⟨21, _⟩ => ⟨S32768x4608, .bf16⟩
  | .hbm, ⟨22, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S1x1536, .f32⟩
  | .local _ .vmem, ⟨6, _⟩ => ⟨S1x1536, .f32⟩
  | .local _ .vmem, ⟨7, _⟩ => ⟨S2048x128, .bf16⟩
  | .local _ .vmem, ⟨8, _⟩ => ⟨S1024x1536, .bf16⟩
  | .local _ .vmem, ⟨9, _⟩ => ⟨S1024x1536, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FirstRefIdeal.lean ====
abbrev S4x8192x2048 : Shape := ⟨3, ![4, 8192, 2048]⟩
abbrev S2048 : Shape := ⟨1, ![2048]⟩
abbrev S2048x4616 : Shape := ⟨2, ![2048, 4616]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x4616 : Shape := ⟨2, ![32768, 4616]⟩
abbrev S32768x1024 : Shape := ⟨2, ![32768, 1024]⟩
abbrev S32768x256 : Shape := ⟨2, ![32768, 256]⟩
abbrev S32768x512 : Shape := ⟨2, ![32768, 512]⟩
abbrev S32768x8 : Shape := ⟨2, ![32768, 8]⟩
abbrev S32768x4608 : Shape := ⟨2, ![32768, 4608]⟩
abbrev S32768x128 : Shape := ⟨2, ![32768, 128]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x4616, .f32⟩
  | .hbm, ⟨3, _⟩ => ⟨S32768x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S32768x4616, .f32⟩
  | .hbm, ⟨21, _⟩ => ⟨S32768x1024, .f32⟩
  | .hbm, ⟨22, _⟩ => ⟨S32768x256, .f32⟩
  | .hbm, ⟨23, _⟩ => ⟨S32768x256, .f32⟩
  | .hbm, ⟨24, _⟩ => ⟨S32768x512, .f32⟩
  | .hbm, ⟨25, _⟩ => ⟨S32768x512, .f32⟩
  | .hbm, ⟨26, _⟩ => ⟨S32768x1024, .f32⟩
  | .hbm, ⟨27, _⟩ => ⟨S32768x1024, .f32⟩
  | .hbm, ⟨28, _⟩ => ⟨S32768x8, .f32⟩
  | .hbm, ⟨29, _⟩ => ⟨S32768x4608, .f32⟩
  | .hbm, ⟨30, _⟩ => ⟨S32768x4608, .bf16⟩
  | .hbm, ⟨31, _⟩ => ⟨S_, .i32⟩
  | .hbm, ⟨32, _⟩ => ⟨S_, .f32⟩
  | .hbm, ⟨33, _⟩ => ⟨S32768x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Proof.Swa.Frames.lean ====
/- Hand-written: the frames of the sliding-window attention, and what its named constants say. -/
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel at its machine formats terminates without a fault and keeps its arguments. -/
theorem frame_Kernel : Cert.quiescent_Kernel (hKernel := Cert.Kernel.Gen.facts) :=
  fun m g _ => Cert.Kernel.Gen.frame m g

/-- The idealized kernel terminates without a fault and keeps its arguments. -/
theorem frame_KernelIdeal : Cert.quiescent_KernelIdeal (hKernelIdeal := Cert.KernelIdeal.Gen.facts) :=
  fun m g _ => Cert.KernelIdeal.Gen.frame m g

/-- The reference terminates without a fault and keeps its arguments. -/
theorem frame_ReferenceIdeal : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The precondition of the value claim takes nothing from either frame. -/
theorem frame_KernelIdeal_pre : Cert.quiescent_KernelIdeal_pre_finite (hKernelIdeal := Cert.KernelIdeal.Gen.facts)
    (hPre_finite := Cert.Pre_finite.Gen.facts) :=
  fun m g _ => Cert.KernelIdeal.Gen.frame m g
theorem frame_ReferenceIdeal_pre : Cert.quiescent_ReferenceIdeal_pre_finite (hReferenceIdeal := Cert.ReferenceIdeal.Gen.facts)
    (hPre_finite := Cert.Pre_finite.Gen.facts) :=
  fun m g _ => frame_ReferenceIdeal m g trivial

/-- Each named constant reads as its exact value where the kernel holds the rounded one. -/
theorem preserves_Kernel : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

end Cert.Proof

end
-- ==== Proof.Swa.Softmax.lean ====
/- Hand-written: the softmax with a sink, as the reference and as the kernel compute it, over the extended reals. -/
module

public import Idealize.ShloMosaic.Lib.Pointwise

@[expose] public section

noncomputable section

namespace Cert.Swa

open Idealize.ShloMosaic
open scoped BigOperators

/-- The largest of the scores of one query and its sink logit. -/
def top (s : Fin 256 → EReal) (z : EReal) : EReal := max (Finset.univ.fold max ⊥ s) z

/-- The reference's output of one query and one feature: the probabilities times the values. -/
def refOut (s : Fin 256 → EReal) (z : EReal) (v : Fin 256 → EReal) : EReal :=
  ∑ j, Ideal.div (Ideal.exp (s j - top s z)) ((∑ i, Ideal.exp (s i - top s z)) + Ideal.exp (z - top s z)) * v j

/-- The kernel's: powers of two, and one scale by the reciprocal after the product with the values. -/
def kerOut (s : Fin 256 → EReal) (z : EReal) (v : Fin 256 → EReal) : EReal :=
  (∑ j, v j * Ideal.exp2 (s j - top s z)) * Ideal.div 1 ((∑ i, Ideal.exp2 (s i - top s z)) + Ideal.exp2 (z - top s z))

/-- The factor between the two bases. -/
def c2 : ℝ := (Real.log 2)⁻¹

theorem c2_pos : 0 < c2 := inv_pos.mpr (Real.log_pos (by norm_num))

/-- Multiplication by the factor keeps maxima. -/
theorem c2_max (x y : EReal) : (c2 : EReal) * max x y = max (c2 * x) (c2 * y) :=
  Monotone.map_max (f := fun x : EReal => (c2 : EReal) * x)
    (fun _ _ h => mul_le_mul_of_nonneg_left h (EReal.coe_nonneg.mpr c2_pos.le))

theorem c2_sub (x y : EReal) : (c2 : EReal) * (x - y) = c2 * x - c2 * y := by
  rw [sub_eq_add_neg, EReal.left_distrib_of_nonneg_of_ne_top (EReal.coe_nonneg.mpr c2_pos.le) (EReal.coe_ne_top _),
    mul_neg, ← sub_eq_add_neg]

/-- Powers of two of scaled arguments are powers of `e`. -/
theorem exp2_c2 (x : EReal) : Ideal.exp2 (c2 * x) = Ideal.exp x := by
  induction x using EReal.rec with
  | bot => rw [EReal.coe_mul_bot_of_pos c2_pos]; rfl
  | top => rw [EReal.coe_mul_top_of_pos c2_pos]; rfl
  | coe r =>
    rw [← EReal.coe_mul, Ideal.exp2_coe, Ideal.exp_coe]
    congr 1
    show (2 : ℝ) ^ (c2 * r) = _
    have h : Real.log 2 ≠ 0 := (Real.log_pos (by norm_num)).ne'
    rw [Real.rpow_def_of_pos (by norm_num)]
    congr 1
    unfold c2
    field_simp

/-- The largest of scaled scores is the scaled largest. -/
theorem top_c2 (s : Fin 256 → EReal) (z : EReal) : top (fun j => c2 * s j) (c2 * z) = c2 * top s z := by
  unfold top
  rw [c2_max, ← Finset.fold_hom (op' := max) (m := fun x : EReal => (c2 : EReal) * x) (fun x y => c2_max x y)]
  rw [EReal.coe_mul_bot_of_pos c2_pos]

/-- A sum of extended reals times a nonnegative real. -/
theorem sum_mul_coe {n : ℕ} (f : Fin n → EReal) (r : ℝ) (hr : 0 ≤ r) : (∑ j, f j) * (r : EReal) = ∑ j, f j * r := by
  have : ∀ s : Finset (Fin n), (∑ j ∈ s, f j) * (r : EReal) = ∑ j ∈ s, f j * r := by
    intro s
    induction s using Finset.induction_on with
    | empty => simp
    | insert a s ha ih =>
      rw [Finset.sum_insert ha, Finset.sum_insert ha,
        EReal.right_distrib_of_nonneg_of_ne_top (EReal.coe_nonneg.mpr hr) (EReal.coe_ne_top _), ih]
  exact this _

/-- A sum of reals is a real. -/
theorem coe_sum_fin {n : ℕ} (f : Fin n → ℝ) : ∑ j, ((f j : ℝ) : EReal) = ((∑ j, f j : ℝ) : EReal) := by
  have : ∀ s : Finset (Fin n), ∑ j ∈ s, ((f j : ℝ) : EReal) = ((∑ j ∈ s, f j : ℝ) : EReal) := by
    intro s
    induction s using Finset.induction_on with
    | empty => simp
    | insert a s ha ih => rw [Finset.sum_insert ha, Finset.sum_insert ha, ih, EReal.coe_add]
  exact this _

/-- With a finite sink and no score above every real, the largest is a real. -/
theorem top_coe (s : Fin 256 → EReal) (z : ℝ) (hs : ∀ j, s j ≠ ⊤) : ∃ r : ℝ, top s z = r := by
  have h1 : top s z ≠ ⊥ := ne_bot_of_le_ne_bot (EReal.coe_ne_bot z) (le_max_right _ _)
  have h2 : top s z ≠ ⊤ := by
    refine (max_lt ?_ (EReal.coe_lt_top z)).ne
    rw [Finset.fold_max_lt]
    exact ⟨bot_lt_top, fun j _ => lt_top_iff_ne_top.mpr (hs j)⟩
  exact ⟨(top s z).toReal, (EReal.coe_toReal h2 h1).symm⟩

/-- The two softmaxes agree: scores and sink in the other base, values that may differ where a score is masked. -/
theorem kerOut_eq_refOut (s s' : Fin 256 → EReal) (z z' : EReal) (v v' : Fin 256 → EReal) (zr : ℝ) (hz : z = zr)
    (hs : ∀ j, s j ≠ ⊤) (hs' : ∀ j, s' j = c2 * s j) (hz' : z' = c2 * z) (hv : ∀ j, s j ≠ ⊥ → v' j = v j) :
    kerOut s' z' v' = refOut s z v := by
  subst hz
  obtain rfl : s' = fun j => c2 * s j := funext hs'
  subst hz'
  obtain ⟨M, hM⟩ := top_coe s zr hs
  unfold kerOut refOut
  rw [top_c2, hM]
  simp only [← c2_sub, exp2_c2]
  have he : ∀ j, ∃ e : ℝ, 0 ≤ e ∧ Ideal.exp (s j - M) = e := by
    intro j
    induction h : s j using EReal.rec with
    | bot => exact ⟨0, le_refl _, by rw [EReal.bot_sub]; rfl⟩
    | top => exact absurd h (hs j)
    | coe r => exact ⟨Real.exp (r - M), (Real.exp_pos _).le, by rw [← EReal.coe_sub, Ideal.exp_coe]⟩
  choose e he0 he using he
  have hb : ∀ j, s j = ⊥ → e j = 0 := by
    intro j hj
    have := he j
    rw [hj, EReal.bot_sub, Ideal.exp_bot] at this
    exact (EReal.coe_eq_zero.mp this.symm)
  have hD : (∑ i, Ideal.exp (s i - M)) + Ideal.exp ((zr : EReal) - M) = ((∑ i, e i + Real.exp (zr - M) : ℝ) : EReal) := by
    rw [← EReal.coe_sub, Ideal.exp_coe, EReal.coe_add, ← coe_sum_fin]
    simp only [he]
  have hpos : 0 < ∑ i, e i + Real.exp (zr - M) := add_pos_of_nonneg_of_pos (Finset.sum_nonneg fun i _ => he0 i) (Real.exp_pos _)
  rw [hD]
  simp only [he, Ideal.div_coe hpos.ne', one_mul]
  rw [sum_mul_coe _ _ (by positivity)]
  refine Finset.sum_congr rfl fun j _ => ?_
  by_cases hj : s j = ⊥
  · rw [hb j hj]; simp
  · rw [hv j hj, mul_assoc, mul_comm]

end Cert.Swa

end
-- ==== Proof.Swa.Spec.lean ====
/- Hand-written: the sliding-window attention of one query and one feature, in plain terms. -/
module

public import proofs.«01_k».proof.Proof.Swa.Softmax
public import Idealize.ShloMosaic.Lib.Pointwise

@[expose] public section

noncomputable section

namespace Cert.Swa

open Idealize.ShloMosaic
open scoped BigOperators

/-- Query `i` of block `n` sees key `j` of the two blocks before and at it. -/
abbrev vis (n : Fin 64) (i : Fin 128) (j : Fin 256) : Prop := j.val ≤ 128 + i.val ∧ i.val < j.val ∧ (n.val = 0 → 128 ≤ j.val)

/-- The distance from a key to a query. -/
def dist (i : Fin 128) (j : Fin 256) : ℝ := 128 + (i.val : ℝ) - (j.val : ℝ)

/-- The slope of head `k`: two to the power `-(k+1)/2`. -/
def slope (k : ℕ) : ℝ := (Real.sqrt (2 ^ (k + 1)))⁻¹

/-- Feature `d` of head `h` of key or value `j` of the two blocks: zero before the first block. -/
def band (a : (⟨3, ![4, 8192, 4616]⟩ : Shape).Idx → EReal) (o : ℕ) (ho : o + 256 ≤ 4616) (b : Fin 4) (n : Fin 64) (j : Fin 256) (h : Fin 4) (d : Fin 64) : EReal :=
  if hj : j.val < 128 then (if hn : n.val < 1 then 0 else a (ix3 b ⟨(n.val - 1) * 128 + j.val, by omega⟩ ⟨o + (h.val * 64 + d.val), by omega⟩))
  else a (ix3 b ⟨n.val * 128 + (j.val - 128), by omega⟩ ⟨o + (h.val * 64 + d.val), by omega⟩)

/-- Feature `d` of query `i` of block `n`. -/
def query (a : (⟨3, ![4, 8192, 4616]⟩ : Shape).Idx → EReal) (b : Fin 4) (n : Fin 64) (i : Fin 128) (h g : Fin 4) (d : Fin 64) : EReal :=
  a (ix3 b ⟨n.val * 128 + i.val, by omega⟩ ⟨h.val * 256 + g.val * 64 + d.val, by omega⟩)

/-- The score of a query and a key: their product over eight, less the slope times the distance; nothing where not seen. -/
def score (a : (⟨3, ![4, 8192, 4616]⟩ : Shape).Idx → EReal) (b : Fin 4) (n : Fin 64) (i : Fin 128) (h g : Fin 4) (j : Fin 256) : EReal :=
  if vis n i j then (∑ d, band a 1024 (by decide) b n j h d * query a b n i h g d) * ((1 / 8 : ℝ) : EReal)
    - ((slope (4 * h.val + g.val) * dist i j : ℝ) : EReal) else ⊥

/-- The attention of query `i` of block `n`, head `4h+g`, feature `d`. -/
def attn (a : (⟨3, ![4, 8192, 4616]⟩ : Shape).Idx → EReal) (z : (⟨1, ![16]⟩ : Shape).Idx → EReal) (b : Fin 4) (n : Fin 64) (i : Fin 128) (h g : Fin 4)
    (d : Fin 64) : EReal :=
  refOut (score a b n i h g) (z (ix1 ⟨4 * h.val + g.val, by omega⟩)) (fun j => band a 1280 (by decide) b n j h d)

/-- The distance as the programs' words hold it. -/
theorem dist_word (i : Fin 128) (j : Fin 256) :
    (IntOp.subi (IntOp.addi (BitVec.ofNat 32 i.val) 128#32) (BitVec.ofNat 32 j.val)).toInt = 128 + (i.val : ℤ) - (j.val : ℤ) := by
  simp only [IntOp.subi, IntOp.addi]
  rw [BitVec.toInt_eq_toNat_cond]
  simp only [BitVec.toNat_sub, BitVec.toNat_add, BitVec.toNat_ofNat]
  split <;> omega

/-- The constants the programs hold. -/
theorem bits_bot : Ideal.ofBits .f32 0xFF800000#32 = ⊥ := by
  simp [Ideal.ofBits, Ideal.ieee]
theorem bits_eighth : Ideal.ofBits .f32 0x3E000000#32 = ((1 / 8 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_neg_eight : Ideal.ofBits .f32 0xC1000000#32 = ((-8 : ℝ) : EReal) := by
  simp [Ideal.ofBits, Ideal.ieee, -EReal.coe_mul]; norm_num
theorem bits_sixteen : Ideal.ofBits .f32 0x41800000#32 = ((16 : ℝ) : EReal) := by
  simp [Ideal.ofBits, Ideal.ieee, -EReal.coe_mul]; norm_num

end Cert.Swa

end
-- ==== Proof.Swa.Group.lean ====
/- Hand-written: what one group of four heads of the sliding-window attention computes, as functions of the values read. -/
module

public import proofs.«01_k».proof.Proof.Gen.KernelIdeal.Frame
public import proofs.«01_k».proof.Proof.Swa.Spec
public import Idealize.ShloMosaic.Lib.Pointwise

@[expose] public section

set_option maxRecDepth 16384

noncomputable section

open Idealize.ShloMosaic Idealize.ShloMosaic.TcCoe Idealize.SL.Sem
open scoped BigOperators

namespace Cert.Swa.Group

open Cert.KernelIdeal Cert.KernelIdeal.Gen

/-- The row of a pair of sinks in base-two units. -/
def SROW (z0 z1 : Elt Ideal .f32) : FVec Ideal S1x256 .f32 :=
  concatenate S1x256 1 [⟨S1x128, broadcast S1x128 (Scalar.mulf z0 (Named.named κ "log2e" 0x3FB8AA3B#32))⟩,
    ⟨S1x128, broadcast S1x128 (Scalar.mulf z1 (Named.named κ "log2e" 0x3FB8AA3B#32))⟩] concatenates_S1x128_S1x128_S1x256_d1

/-- The row of largest scores and sinks. -/
def MROW (h : FVec Ideal S256x256 .f32) (s : FVec Ideal S1x256 .f32) : FVec Ideal S1x256 .f32 :=
  maximumf (shapeCast S1x256 (multiReduction .maximumf [0] S256 h 0xFF800000#32 reduces_S256x256_S256 (.inl rfl) rfl) shapeCasts_S256_S1x256) s

/-- The powers of two of the scores less the largest. -/
def EXPT (h : FVec Ideal S256x256 .f32) (t : FVec Ideal S1x256 .f32) : FVec Ideal S256x256 .f32 :=
  exp2 (subf h (broadcastTo S256x256 t broadcasts_S1x256_S256x256))

/-- One over the sum of the powers and the sink's. -/
def RECIP (e : FVec Ideal S256x256 .f32) (s t : FVec Ideal S1x256 .f32) : FVec Ideal S64x256 .f32 :=
  broadcastTo S64x256 (shapeCast S1x256 (divf (broadcast S1x256 (Scalar.ofBits .f32 0x3F800000#32))
    (addf (shapeCast S1x256 (multiReduction .add [0] S256 e 0x00000000#32 reduces_S256x256_S256 (.inl rfl) rfl) shapeCasts_S256_S1x256)
      (exp2 (subf s t)))) shapeCasts_S1x256_S1x256) broadcasts_S1x256_S64x256

/-- Two heads' powers under one another. -/
def PROBS (e e' : FVec Ideal S256x256 .f32) : FVec Ideal S512x256 .bf16 :=
  concatenate S512x256 0 [⟨S256x256, truncf .bf16 e bitsLt_bf16_f32⟩, ⟨S256x256, truncf .bf16 e' bitsLt_bf16_f32⟩] concatenates_S256x256_S256x256_S512x256_d0

/-- The values of one head twice, on the diagonal. -/
def VALS (w : FVec Ideal S64x256 .f32) : FVec Ideal S128x512 .bf16 :=
  truncf .bf16 (concatenate S128x512 0
    [⟨S64x512, concatenate S64x512 1 [⟨S64x256, w⟩, ⟨S64x256, broadcast S64x256 (Scalar.ofBits .f32 0x00000000#32)⟩] concatenates_S64x256_S64x256_S64x512_d1⟩,
     ⟨S64x512, concatenate S64x512 1 [⟨S64x256, broadcast S64x256 (Scalar.ofBits .f32 0x00000000#32)⟩, ⟨S64x256, w⟩] concatenates_S64x256_S64x256_S64x512_d1⟩]
    concatenates_S64x512_S64x512_S128x512_d0) bitsLt_bf16_f32

/-- Values times powers, over the sums. -/
def MIX (v : FVec Ideal S128x512 .bf16) (p : FVec Ideal S512x256 .bf16) (r r' : FVec Ideal S64x256 .f32) : FVec Ideal S128x256 .f32 :=
  mulf (matmul dot_S128x512_S512x256_S128x256_1_0_0_1_n_n none v p (constant S128x256 .f32 0x00000000#32))
    (concatenate S128x256 0 [⟨S64x256, r⟩, ⟨S64x256, r'⟩] concatenates_S64x256_S64x256_S128x256_d0)

/-- The upper and the lower half of a group's scores. -/
def UP (l : FVec Ideal S512x256 .f32) : FVec Ideal S256x256 .f32 := extractStridedSlice S256x256 ![0, 0] l slices_S512x256_o0_0_S256x256
def LOW (l : FVec Ideal S512x256 .f32) : FVec Ideal S256x256 .f32 := extractStridedSlice S256x256 ![256, 0] l slices_S512x256_o256_0_S256x256

/-- A group's scores: scaled products plus the biases. -/
def LOGITS (k : FVec Ideal S512x128 .f32) (q : FVec Ideal S256x128 .bf16) (b : FVec Ideal S1x1x512x256 .f32) : FVec Ideal S512x256 .f32 :=
  addf (mulf (matmul dot_S512x128_S256x128_S512x256_1_1_0_0_n_n none (truncf .bf16 k bitsLt_bf16_f32) q (constant S512x256 .f32 0x00000000#32))
    (broadcast S512x256 (Named.named κ "q_scale" 0x3E38AA3B#32))) (shapeCast S512x256 b shapeCasts_S1x1x512x256_S512x256)

/-- A group's mixed values: four heads, two rows of heads by two columns of heads. -/
def FULL (w : FVec Ideal S64x256 .f32) (l : FVec Ideal S512x256 .f32) (z0 z1 z2 z3 : Elt Ideal .f32) : FVec Ideal S128x256 .f32 :=
  MIX (VALS w)
    (PROBS (EXPT (UP l) (MROW (UP l) (SROW z0 z1))) (EXPT (LOW l) (MROW (LOW l) (SROW z2 z3))))
    (RECIP (EXPT (UP l) (MROW (UP l) (SROW z0 z1))) (SROW z0 z1) (MROW (UP l) (SROW z0 z1)))
    (RECIP (EXPT (LOW l) (MROW (LOW l) (SROW z2 z3))) (SROW z2 z3) (MROW (LOW l) (SROW z2 z3)))

/-- The two heads of the left and of the right columns, as stored. -/
def LEFT (f : FVec Ideal S128x256 .f32) : FVec Ideal S128x128 .bf16 :=
  truncf .bf16 (transpose S128x128 [1, 0] (extractStridedSlice S128x128 ![0, 0] f slices_S128x256_o0_0_S128x128) transposes_S128x128_p1_0_S128x128) bitsLt_bf16_f32
def RIGHT (f : FVec Ideal S128x256 .f32) : FVec Ideal S128x128 .bf16 :=
  truncf .bf16 (transpose S128x128 [1, 0] (extractStridedSlice S128x128 ![0, 128] f slices_S128x256_o0_128_S128x128) transposes_S128x128_p1_0_S128x128) bitsLt_bf16_f32

/-- A pair of heads' keys, rotated by a head. -/
def ROT (x : FVec Ideal S256x128 .f32) : FVec Ideal S256x128 .f32 := dynamicRotate 1 64#32 none x rotates_S256x128_d1

/-- One head's keys, on the left lanes and below on the right lanes. -/
def KEYS (x y : FVec Ideal S256x128 .f32) : FVec Ideal S512x128 .f32 :=
  concatenate S512x128 0 [⟨S256x128, select k0_pay30 x (broadcast S256x128 (Scalar.ofBits .f32 0x00000000#32))⟩,
    ⟨S256x128, select k0_pay30 (broadcast S256x128 (Scalar.ofBits .f32 0x00000000#32)) y⟩] concatenates_S256x128_S256x128_S512x128_d0

/-- The left and the right pair of heads of the keys. -/
def KL (k : FVec Ideal S256x256 .f32) : FVec Ideal S256x128 .f32 := extractStridedSlice S256x128 ![0, 0] k slices_S256x256_o0_0_S256x128
def KR (k : FVec Ideal S256x256 .f32) : FVec Ideal S256x128 .f32 := extractStridedSlice S256x128 ![0, 128] k slices_S256x256_o0_128_S256x128

/-- The one-over-log-two constant. -/
theorem log2e_val : (Named.named κ "log2e" 0x3FB8AA3B#32 : Ideal .f32) = ((c2 : ℝ) : EReal) :=
  IdealRules.named_const.ideal_named_scalar _ _ _ _ rfl

/-- The query scale. -/
theorem q_scale_val : (Named.named κ "q_scale" 0x3E38AA3B#32 : Ideal .f32) = ((c2 / 8 : ℝ) : EReal) := by
  refine (IdealRules.named_const.ideal_named_scalar _ _ _ _ rfl).trans ?_
  refine congrArg Real.toEReal ?_
  unfold c2
  rw [mul_inv]; ring

/-- A lane number against sixty-four, as words. -/
theorem lane_word (u : Fin 128) : IntOp.cmpi CmpIPredicate.slt (BitVec.ofNat 32 u.val) 64#32 = if u.val < 64 then 1#1 else 0#1 := by
  have e : (BitVec.ofNat 32 u.val).toInt = (u.val : ℤ) := by
    rw [BitVec.toInt_eq_toNat_cond, BitVec.toNat_ofNat]
    split <;> omega
  have e' : (64#32).toInt = 64 := by decide
  simp only [IntOp.cmpi, BitVec.slt_eq_decide, e, e']
  by_cases h : u.val < 64
  · rw [if_pos h, decide_eq_true (by omega)]; rfl
  · rw [if_neg h, decide_eq_false (by omega)]; rfl

/-- The sinks' row, at an entry of the left and of the right columns. -/
theorem srow_left (z0 z1 : Elt Ideal .f32) (x : Fin 128) : SROW z0 z1 (ix2 0 ⟨x.val, by omega⟩) = z0 * (c2 : EReal) := by
  pointwise [SROW]
  rw [log2e_val]
theorem srow_right (z0 z1 : Elt Ideal .f32) (x : Fin 128) : SROW z0 z1 (ix2 0 ⟨128 + x.val, by omega⟩) = z1 * (c2 : EReal) := by
  pointwise [SROW]
  rw [log2e_val]

/-- The row of the largest, at an entry. -/
theorem mrow_at (h : FVec Ideal S256x256 .f32) (s : FVec Ideal S1x256 .f32) (x : Fin 256) :
    MROW h s (ix2 0 x) = max (Finset.univ.fold max ⊥ fun j => h (ix2 j x)) (s (ix2 0 x)) := by
  pointwise [MROW]
  rw [bits_bot]

/-- A power of two, at an entry. -/
theorem expt_at (h : FVec Ideal S256x256 .f32) (t : FVec Ideal S1x256 .f32) (j x : Fin 256) :
    EXPT h t (ix2 j x) = Ideal.exp2 (h (ix2 j x) - t (ix2 0 x)) := by
  pointwise [EXPT]
  rfl

/-- One over the sum, at an entry. -/
theorem recip_at (e : FVec Ideal S256x256 .f32) (s t : FVec Ideal S1x256 .f32) (d : Fin 64) (x : Fin 256) :
    RECIP e s t (ix2 d x) = Ideal.div 1 ((∑ j, e (ix2 j x)) + Ideal.exp2 (s (ix2 0 x) - t (ix2 0 x))) := by
  pointwise [RECIP]
  rfl

/-- The mixed values, in the upper rows. -/
theorem mix_up (w : FVec Ideal S64x256 .f32) (e e' : FVec Ideal S256x256 .f32) (r r' : FVec Ideal S64x256 .f32) (d : Fin 64) (x : Fin 256) :
    MIX (VALS w) (PROBS e e') r r' (ix2 ⟨d.val, by omega⟩ x) = (∑ j, w (ix2 d j) * e (ix2 j x)) * r (ix2 d x) := by
  pointwise [MIX, VALS, PROBS]
  simp only [zero_mul, Finset.sum_const_zero, add_zero]

/-- The mixed values, in the lower rows. -/
theorem mix_low (w : FVec Ideal S64x256 .f32) (e e' : FVec Ideal S256x256 .f32) (r r' : FVec Ideal S64x256 .f32) (d : Fin 64) (x : Fin 256) :
    MIX (VALS w) (PROBS e e') r r' (ix2 ⟨64 + d.val, by omega⟩ x) = (∑ j, w (ix2 d j) * e' (ix2 j x)) * r' (ix2 d x) := by
  pointwise [MIX, VALS, PROBS]
  simp only [zero_mul, Finset.sum_const_zero, zero_add]

theorem up_at (l : FVec Ideal S512x256 .f32) (j x : Fin 256) : UP l (ix2 j x) = l (ix2 ⟨j.val, by omega⟩ x) := by
  pointwise [UP]
theorem low_at (l : FVec Ideal S512x256 .f32) (j x : Fin 256) : LOW l (ix2 j x) = l (ix2 ⟨256 + j.val, by omega⟩ x) := by
  pointwise [LOW]
theorem left_at (f : FVec Ideal S128x256 .f32) (r s : Fin 128) : LEFT f (ix2 r s) = f (ix2 s ⟨r.val, by omega⟩) := by
  pointwise [LEFT]
theorem right_at (f : FVec Ideal S128x256 .f32) (r s : Fin 128) : RIGHT f (ix2 r s) = f (ix2 s ⟨128 + r.val, by omega⟩) := by
  pointwise [RIGHT]
theorem kl_at (k : FVec Ideal S256x256 .f32) (j : Fin 256) (u : Fin 128) : KL k (ix2 j u) = k (ix2 j ⟨u.val, by omega⟩) := by
  pointwise [KL]
theorem kr_at (k : FVec Ideal S256x256 .f32) (j : Fin 256) (u : Fin 128) : KR k (ix2 j u) = k (ix2 j ⟨128 + u.val, by omega⟩) := by
  pointwise [KR]
theorem rot_at (x : FVec Ideal S256x128 .f32) (j : Fin 256) (u : Fin 128) : ROT x (ix2 j u) = x (ix2 j ⟨(u.val + 128 - 64) % 128, Nat.mod_lt _ (by decide)⟩) := by
  pointwise [ROT]

theorem keys_up (x y : FVec Ideal S256x128 .f32) (j : Fin 256) (u : Fin 128) :
    KEYS x y (ix2 ⟨j.val, by omega⟩ u) = if u.val < 64 then x (ix2 j u) else 0 := by
  pointwise [KEYS, k0_pay30]
  rw [lane_word]
  by_cases h : u.val < 64
  · rw [if_pos h, if_pos h]; rfl
  · rw [if_neg h, if_neg h]; rfl
theorem keys_low (x y : FVec Ideal S256x128 .f32) (j : Fin 256) (u : Fin 128) :
    KEYS x y (ix2 ⟨256 + j.val, by omega⟩ u) = if u.val < 64 then 0 else y (ix2 j u) := by
  pointwise [KEYS, k0_pay30]
  rw [lane_word]
  by_cases h : u.val < 64
  · rw [if_pos h, if_pos h]; rfl
  · rw [if_neg h, if_neg h]; rfl

/-- A score, at an entry. -/
theorem logits_at (k : FVec Ideal S512x128 .f32) (q : FVec Ideal S256x128 .bf16) (b : FVec Ideal S1x1x512x256 .f32) (r : Fin 512) (x : Fin 256) :
    LOGITS k q b (ix2 r x) = (∑ u : Fin 128, k (ix2 r u) * q (ix2 x u)) * ((c2 / 8 : ℝ) : EReal) + b (ix4 0 0 r x) := by
  pointwise [LOGITS]
  rw [q_scale_val]

/-- The products of the upper keys with a query use its left lanes. -/
theorem sum_up (x y : FVec Ideal S256x128 .f32) (q : Fin 128 → EReal) (j : Fin 256) :
    (∑ u : Fin 128, KEYS x y (ix2 ⟨j.val, by omega⟩ u) * q u) = ∑ e : Fin 64, x (ix2 j ⟨e.val, by omega⟩) * q ⟨e.val, by omega⟩ := by
  simp only [keys_up]
  rw [Fin.sum_univ_two_halves 64 64 rfl]
  have h0 : ∀ k : Fin 64, ¬(64 + k.val < 64) := fun k => by omega
  simp only [Fin.is_lt, if_true, h0, if_false, zero_mul, Finset.sum_const_zero, add_zero]

/-- The products of the lower keys with a query use its right lanes. -/
theorem sum_low (x y : FVec Ideal S256x128 .f32) (q : Fin 128 → EReal) (j : Fin 256) :
    (∑ u : Fin 128, KEYS x y (ix2 ⟨256 + j.val, by omega⟩ u) * q u) = ∑ e : Fin 64, y (ix2 j ⟨64 + e.val, by omega⟩) * q ⟨64 + e.val, by omega⟩ := by
  simp only [keys_low]
  rw [Fin.sum_univ_two_halves 64 64 rfl]
  have h0 : ∀ k : Fin 64, ¬(64 + k.val < 64) := fun k => by omega
  simp only [Fin.is_lt, if_true, h0, if_false, zero_mul, Finset.sum_const_zero, zero_add]

/-- The kernel's attention of one query, head and feature. -/
def head (k : Fin 256 → Fin 64 → EReal) (q : Fin 64 → EReal) (b : Fin 256 → EReal) (z : EReal) (v : Fin 256 → EReal) : EReal :=
  kerOut (fun j => (∑ e, k j e * q e) * ((c2 / 8 : ℝ) : EReal) + b j) (z * (c2 : EReal)) v

/-- A group's output for its upper heads. -/
theorem full_up (w : FVec Ideal S64x256 .f32) (l : FVec Ideal S512x256 .f32) (z0 z1 z2 z3 : Elt Ideal .f32) (d : Fin 64) (x : Fin 256) :
    FULL w l z0 z1 z2 z3 (ix2 ⟨d.val, by omega⟩ x) = kerOut (fun j => l (ix2 ⟨j.val, by omega⟩ x)) (SROW z0 z1 (ix2 0 x)) (fun j => w (ix2 d j)) := by
  unfold FULL
  rw [mix_up]
  simp only [recip_at, expt_at, mrow_at, up_at]
  rfl

/-- A group's output for its lower heads. -/
theorem full_low (w : FVec Ideal S64x256 .f32) (l : FVec Ideal S512x256 .f32) (z0 z1 z2 z3 : Elt Ideal .f32) (d : Fin 64) (x : Fin 256) :
    FULL w l z0 z1 z2 z3 (ix2 ⟨64 + d.val, by omega⟩ x) = kerOut (fun j => l (ix2 ⟨256 + j.val, by omega⟩ x)) (SROW z2 z3 (ix2 0 x)) (fun j => w (ix2 d j)) := by
  unfold FULL
  rw [mix_low]
  simp only [recip_at, expt_at, mrow_at, low_at]
  rfl

/-- The queries of a pair of column blocks. -/
def QS (a b : Vec Ideal S128x128 .bf16) : FVec Ideal S256x128 .bf16 :=
  concatenate S256x128 0 [⟨S128x128, shapeCast S128x128 a shapeCasts_S128x128_S128x128⟩, ⟨S128x128, shapeCast S128x128 b shapeCasts_S128x128_S128x128⟩]
    concatenates_S128x128_S128x128_S256x128_d0

theorem qs_left (a b : Vec Ideal S128x128 .bf16) (r u : Fin 128) : QS a b (ix2 ⟨r.val, by omega⟩ u) = a (ix2 r u) := by
  pointwise [QS]
theorem qs_right (a b : Vec Ideal S128x128 .bf16) (r u : Fin 128) : QS a b (ix2 ⟨128 + r.val, by omega⟩ u) = b (ix2 r u) := by
  pointwise [QS]

section Tiles
variable (x y : FVec Ideal S256x128 .f32) (a b : Vec Ideal S128x128 .bf16) (w : FVec Ideal S64x256 .f32) (s : FVec Ideal S1x1x512x256 .f32)
  (z0 z1 z2 z3 : Elt Ideal .f32) (r : Fin 128) (d : Fin 64)

/-- A group's four heads, as its two tiles are stored. -/
theorem tile_00 : LEFT (FULL w (LOGITS (KEYS x y) (QS a b) s) z0 z1 z2 z3) (ix2 r ⟨d.val, by omega⟩)
    = head (fun j e => x (ix2 j ⟨e.val, by omega⟩)) (fun e => a (ix2 r ⟨e.val, by omega⟩)) (fun j => s (ix4 0 0 ⟨j.val, by omega⟩ ⟨r.val, by omega⟩)) z0
      (fun j => w (ix2 d j)) := by
  rw [left_at, full_up, srow_left]
  simp only [logits_at, qs_left, sum_up x y fun u => a (ix2 r u)]
  rfl
theorem tile_01 : LEFT (FULL w (LOGITS (KEYS x y) (QS a b) s) z0 z1 z2 z3) (ix2 r ⟨64 + d.val, by omega⟩)
    = head (fun j e => y (ix2 j ⟨64 + e.val, by omega⟩)) (fun e => a (ix2 r ⟨64 + e.val, by omega⟩)) (fun j => s (ix4 0 0 ⟨256 + j.val, by omega⟩ ⟨r.val, by omega⟩)) z2
      (fun j => w (ix2 d j)) := by
  rw [left_at, full_low, srow_left]
  simp only [logits_at, qs_left, sum_low x y fun u => a (ix2 r u)]
  rfl
theorem tile_10 : RIGHT (FULL w (LOGITS (KEYS x y) (QS a b) s) z0 z1 z2 z3) (ix2 r ⟨d.val, by omega⟩)
    = head (fun j e => x (ix2 j ⟨e.val, by omega⟩)) (fun e => b (ix2 r ⟨e.val, by omega⟩)) (fun j => s (ix4 0 0 ⟨j.val, by omega⟩ ⟨128 + r.val, by omega⟩)) z1
      (fun j => w (ix2 d j)) := by
  rw [right_at, full_up, srow_right]
  simp only [logits_at, qs_right, sum_up x y fun u => b (ix2 r u)]
  rfl
theorem tile_11 : RIGHT (FULL w (LOGITS (KEYS x y) (QS a b) s) z0 z1 z2 z3) (ix2 r ⟨64 + d.val, by omega⟩)
    = head (fun j e => y (ix2 j ⟨64 + e.val, by omega⟩)) (fun e => b (ix2 r ⟨64 + e.val, by omega⟩)) (fun j => s (ix4 0 0 ⟨256 + j.val, by omega⟩ ⟨128 + r.val, by omega⟩)) z3
      (fun j => w (ix2 d j)) := by
  rw [right_at, full_low, srow_right]
  simp only [logits_at, qs_right, sum_low x y fun u => b (ix2 r u)]
  rfl
end Tiles

/-- Two blocks of keys, at an entry. -/
theorem keys_at (kp kc : Vec Ideal S128x256 .bf16) (j f : Fin 256) :
    k0_pay28 kp kc (ix2 j f) = if hj : j.val < 128 then kp (ix2 ⟨j.val, hj⟩ f) else kc (ix2 ⟨j.val - 128, by omega⟩ f) := by
  pointwise [k0_pay28]

/-- Two blocks of values, turned, at an entry. -/
theorem vals_at (vp vc : Vec Ideal S128x256 .bf16) (f j : Fin 256) :
    k0_pay29 vp vc (ix2 f j) = if hj : j.val < 128 then vp (ix2 ⟨j.val, hj⟩ f) else vc (ix2 ⟨j.val - 128, by omega⟩ f) := by
  pointwise [k0_pay29]

/-- The four heads' values. -/
def W0 (v : FVec Ideal S256x256 .f32) : FVec Ideal S64x256 .f32 := extractStridedSlice S64x256 ![0, 0] v slices_S256x256_o0_0_S64x256
def W1 (v : FVec Ideal S256x256 .f32) : FVec Ideal S64x256 .f32 := extractStridedSlice S64x256 ![64, 0] v slices_S256x256_o64_0_S64x256
def W2 (v : FVec Ideal S256x256 .f32) : FVec Ideal S64x256 .f32 := extractStridedSlice S64x256 ![128, 0] v slices_S256x256_o128_0_S64x256
def W3 (v : FVec Ideal S256x256 .f32) : FVec Ideal S64x256 .f32 := extractStridedSlice S64x256 ![192, 0] v slices_S256x256_o192_0_S64x256

theorem w0_at (v : FVec Ideal S256x256 .f32) (d : Fin 64) (j : Fin 256) : W0 v (ix2 d j) = v (ix2 ⟨d.val, by omega⟩ j) := by
  pointwise [W0]
theorem w1_at (v : FVec Ideal S256x256 .f32) (d : Fin 64) (j : Fin 256) : W1 v (ix2 d j) = v (ix2 ⟨64 + d.val, by omega⟩ j) := by
  pointwise [W1]
theorem w2_at (v : FVec Ideal S256x256 .f32) (d : Fin 64) (j : Fin 256) : W2 v (ix2 d j) = v (ix2 ⟨128 + d.val, by omega⟩ j) := by
  pointwise [W2]
theorem w3_at (v : FVec Ideal S256x256 .f32) (d : Fin 64) (j : Fin 256) : W3 v (ix2 d j) = v (ix2 ⟨192 + d.val, by omega⟩ j) := by
  pointwise [W3]

section Stored
variable (kp kc vp vc : Vec Ideal S128x256 .bf16) (a b : Vec Ideal S128x128 .bf16) (s : Vec Ideal S1x1x512x256 .f32) (z0 z1 z2 z3 : Elt Ideal .f32)

/-- The output of each group of heads. -/
abbrev G0 : FVec Ideal S128x256 .f32 := FULL (W0 (k0_pay29 vp vc)) (LOGITS (KEYS (KL (k0_pay28 kp kc)) (ROT (KL (k0_pay28 kp kc)))) (QS a b) s) z0 z1 z2 z3
abbrev G1 : FVec Ideal S128x256 .f32 := FULL (W1 (k0_pay29 vp vc)) (LOGITS (KEYS (ROT (KL (k0_pay28 kp kc))) (KL (k0_pay28 kp kc))) (QS a b) s) z0 z1 z2 z3
abbrev G2 : FVec Ideal S128x256 .f32 := FULL (W2 (k0_pay29 vp vc)) (LOGITS (KEYS (KR (k0_pay28 kp kc)) (ROT (KR (k0_pay28 kp kc)))) (QS a b) s) z0 z1 z2 z3
abbrev G3 : FVec Ideal S128x256 .f32 := FULL (W3 (k0_pay29 vp vc)) (LOGITS (KEYS (ROT (KR (k0_pay28 kp kc))) (KR (k0_pay28 kp kc))) (QS a b) s) z0 z1 z2 z3

/-- What each store of the kernel holds. -/
theorem store_00 : k0_pay94 (k0_pay29 vp vc)
    (k0_pay49 (k0_pay43 (k0_pay33 (k0_pay31 a b) (k0_pay32 kp kc)) s z0 z1) (k0_pay45 (k0_pay33 (k0_pay31 a b) (k0_pay32 kp kc)) s) z2 z3)
    (k0_pay50 (k0_pay44 (k0_pay33 (k0_pay31 a b) (k0_pay32 kp kc)) s z0 z1) (k0_pay45 (k0_pay33 (k0_pay31 a b) (k0_pay32 kp kc)) s) z2 z3)
    = LEFT (G0 kp kc vp vc a b s z0 z1 z2 z3) := rfl
theorem store_01 : k0_pay95 (k0_pay29 vp vc) (k0_pay49 (k0_pay43 (k0_pay33 (k0_pay31 a b) (k0_pay32 kp kc)) s z0 z1) (k0_pay45 (k0_pay33 (k0_pay31 a b) (k0_pay32 kp kc)) s) z2 z3) (k0_pay50 (k0_pay44 (k0_pay33 (k0_pay31 a b) (k0_pay32 kp kc)) s z0 z1) (k0_pay45 (k0_pay33 (k0_pay31 a b) (k0_pay32 kp kc)) s) z2 z3)
    = RIGHT (G0 kp kc vp vc a b s z0 z1 z2 z3) := rfl
theorem store_10 : k0_pay97 (k0_pay29 vp vc) (k0_pay61 (k0_pay51 (k0_pay34 (k0_pay28 kp kc) k0_pay30 a b) s) (k0_pay55 (k0_pay34 (k0_pay28 kp kc) k0_pay30 a b) s z0 z1) z2 z3) (k0_pay62 (k0_pay51 (k0_pay34 (k0_pay28 kp kc) k0_pay30 a b) s) (k0_pay53 z0 z1) (k0_pay54 (k0_pay34 (k0_pay28 kp kc) k0_pay30 a b) s z0 z1) (k0_pay56 (k0_pay34 (k0_pay28 kp kc) k0_pay30 a b) s z0 z1) z2 z3)
    = LEFT (G1 kp kc vp vc a b s z0 z1 z2 z3) := rfl
theorem store_11 : k0_pay98 (k0_pay29 vp vc) (k0_pay61 (k0_pay51 (k0_pay34 (k0_pay28 kp kc) k0_pay30 a b) s) (k0_pay55 (k0_pay34 (k0_pay28 kp kc) k0_pay30 a b) s z0 z1) z2 z3) (k0_pay62 (k0_pay51 (k0_pay34 (k0_pay28 kp kc) k0_pay30 a b) s) (k0_pay53 z0 z1) (k0_pay54 (k0_pay34 (k0_pay28 kp kc) k0_pay30 a b) s z0 z1) (k0_pay56 (k0_pay34 (k0_pay28 kp kc) k0_pay30 a b) s z0 z1) z2 z3)
    = RIGHT (G1 kp kc vp vc a b s z0 z1 z2 z3) := rfl
theorem store_20 : k0_pay2 (k0_pay74 (k0_pay63 (k0_pay35 (k0_pay28 kp kc) k0_pay30 a b) s) (k0_pay64 (k0_pay35 (k0_pay28 kp kc) k0_pay30 a b) s) (k0_pay65 z0) (k0_pay66 z1) z2 z3) (k0_pay75 (k0_pay63 (k0_pay35 (k0_pay28 kp kc) k0_pay30 a b) s) (k0_pay64 (k0_pay35 (k0_pay28 kp kc) k0_pay30 a b) s) (k0_pay65 z0) (k0_pay66 z1) z2 z3) (k0_pay99 (k0_pay29 vp vc))
    = LEFT (G2 kp kc vp vc a b s z0 z1 z2 z3) := rfl
theorem store_21 : k0_pay3 (k0_pay74 (k0_pay63 (k0_pay35 (k0_pay28 kp kc) k0_pay30 a b) s) (k0_pay64 (k0_pay35 (k0_pay28 kp kc) k0_pay30 a b) s) (k0_pay65 z0) (k0_pay66 z1) z2 z3) (k0_pay75 (k0_pay63 (k0_pay35 (k0_pay28 kp kc) k0_pay30 a b) s) (k0_pay64 (k0_pay35 (k0_pay28 kp kc) k0_pay30 a b) s) (k0_pay65 z0) (k0_pay66 z1) z2 z3) (k0_pay99 (k0_pay29 vp vc))
    = RIGHT (G2 kp kc vp vc a b s z0 z1 z2 z3) := rfl
theorem store_30 : k0_pay5 (k0_pay29 vp vc) (k0_pay91 (k0_pay82 (k0_pay37 (k0_pay28 kp kc) k0_pay30 (k0_pay36 a) b) (k0_pay76 s) z0 z1) (k0_pay89 (k0_pay37 (k0_pay28 kp kc) k0_pay30 (k0_pay36 a) b) (k0_pay76 s) z2 z3)) (k0_pay92 (k0_pay83 (k0_pay37 (k0_pay28 kp kc) k0_pay30 (k0_pay36 a) b) (k0_pay76 s) z0 z1) (k0_pay88 (k0_pay37 (k0_pay28 kp kc) k0_pay30 (k0_pay36 a) b) (k0_pay76 s) z2 z3) k0_pay90)
    = LEFT (G3 kp kc vp vc a b s z0 z1 z2 z3) := rfl
theorem store_31 : k0_pay6 (k0_pay29 vp vc) (k0_pay91 (k0_pay82 (k0_pay37 (k0_pay28 kp kc) k0_pay30 (k0_pay36 a) b) (k0_pay76 s) z0 z1) (k0_pay89 (k0_pay37 (k0_pay28 kp kc) k0_pay30 (k0_pay36 a) b) (k0_pay76 s) z2 z3)) (k0_pay92 (k0_pay83 (k0_pay37 (k0_pay28 kp kc) k0_pay30 (k0_pay36 a) b) (k0_pay76 s) z0 z1) (k0_pay88 (k0_pay37 (k0_pay28 kp kc) k0_pay30 (k0_pay36 a) b) (k0_pay76 s) z2 z3) k0_pay90)
    = RIGHT (G3 kp kc vp vc a b s z0 z1 z2 z3) := rfl
end Stored

end Cert.Swa.Group

end
-- ==== Proof.Swa.Bias.lean ====
/- Hand-written: the table of biases the first point of the sliding-window attention stores, and what it holds. -/
module

public import proofs.«01_k».proof.Proof.Gen.KernelIdeal.Frame
public import proofs.«01_k».proof.Proof.Swa.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Swa.Bias

open Cert.KernelIdeal Cert.KernelIdeal.Gen

/-- A constant the kernel holds by name. -/
abbrev NM (n : String) (b : BitVec 32) : Elt Ideal .f32 := Named.named (F := Ideal) (φ := .f32) κ n b

/-- One head's biases: the slope times the distance where the mask holds. -/
def SEL (p : IVec S256x128 1) (s : Elt Ideal .f32) : FVec Ideal S256x128 .f32 :=
  select p (mulf (broadcast S256x128 s) (k0_pay9 (F := Ideal))) (broadcast S256x128 (Scalar.ofBits .f32 0xFF800000#32))

/-- Four heads' biases, in two rows and two columns. -/
def BIAS (p : IVec S256x128 1) (s0 s1 s2 s3 : Elt Ideal .f32) : FVec Ideal S1x1x512x256 .f32 :=
  shapeCast S1x1x512x256 (concatenate S512x256 0
    [⟨S256x256, concatenate S256x256 1 [⟨S256x128, SEL p s0⟩, ⟨S256x128, SEL p s2⟩] concatenates_S256x128_S256x128_S256x256_d1⟩,
     ⟨S256x256, concatenate S256x256 1 [⟨S256x128, SEL p s1⟩, ⟨S256x128, SEL p s3⟩] concatenates_S256x128_S256x128_S256x256_d1⟩]
    concatenates_S256x256_S256x256_S512x256_d0) shapeCasts_S512x256_S1x1x512x256

/-- The mask of the first block: no key before it. -/
def FIRST : IVec S256x128 1 :=
  andi k0_pay8 (cmpi .sge (iota .tc S256x128 32 [0] iota_S256x128_d0_w32) (broadcast S256x128 128#32))

/-- The bias of key `j` and query `r` for head `k`; at `w = 0` in the first block. -/
def bias (w k : ℕ) (j : Fin 256) (r : Fin 128) : EReal :=
  if j.val ≤ 128 + r.val ∧ r.val < j.val ∧ (w = 0 → 128 ≤ j.val) then ((-(c2 * slope k) * dist r j : ℝ) : EReal) else ⊥

/-- The table. -/
def TAB (y : S2x4x512x256.Idx) : EReal :=
  bias (y 0).val (4 * (y 1).val + 2 * ((y 3).val / 128) + (y 2).val / 256) ⟨(y 2).val % 256, Nat.mod_lt _ (by decide)⟩ ⟨(y 3).val % 128, Nat.mod_lt _ (by decide)⟩

/-- A word's distance, as its value. -/
theorem dist_at (j : Fin 256) (r : Fin 128) : k0_pay9 (F := Ideal) (ix2 j r) = ((dist r j : ℝ) : EReal) := by
  have e : k0_pay7 (ix2 j r) = IntOp.subi (IntOp.addi (BitVec.ofNat 32 r.val) 128#32) (BitVec.ofNat 32 j.val) := by
    pointwise [k0_pay7]
  have e' : k0_pay9 (F := Ideal) (ix2 j r) = FloatOps.sitofp (F := Ideal) .f32 (k0_pay7 (ix2 j r)) := by
    pointwise [k0_pay9]
  rw [e', e]
  show ((((IntOp.subi (IntOp.addi (BitVec.ofNat 32 r.val) 128#32) (BitVec.ofNat 32 j.val)).toInt : ℤ) : ℝ) : EReal) = _
  rw [dist_word]
  unfold dist
  push_cast
  rfl

/-- Two truth values as words, joined. -/
theorem and2 (p q : Prop) [Decidable p] [Decidable q] :
    BitVec.ofBool (decide p) &&& BitVec.ofBool (decide q) = if p ∧ q then 1#1 else 0#1 := by
  by_cases hp : p <;> by_cases hq : q <;> simp [hp, hq]
theorem and3 (p q r : Prop) [Decidable p] [Decidable q] [Decidable r] :
    BitVec.ofBool (decide p) &&& BitVec.ofBool (decide q) &&& BitVec.ofBool (decide r) = if p ∧ q ∧ r then 1#1 else 0#1 := by
  by_cases hp : p <;> by_cases hq : q <;> by_cases hr : r <;> simp [hp, hq, hr]

/-- The mask of every later block, at an entry. -/
theorem later_at (j : Fin 256) (r : Fin 128) :
    k0_pay8 (ix2 j r) = if j.val ≤ 128 + r.val ∧ r.val < j.val ∧ (1 = 0 → 128 ≤ j.val) then 1#1 else 0#1 := by
  pointwise [k0_pay8, k0_pay7]
  have h1 := dist_word r j
  have z0 : (0#32).toInt = 0 := by decide
  have z1 : (128#32).toInt = 128 := by decide
  simp only [IntOp.cmpi, IntOp.andi, BitVec.sle_eq_decide, BitVec.slt_eq_decide, h1, z0, z1]
  have d1 : decide ((0 : ℤ) ≤ 128 + (r.val : ℤ) - (j.val : ℤ)) = decide (j.val ≤ 128 + r.val) := decide_eq_decide.2 (by omega)
  have d2 : decide (128 + (r.val : ℤ) - (j.val : ℤ) < 128) = decide (r.val < j.val ∧ (1 = 0 → 128 ≤ j.val)) := decide_eq_decide.2 (by omega)
  rw [d1, d2]
  refine (and2 (j.val ≤ 128 + r.val) (r.val < j.val ∧ (1 = 0 → 128 ≤ j.val))).trans ?_
  simp only [one_ne_zero]

/-- The mask of the first block, at an entry. -/
theorem first_at (j : Fin 256) (r : Fin 128) :
    FIRST (ix2 j r) = if j.val ≤ 128 + r.val ∧ r.val < j.val ∧ (0 = 0 → 128 ≤ j.val) then 1#1 else 0#1 := by
  pointwise [FIRST, k0_pay8, k0_pay7]
  have h1 := dist_word r j
  have h2 : (BitVec.ofNat 32 j.val).toInt = (j.val : ℤ) := by
    rw [BitVec.toInt_eq_toNat_cond, BitVec.toNat_ofNat]; split <;> omega
  have z0 : (0#32).toInt = 0 := by decide
  have z1 : (128#32).toInt = 128 := by decide
  simp only [IntOp.cmpi, IntOp.andi, BitVec.sle_eq_decide, BitVec.slt_eq_decide, h1, h2, z0, z1]
  have d1 : decide ((0 : ℤ) ≤ 128 + (r.val : ℤ) - (j.val : ℤ)) = decide (j.val ≤ 128 + r.val) := decide_eq_decide.2 (by omega)
  have d2 : decide (128 + (r.val : ℤ) - (j.val : ℤ) < 128) = decide (r.val < j.val) := decide_eq_decide.2 (by omega)
  have d3 : decide ((128 : ℤ) ≤ (j.val : ℤ)) = decide (0 = 0 → 128 ≤ j.val) := decide_eq_decide.2 (by omega)
  rw [d1, d2, d3]
  refine (and3 (j.val ≤ 128 + r.val) (r.val < j.val) (0 = 0 → 128 ≤ j.val)).trans ?_
  simp only [true_imp_iff]

/-- One head's biases, at an entry. -/
theorem sel_at (p : IVec S256x128 1) (s : Elt Ideal .f32) (w k : ℕ)
    (hp : ∀ (j : Fin 256) (r : Fin 128), p (ix2 j r) = if j.val ≤ 128 + r.val ∧ r.val < j.val ∧ (w = 0 → 128 ≤ j.val) then 1#1 else 0#1)
    (hs : s = ((-(c2 * slope k) : ℝ) : EReal)) (j : Fin 256) (r : Fin 128) : SEL p s (ix2 j r) = bias w k j r := by
  pointwise [SEL]
  rw [hp, dist_at, hs, bits_bot, ← EReal.coe_mul]
  unfold bias
  by_cases hv : j.val ≤ 128 + r.val ∧ r.val < j.val ∧ (w = 0 → 128 ≤ j.val)
  · rw [if_pos hv, if_pos hv]; rfl
  · rw [if_neg hv, if_neg hv]; rfl

theorem bias_00 (p : IVec S256x128 1) (s0 s1 s2 s3 : Elt Ideal .f32) (j : Fin 256) (r : Fin 128) :
    BIAS p s0 s1 s2 s3 (ix4 0 0 ⟨j.val, by omega⟩ ⟨r.val, by omega⟩) = SEL p s0 (ix2 j r) := by pointwise [BIAS]
theorem bias_01 (p : IVec S256x128 1) (s0 s1 s2 s3 : Elt Ideal .f32) (j : Fin 256) (r : Fin 128) :
    BIAS p s0 s1 s2 s3 (ix4 0 0 ⟨256 + j.val, by omega⟩ ⟨r.val, by omega⟩) = SEL p s1 (ix2 j r) := by pointwise [BIAS]
theorem bias_10 (p : IVec S256x128 1) (s0 s1 s2 s3 : Elt Ideal .f32) (j : Fin 256) (r : Fin 128) :
    BIAS p s0 s1 s2 s3 (ix4 0 0 ⟨j.val, by omega⟩ ⟨128 + r.val, by omega⟩) = SEL p s2 (ix2 j r) := by pointwise [BIAS]
theorem bias_11 (p : IVec S256x128 1) (s0 s1 s2 s3 : Elt Ideal .f32) (j : Fin 256) (r : Fin 128) :
    BIAS p s0 s1 s2 s3 (ix4 0 0 ⟨256 + j.val, by omega⟩ ⟨128 + r.val, by omega⟩) = SEL p s3 (ix2 j r) := by pointwise [BIAS]

/-- The slopes the kernel holds, in base-two units. -/
theorem slope_val (k : ℕ) (K : ℝ) (h : (2 : ℝ) ^ (k + 1) = K) : -((Real.sqrt K * Real.log 2)⁻¹) = -(c2 * slope k) := by
  unfold c2 slope
  rw [h, mul_inv, mul_comm]

theorem slope_0 : NM "slope0" 0xBF8293EE#32 = ((-(c2 * slope 0) : ℝ) : EReal) :=
  (IdealRules.named_const.ideal_named_scalar _ _ _ _ rfl).trans (congrArg _ (slope_val 0 2 (by norm_num)))
theorem slope_1 : NM "slope1" 0xBF38AA3B#32 = ((-(c2 * slope 1) : ℝ) : EReal) :=
  (IdealRules.named_const.ideal_named_scalar _ _ _ _ rfl).trans (congrArg _ (slope_val 1 4 (by norm_num)))
theorem slope_2 : NM "slope2" 0xBF0293EE#32 = ((-(c2 * slope 2) : ℝ) : EReal) :=
  (IdealRules.named_const.ideal_named_scalar _ _ _ _ rfl).trans (congrArg _ (slope_val 2 8 (by norm_num)))
theorem slope_3 : NM "slope3" 0xBEB8AA3B#32 = ((-(c2 * slope 3) : ℝ) : EReal) :=
  (IdealRules.named_const.ideal_named_scalar _ _ _ _ rfl).trans (congrArg _ (slope_val 3 16 (by norm_num)))
theorem slope_4 : NM "slope4" 0xBE8293EE#32 = ((-(c2 * slope 4) : ℝ) : EReal) :=
  (IdealRules.named_const.ideal_named_scalar _ _ _ _ rfl).trans (congrArg _ (slope_val 4 32 (by norm_num)))
theorem slope_5 : NM "slope5" 0xBE38AA3B#32 = ((-(c2 * slope 5) : ℝ) : EReal) :=
  (IdealRules.named_const.ideal_named_scalar _ _ _ _ rfl).trans (congrArg _ (slope_val 5 64 (by norm_num)))
theorem slope_6 : NM "slope6" 0xBE0293EE#32 = ((-(c2 * slope 6) : ℝ) : EReal) :=
  (IdealRules.named_const.ideal_named_scalar _ _ _ _ rfl).trans (congrArg _ (slope_val 6 128 (by norm_num)))
theorem slope_7 : NM "slope7" 0xBDB8AA3B#32 = ((-(c2 * slope 7) : ℝ) : EReal) :=
  (IdealRules.named_const.ideal_named_scalar _ _ _ _ rfl).trans (congrArg _ (slope_val 7 256 (by norm_num)))
theorem slope_8 : NM "slope8" 0xBD8293EE#32 = ((-(c2 * slope 8) : ℝ) : EReal) :=
  (IdealRules.named_const.ideal_named_scalar _ _ _ _ rfl).trans (congrArg _ (slope_val 8 512 (by norm_num)))
theorem slope_9 : NM "slope9" 0xBD38AA3B#32 = ((-(c2 * slope 9) : ℝ) : EReal) :=
  (IdealRules.named_const.ideal_named_scalar _ _ _ _ rfl).trans (congrArg _ (slope_val 9 1024 (by norm_num)))
theorem slope_10 : NM "slope10" 0xBD0293EE#32 = ((-(c2 * slope 10) : ℝ) : EReal) :=
  (IdealRules.named_const.ideal_named_scalar _ _ _ _ rfl).trans (congrArg _ (slope_val 10 2048 (by norm_num)))
theorem slope_11 : NM "slope11" 0xBCB8AA3B#32 = ((-(c2 * slope 11) : ℝ) : EReal) :=
  (IdealRules.named_const.ideal_named_scalar _ _ _ _ rfl).trans (congrArg _ (slope_val 11 4096 (by norm_num)))
theorem slope_12 : NM "slope12" 0xBC8293EE#32 = ((-(c2 * slope 12) : ℝ) : EReal) :=
  (IdealRules.named_const.ideal_named_scalar _ _ _ _ rfl).trans (congrArg _ (slope_val 12 8192 (by norm_num)))
theorem slope_13 : NM "slope13" 0xBC38AA3B#32 = ((-(c2 * slope 13) : ℝ) : EReal) :=
  (IdealRules.named_const.ideal_named_scalar _ _ _ _ rfl).trans (congrArg _ (slope_val 13 16384 (by norm_num)))
theorem slope_14 : NM "slope14" 0xBC0293EE#32 = ((-(c2 * slope 14) : ℝ) : EReal) :=
  (IdealRules.named_const.ideal_named_scalar _ _ _ _ rfl).trans (congrArg _ (slope_val 14 32768 (by norm_num)))
theorem slope_15 : NM "slope15" 0xBBB8AA3B#32 = ((-(c2 * slope 15) : ℝ) : EReal) :=
  (IdealRules.named_const.ideal_named_scalar _ _ _ _ rfl).trans (congrArg _ (slope_val 15 65536 (by norm_num)))

/-- A group's four heads' biases are the table's entries of that group. -/
theorem piece (p : IVec S256x128 1) (s0 s1 s2 s3 : Elt Ideal .f32) (w g : ℕ)
    (hp : ∀ (j : Fin 256) (r : Fin 128), p (ix2 j r) = if j.val ≤ 128 + r.val ∧ r.val < j.val ∧ (w = 0 → 128 ≤ j.val) then 1#1 else 0#1)
    (h0 : s0 = ((-(c2 * slope (4 * g)) : ℝ) : EReal)) (h1 : s1 = ((-(c2 * slope (4 * g + 1)) : ℝ) : EReal))
    (h2 : s2 = ((-(c2 * slope (4 * g + 2)) : ℝ) : EReal)) (h3 : s3 = ((-(c2 * slope (4 * g + 3)) : ℝ) : EReal))
    (x : S1x1x512x256.Idx) (y : S2x4x512x256.Idx) (y0 : (y 0).val = w) (y1 : (y 1).val = g) (y2 : (y 2).val = (x 2).val) (y3 : (y 3).val = (x 3).val) :
    BIAS p s0 s1 s2 s3 x = TAB y := by
  obtain ⟨b0, b1, r, k, rfl⟩ : ∃ (b0 : Fin 1) (b1 : Fin 1) (r : Fin 512) (k : Fin 256), x = ix4 b0 b1 r k := ⟨_, _, _, _, eq_ix4 x⟩
  obtain rfl : b0 = 0 := Subsingleton.elim _ _
  obtain rfl : b1 = 0 := Subsingleton.elim _ _
  change (y 2).val = r.val at y2
  change (y 3).val = k.val at y3
  have tab : ∀ (u n : ℕ) (j : Fin 256) (i : Fin 128), 4 * g + 2 * u + n = 4 * g + 2 * ((y 3).val / 128) + (y 2).val / 256 → (y 2).val % 256 = j.val →
      (y 3).val % 128 = i.val → TAB y = bias w (4 * g + 2 * u + n) j i := by
    intro u n j i e1 e2 e3
    unfold TAB
    rw [y0, y1, ← e1]
    exact congrArg₂ _ (Fin.ext e2) (Fin.ext e3)
  have low : ∀ (n m : ℕ) (q : Fin (n + m)), ¬q.val < n → ∃ q' : Fin m, q = ⟨n + q'.val, by omega⟩ := fun n m q h =>
    ⟨⟨q.val - n, by omega⟩, Fin.ext (by dsimp only; omega)⟩
  have up : ∀ (n m : ℕ) (q : Fin (n + m)), q.val < n → ∃ q' : Fin n, q = ⟨q'.val, by omega⟩ := fun n m q h => ⟨⟨q.val, h⟩, rfl⟩
  by_cases hr : r.val < 256 <;> by_cases hk : k.val < 128
  · obtain ⟨j, ej⟩ := up 256 256 r hr
    obtain ⟨i, ei⟩ := up 128 128 k hk
    have e1 := congrArg Fin.val ej
    have e2 := congrArg Fin.val ei
    dsimp only at e1 e2
    exact (congrArg₂ (fun a b => BIAS p s0 s1 s2 s3 (ix4 0 0 a b)) ej ei).trans
      (((bias_00 p s0 s1 s2 s3 j i).trans (sel_at p s0 w _ hp h0 j i)).trans (tab 0 0 j i (by omega) (by omega) (by omega)).symm)
  · obtain ⟨j, ej⟩ := up 256 256 r hr
    obtain ⟨i, ei⟩ := low 128 128 k hk
    have e1 := congrArg Fin.val ej
    have e2 := congrArg Fin.val ei
    dsimp only at e1 e2
    exact (congrArg₂ (fun a b => BIAS p s0 s1 s2 s3 (ix4 0 0 a b)) ej ei).trans
      (((bias_10 p s0 s1 s2 s3 j i).trans (sel_at p s2 w _ hp h2 j i)).trans (tab 1 0 j i (by omega) (by omega) (by omega)).symm)
  · obtain ⟨j, ej⟩ := low 256 256 r hr
    obtain ⟨i, ei⟩ := up 128 128 k hk
    have e1 := congrArg Fin.val ej
    have e2 := congrArg Fin.val ei
    dsimp only at e1 e2
    exact (congrArg₂ (fun a b => BIAS p s0 s1 s2 s3 (ix4 0 0 a b)) ej ei).trans
      (((bias_01 p s0 s1 s2 s3 j i).trans (sel_at p s1 w _ hp h1 j i)).trans (tab 0 1 j i (by omega) (by omega) (by omega)).symm)
  · obtain ⟨j, ej⟩ := low 256 256 r hr
    obtain ⟨i, ei⟩ := low 128 128 k hk
    have e1 := congrArg Fin.val ej
    have e2 := congrArg Fin.val ei
    dsimp only at e1 e2
    exact (congrArg₂ (fun a b => BIAS p s0 s1 s2 s3 (ix4 0 0 a b)) ej ei).trans
      (((bias_11 p s0 s1 s2 s3 j i).trans (sel_at p s3 w _ hp h3 j i)).trans (tab 1 1 j i (by omega) (by omega) (by omega)).symm)

/-- What the first point stores, store by store, the last first. -/
def PIECES : List (Idealize.ShloMosaic.View.Piece (Elt Ideal) S2x4x512x256 .f32) :=
  [⟨Rect.unit ![1, 3, 0, 0] ![1, 1, 512, 256] inb_S2x4x512x256_S1x1x512x256_1_3_0_0,
      k0_pay27 (F := Ideal) (k0_pay24 k0_pay8 k0_pay9) (k0_pay25 k0_pay8 k0_pay9) (k0_pay26 k0_pay8 k0_pay9)⟩,
   ⟨Rect.unit ![0, 3, 0, 0] ![1, 1, 512, 256] inb_S2x4x512x256_S1x1x512x256_0_3_0_0,
      k0_pay23 (F := Ideal) k0_pay9 (k0_pay22 (iota Kind.tc S256x128 32 [0] iota_S256x128_d0_w32) k0_pay8)⟩,
   ⟨Rect.unit ![1, 2, 0, 0] ![1, 1, 512, 256] inb_S2x4x512x256_S1x1x512x256_1_2_0_0, k0_pay21 (F := Ideal) k0_pay8 k0_pay9⟩,
   ⟨Rect.unit ![0, 2, 0, 0] ![1, 1, 512, 256] inb_S2x4x512x256_S1x1x512x256_0_2_0_0,
      k0_pay20 (F := Ideal) k0_pay9 (k0_pay16 (iota Kind.tc S256x128 32 [0] iota_S256x128_d0_w32) k0_pay8)
        (k0_pay17 (iota Kind.tc S256x128 32 [0] iota_S256x128_d0_w32) k0_pay8 k0_pay9)
        (k0_pay18 (iota Kind.tc S256x128 32 [0] iota_S256x128_d0_w32) k0_pay8 k0_pay9) k0_pay19⟩,
   ⟨Rect.unit ![1, 1, 0, 0] ![1, 1, 512, 256] inb_S2x4x512x256_S1x1x512x256_1_1_0_0, k0_pay15 (F := Ideal) k0_pay8 k0_pay9⟩,
   ⟨Rect.unit ![0, 1, 0, 0] ![1, 1, 512, 256] inb_S2x4x512x256_S1x1x512x256_0_1_0_0,
      k0_pay14 (F := Ideal) (k0_pay13 (iota Kind.tc S256x128 32 [0] iota_S256x128_d0_w32) k0_pay8 k0_pay9)⟩,
   ⟨Rect.unit ![1, 0, 0, 0] ![1, 1, 512, 256] inb_S2x4x512x256_S1x1x512x256_1_0_0_0,
      k0_pay12 (F := Ideal) k0_pay8 k0_pay9 k0_pay11 (NM "slope1" 0xBF38AA3B#32)⟩,
   ⟨Rect.unit ![0, 0, 0, 0] ![1, 1, 512, 256] inb_S2x4x512x256_S1x1x512x256_0_0_0_0, k0_pay10 (F := Ideal)⟩]

theorem pay_13 : k0_pay27 (F := Ideal) (k0_pay24 k0_pay8 k0_pay9) (k0_pay25 k0_pay8 k0_pay9) (k0_pay26 k0_pay8 k0_pay9) = BIAS k0_pay8
    (NM "slope12" 0xBC8293EE#32) (NM "slope13" 0xBC38AA3B#32) (NM "slope14" 0xBC0293EE#32) (NM "slope15" 0xBBB8AA3B#32) := rfl
theorem pay_03 : k0_pay23 (F := Ideal) k0_pay9 (k0_pay22 (iota Kind.tc S256x128 32 [0] iota_S256x128_d0_w32) k0_pay8) = BIAS FIRST
    (NM "slope12" 0xBC8293EE#32) (NM "slope13" 0xBC38AA3B#32) (NM "slope14" 0xBC0293EE#32) (NM "slope15" 0xBBB8AA3B#32) := rfl
theorem pay_12 : k0_pay21 (F := Ideal) k0_pay8 k0_pay9 = BIAS k0_pay8
    (NM "slope8" 0xBD8293EE#32) (NM "slope9" 0xBD38AA3B#32) (NM "slope10" 0xBD0293EE#32) (NM "slope11" 0xBCB8AA3B#32) := rfl
theorem pay_02 : k0_pay20 (F := Ideal) k0_pay9 (k0_pay16 (iota Kind.tc S256x128 32 [0] iota_S256x128_d0_w32) k0_pay8)
      (k0_pay17 (iota Kind.tc S256x128 32 [0] iota_S256x128_d0_w32) k0_pay8 k0_pay9)
      (k0_pay18 (iota Kind.tc S256x128 32 [0] iota_S256x128_d0_w32) k0_pay8 k0_pay9) k0_pay19 = BIAS FIRST
    (NM "slope8" 0xBD8293EE#32) (NM "slope9" 0xBD38AA3B#32) (NM "slope10" 0xBD0293EE#32) (NM "slope11" 0xBCB8AA3B#32) := rfl
theorem pay_11 : k0_pay15 (F := Ideal) k0_pay8 k0_pay9 = BIAS k0_pay8
    (NM "slope4" 0xBE8293EE#32) (NM "slope5" 0xBE38AA3B#32) (NM "slope6" 0xBE0293EE#32) (NM "slope7" 0xBDB8AA3B#32) := rfl
theorem pay_01 : k0_pay14 (F := Ideal) (k0_pay13 (iota Kind.tc S256x128 32 [0] iota_S256x128_d0_w32) k0_pay8 k0_pay9) = BIAS FIRST
    (NM "slope4" 0xBE8293EE#32) (NM "slope5" 0xBE38AA3B#32) (NM "slope6" 0xBE0293EE#32) (NM "slope7" 0xBDB8AA3B#32) := rfl
theorem pay_10 : k0_pay12 (F := Ideal) k0_pay8 k0_pay9 k0_pay11 (NM "slope1" 0xBF38AA3B#32) = BIAS k0_pay8
    (NM "slope0" 0xBF8293EE#32) (NM "slope1" 0xBF38AA3B#32) (NM "slope2" 0xBF0293EE#32) (NM "slope3" 0xBEB8AA3B#32) := rfl
theorem pay_00 : k0_pay10 (F := Ideal) = BIAS FIRST
    (NM "slope0" 0xBF8293EE#32) (NM "slope1" 0xBF38AA3B#32) (NM "slope2" 0xBF0293EE#32) (NM "slope3" 0xBEB8AA3B#32) := rfl

/-- The first point leaves the table. -/
theorem canon_tab : View.canon PIECES = TAB := by
  funext y
  unfold PIECES
  canon_tiles x h
  · rw [pay_13]; exact piece _ _ _ _ _ 1 3 later_at slope_12 slope_13 slope_14 slope_15 x y (by omega) (by omega) (by omega) (by omega)
  · rw [pay_03]; exact piece _ _ _ _ _ 0 3 first_at slope_12 slope_13 slope_14 slope_15 x y (by omega) (by omega) (by omega) (by omega)
  · rw [pay_12]; exact piece _ _ _ _ _ 1 2 later_at slope_8 slope_9 slope_10 slope_11 x y (by omega) (by omega) (by omega) (by omega)
  · rw [pay_02]; exact piece _ _ _ _ _ 0 2 first_at slope_8 slope_9 slope_10 slope_11 x y (by omega) (by omega) (by omega) (by omega)
  · rw [pay_11]; exact piece _ _ _ _ _ 1 1 later_at slope_4 slope_5 slope_6 slope_7 x y (by omega) (by omega) (by omega) (by omega)
  · rw [pay_01]; exact piece _ _ _ _ _ 0 1 first_at slope_4 slope_5 slope_6 slope_7 x y (by omega) (by omega) (by omega) (by omega)
  · rw [pay_10]; exact piece _ _ _ _ _ 1 0 later_at slope_0 slope_1 slope_2 slope_3 x y (by omega) (by omega) (by omega) (by omega)
  · rw [pay_00]; exact piece _ _ _ _ _ 0 0 first_at slope_0 slope_1 slope_2 slope_3 x y (by omega) (by omega) (by omega) (by omega)

end Cert.Swa.Bias

end
-- ==== Proof.Swa.Match.lean ====
/- Hand-written: for finite arguments the kernel's attention of a query, head and feature is the reference's. -/
module

public import proofs.«01_k».proof.Proof.Swa.Group
public import proofs.«01_k».proof.Proof.Swa.Bias

@[expose] public section

noncomputable section

open Idealize.ShloMosaic
open scoped BigOperators

namespace Cert.Swa

/-- A key or value of the two blocks as the kernel loads it: before the first block, the first block's own. -/
def near (a : (⟨3, ![4, 8192, 4616]⟩ : Shape).Idx → EReal) (o : ℕ) (ho : o + 256 ≤ 4616) (b : Fin 4) (n : Fin 64) (j : Fin 256) (h : Fin 4) (d : Fin 64) : EReal :=
  if hj : j.val < 128 then a (ix3 b ⟨(n.val - 1) * 128 + j.val, by omega⟩ ⟨o + (h.val * 64 + d.val), by omega⟩)
  else a (ix3 b ⟨n.val * 128 + (j.val - 128), by omega⟩ ⟨o + (h.val * 64 + d.val), by omega⟩)

variable (a : (⟨3, ![4, 8192, 4616]⟩ : Shape).Idx → EReal) (o : ℕ) (ho : o + 256 ≤ 4616) (b : Fin 4) (n : Fin 64) (j : Fin 256) (h : Fin 4) (d : Fin 64)

/-- What a query sees of them is the reference's. -/
theorem near_of_vis (i : Fin 128) (hv : vis n i j) : near a o ho b n j h d = band a o ho b n j h d := by
  unfold near band
  by_cases hj : j.val < 128
  · rw [dif_pos hj, dif_pos hj, dif_neg (by have := hv.2.2; omega)]
  · rw [dif_neg hj, dif_neg hj]

/-- The queries and the keys, the first 1280 columns, are finite. -/
def Fin1280 (a : (⟨3, ![4, 8192, 4616]⟩ : Shape).Idx → EReal) : Prop := ∀ b s l, l.val < 1280 → ∃ r : ℝ, a (ix3 b s l) = (r : EReal)

/-- The keys are finite where the argument is. -/
theorem near_real (ha : Fin1280 a) (ho' : o + 256 ≤ 1280) : ∃ r : ℝ, near a o ho b n j h d = (r : EReal) := by
  unfold near
  split <;> exact ha _ _ _ (by dsimp only; omega)

/-- A sum of products of finite values is finite. -/
theorem dot_real (x y : Fin 64 → EReal) (hx : ∀ e, ∃ r : ℝ, x e = (r : EReal)) (hy : ∀ e, ∃ r : ℝ, y e = (r : EReal)) :
    ∃ r : ℝ, (∑ e, x e * y e) = (r : EReal) := by
  choose f hf using hx
  choose g hg using hy
  refine ⟨∑ e, f e * g e, ?_⟩
  simp only [hf, hg, ← EReal.coe_mul]
  exact coe_sum_fin _

/-- The kernel's attention is the reference's. -/
theorem head_eq (z : (⟨1, ![16]⟩ : Shape).Idx → EReal) (ha : Fin1280 a) (hz : ∀ i, ∃ r : ℝ, z i = (r : EReal))
    (i : Fin 128) (g : Fin 4) (w : ℕ) (hw : w = 0 ↔ n.val = 0) :
    Group.head (fun j e => near a 1024 (by decide) b n j h e) (fun e => query a b n i h g e) (fun j => Bias.bias w (4 * h.val + g.val) j i)
      (z (ix1 ⟨4 * h.val + g.val, by omega⟩)) (fun j => near a 1280 (by decide) b n j h d) = attn a z b n i h g d := by
  unfold Group.head attn
  obtain ⟨zr, ez⟩ := hz (ix1 ⟨4 * h.val + g.val, by omega⟩)
  have dots : ∀ j, ∃ r : ℝ, (∑ e, near a 1024 (by decide) b n j h e * query a b n i h g e) = (r : EReal) := fun j =>
    dot_real _ _ (fun e => near_real a _ _ b n j h e ha (by decide)) (fun e => ha _ _ _ (by dsimp only; omega))
  have hsc : ∀ j, vis n i j → ∃ r : ℝ, (∑ e, near a 1024 (by decide) b n j h e * query a b n i h g e) = (r : EReal) ∧
      score a b n i h g j = ((r * (1 / 8) - slope (4 * h.val + g.val) * dist i j : ℝ) : EReal) := fun j hv => by
    obtain ⟨r, hr⟩ := dots j
    refine ⟨r, hr, ?_⟩
    unfold score
    rw [if_pos hv]
    simp only [← near_of_vis a 1024 (by decide) b n j h _ i hv]
    rw [hr]
    push_cast
    rfl
  refine kerOut_eq_refOut _ _ _ _ _ _ zr ez ?_ ?_ (mul_comm _ _) ?_
  · intro j
    by_cases hv : vis n i j
    · obtain ⟨r, _, e⟩ := hsc j hv
      rw [e]; exact EReal.coe_ne_top _
    · unfold score; rw [if_neg hv]; exact bot_ne_top
  · intro j
    dsimp only
    by_cases hv : vis n i j
    · obtain ⟨r, e, e'⟩ := hsc j hv
      have hb : Bias.bias w (4 * h.val + g.val) j i = ((-(c2 * slope (4 * h.val + g.val)) * dist i j : ℝ) : EReal) := by
        unfold Bias.bias
        exact if_pos ⟨hv.1, hv.2.1, fun h0 => hv.2.2 (hw.1 h0)⟩
      rw [e, e', hb, ← EReal.coe_mul, ← EReal.coe_mul, ← EReal.coe_add]
      congr 1
      ring
    · obtain ⟨r, e⟩ := dots j
      have hb : Bias.bias w (4 * h.val + g.val) j i = ⊥ := by
        unfold Bias.bias
        exact if_neg fun hh => hv ⟨hh.1, hh.2.1, fun h0 => hh.2.2 (hw.2 h0)⟩
      have hs : score a b n i h g j = ⊥ := by unfold score; exact if_neg hv
      rw [hb, hs, EReal.add_bot, EReal.coe_mul_bot_of_pos c2_pos]
  · intro j hj
    by_cases hv : vis n i j
    · exact near_of_vis a 1280 (by decide) b n j h d i hv
    · exact absurd (by unfold score; exact if_neg hv) hj

end Cert.Swa

end
-- ==== Proof.Swa.Blocks.lean ====
/- Hand-written: what the grid points of the sliding-window attention are given, in terms of the arguments. -/
module

public import proofs.«01_k».proof.Proof.Gen.KernelIdeal.Frame
public import proofs.«01_k».proof.Proof.Swa.Match
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Swa.Blocks

open Cert.KernelIdeal Cert.KernelIdeal.Gen

variable (m : (ℓ : Loc nD τ sig) → Buf (Elt Ideal) ℓ)

/-- Every window's block index at every grid point. -/
theorem idx_val : ∀ t : Fin cfg0.N, win0_0.index t = ![0]
    ∧ win0_1.index t = ![(t.val / 64) * 64 + (t.val % 64), 0]
    ∧ win0_2.index t = ![(t.val / 64) * 64 + (t.val % 64), 16]
    ∧ win0_3.index t = ![(t.val / 64) * 64 + (t.val % 64 - 1), 16]
    ∧ win0_4.index t = ![(t.val / 64) * 64 + (t.val % 64), 17]
    ∧ win0_5.index t = ![(t.val / 64) * 64 + (t.val % 64 - 1), 17]
    ∧ win0_6.index t = ![(t.val / 64) * 64 + (t.val % 64), 0] :=
  (by decide +kernel : ∀ t : Fin grid0.N, _)

/-- The projections' columns in the order the kernel is given them. -/
def HOST (a : FVec Ideal S4x8192x4616 .f32) : FVec Ideal S32768x4608 .bf16 :=
  truncf .bf16 (shapeCast S32768x4608 (concatenate S4x8192x4608 2
     [⟨S4x8192x1024, extractStridedSlice S4x8192x1024 ![0, 0, 0] (extractStridedSlice S4x8192x4608 ![0, 0, 0] a slices_S4x8192x4616_S4x8192x4608_0_0_0) slices_S4x8192x4608_S4x8192x1024_0_0_0⟩,
      ⟨S4x8192x1024, extractStridedSlice S4x8192x1024 ![0, 0, 2560] (extractStridedSlice S4x8192x4608 ![0, 0, 0] a slices_S4x8192x4616_S4x8192x4608_0_0_0) slices_S4x8192x4608_S4x8192x1024_0_0_2560⟩,
      ⟨S4x8192x1024, extractStridedSlice S4x8192x1024 ![0, 0, 3584] (extractStridedSlice S4x8192x4608 ![0, 0, 0] a slices_S4x8192x4616_S4x8192x4608_0_0_0) slices_S4x8192x4608_S4x8192x1024_0_0_3584⟩,
      ⟨S4x8192x512, extractStridedSlice S4x8192x512 ![0, 0, 1536] (extractStridedSlice S4x8192x4608 ![0, 0, 0] a slices_S4x8192x4616_S4x8192x4608_0_0_0) slices_S4x8192x4608_S4x8192x512_0_0_1536⟩,
      ⟨S4x8192x512, extractStridedSlice S4x8192x512 ![0, 0, 2048] (extractStridedSlice S4x8192x4608 ![0, 0, 0] a slices_S4x8192x4616_S4x8192x4608_0_0_0) slices_S4x8192x4608_S4x8192x512_0_0_2048⟩,
      ⟨S4x8192x256, extractStridedSlice S4x8192x256 ![0, 0, 1024] (extractStridedSlice S4x8192x4608 ![0, 0, 0] a slices_S4x8192x4616_S4x8192x4608_0_0_0) slices_S4x8192x4608_S4x8192x256_0_0_1024⟩,
      ⟨S4x8192x256, extractStridedSlice S4x8192x256 ![0, 0, 1280] (extractStridedSlice S4x8192x4608 ![0, 0, 0] a slices_S4x8192x4616_S4x8192x4608_0_0_0) slices_S4x8192x4608_S4x8192x256_0_0_1280⟩]
    concatenates_S4x8192x1024_S4x8192x1024_S4x8192x1024_S4x8192x512_S4x8192x512_S4x8192x256_S4x8192x256_S4x8192x4608_d2) shapeCasts_S4x8192x4608_S32768x4608) bitsLt_bf16_f32

/-- What the kernel is given. -/
theorem entry_eq (c : Dev nD) : V m c main_v10 = HOST (m ((c : Thread nD τ).loc main_arg0)) := rfl

theorem host_q (a : FVec Ideal S4x8192x4616 .f32) (r : Fin 32768) (k : Fin 1024) :
    HOST a (ix2 r ⟨k.val, by omega⟩) = a (ix3 ⟨r.val / 8192, by omega⟩ ⟨r.val % 8192, by omega⟩ ⟨k.val, by omega⟩) := by
  pointwise [HOST]

/-- The queries as the kernel finds them. -/
theorem entry_q (c : Dev nD) (r : Fin 32768) (k : Fin 1024) :
    (V m c main_v10 : FVec Ideal S32768x4608 .bf16) (ix2 r ⟨k.val, by omega⟩)
      = (m ((c : Thread nD τ).loc main_arg0) : FVec Ideal S4x8192x4616 .f32)
          (ix3 ⟨r.val / 8192, by omega⟩ ⟨r.val % 8192, by omega⟩ ⟨k.val, by omega⟩) :=
  (congrFun (entry_eq m c) _).trans (host_q _ r k)

theorem host_k (a : FVec Ideal S4x8192x4616 .f32) (r : Fin 32768) (k : Fin 256) :
    HOST a (ix2 r ⟨4096 + k.val, by omega⟩) = a (ix3 ⟨r.val / 8192, by omega⟩ ⟨r.val % 8192, by omega⟩ ⟨1024 + k.val, by omega⟩) := by
  pointwise [HOST]
  rw [dif_neg (by omega), dif_neg (by omega), dif_neg (by omega), dif_neg (by omega), dif_neg (by omega), dif_pos (by omega)]
  exact congrArg a (congrArg (ix3 _ _) (Fin.ext (by dsimp only; omega)))

/-- The keys as the kernel finds them. -/
theorem entry_k (c : Dev nD) (r : Fin 32768) (k : Fin 256) :
    (V m c main_v10 : FVec Ideal S32768x4608 .bf16) (ix2 r ⟨4096 + k.val, by omega⟩)
      = (m ((c : Thread nD τ).loc main_arg0) : FVec Ideal S4x8192x4616 .f32)
          (ix3 ⟨r.val / 8192, by omega⟩ ⟨r.val % 8192, by omega⟩ ⟨1024 + k.val, by omega⟩) :=
  (congrFun (entry_eq m c) _).trans (host_k _ r k)

theorem host_v (a : FVec Ideal S4x8192x4616 .f32) (r : Fin 32768) (k : Fin 256) :
    HOST a (ix2 r ⟨4352 + k.val, by omega⟩) = a (ix3 ⟨r.val / 8192, by omega⟩ ⟨r.val % 8192, by omega⟩ ⟨1280 + k.val, by omega⟩) := by
  pointwise [HOST]
  rw [dif_neg (by omega), dif_neg (by omega), dif_neg (by omega), dif_neg (by omega), dif_neg (by omega), dif_neg (by omega)]
  exact congrArg a (congrArg (ix3 _ _) (Fin.ext (by dsimp only; omega)))

/-- The values as the kernel finds them. -/
theorem entry_v (c : Dev nD) (r : Fin 32768) (k : Fin 256) :
    (V m c main_v10 : FVec Ideal S32768x4608 .bf16) (ix2 r ⟨4352 + k.val, by omega⟩)
      = (m ((c : Thread nD τ).loc main_arg0) : FVec Ideal S4x8192x4616 .f32)
          (ix3 ⟨r.val / 8192, by omega⟩ ⟨r.val % 8192, by omega⟩ ⟨1280 + k.val, by omega⟩) :=
  (congrFun (entry_eq m c) _).trans (host_v _ r k)

/-- The sinks as the kernel finds them. -/
theorem entry_z (c : Dev nD) (l : Fin 16) :
    (V m c main_arg1 : FVec Ideal S16 .f32) (ix1 l) = (m ((c : Thread nD τ).loc main_arg1) : FVec Ideal S16 .f32) (ix1 l) := by
  entry_read
  rfl

/-- The sinks, whole at every grid point. -/
theorem blk_z (c : Dev nD) (t : Fin cfg0.N) (l : Fin 16) :
    (iblk m c 0 t : FVec Ideal S16 .f32) (ix1 l) = (V m c main_arg1 : FVec Ideal S16 .f32) (ix1 l) := by
  blk_ext [iblk, idx_val t]

/-- The block of queries a grid point is given. -/
theorem blk_q (c : Dev nD) (t : Fin cfg0.N) (r : Fin 128) (k : Fin 1024) (R : Fin 32768) (K : Fin 4608) (hR : R.val = t.val * 128 + r.val) (hK : K.val = k.val) :
    (X0_1 m c t : FVec Ideal S128x1024 .bf16) (ix2 r k) = (V m c main_v10 : FVec Ideal S32768x4608 .bf16) (ix2 R K) := by
  unfold X0_1 Pipeline.Window.fill
  rw [dif_pos (moved0_1 t _)]
  blk_ext [iblk, idx_val t]

/-- The block of keys at a grid point. -/
theorem blk_kc (c : Dev nD) (t : Fin cfg0.N) (r : Fin 128) (k : Fin 256) (R : Fin 32768) (K : Fin 4608) (hR : R.val = t.val * 128 + r.val) (hK : K.val = 4096 + k.val) :
    (iblk m c 2 t : FVec Ideal S128x256 .bf16) (ix2 r k) = (V m c main_v10 : FVec Ideal S32768x4608 .bf16) (ix2 R K) := by
  blk_ext [iblk, idx_val t]

/-- The block of keys before it. -/
theorem blk_kp (c : Dev nD) (t : Fin cfg0.N) (r : Fin 128) (k : Fin 256) (R : Fin 32768) (K : Fin 4608) (hR : R.val = ((t.val / 64) * 64 + (t.val % 64 - 1)) * 128 + r.val) (hK : K.val = 4096 + k.val) :
    (iblk m c 3 t : FVec Ideal S128x256 .bf16) (ix2 r k) = (V m c main_v10 : FVec Ideal S32768x4608 .bf16) (ix2 R K) := by
  blk_ext [iblk, idx_val t]

/-- The block of values at a grid point. -/
theorem blk_vc (c : Dev nD) (t : Fin cfg0.N) (r : Fin 128) (k : Fin 256) (R : Fin 32768) (K : Fin 4608) (hR : R.val = t.val * 128 + r.val) (hK : K.val = 4352 + k.val) :
    (iblk m c 4 t : FVec Ideal S128x256 .bf16) (ix2 r k) = (V m c main_v10 : FVec Ideal S32768x4608 .bf16) (ix2 R K) := by
  blk_ext [iblk, idx_val t]

/-- The block of values before it. -/
theorem blk_vp (c : Dev nD) (t : Fin cfg0.N) (r : Fin 128) (k : Fin 256) (R : Fin 32768) (K : Fin 4608) (hR : R.val = ((t.val / 64) * 64 + (t.val % 64 - 1)) * 128 + r.val) (hK : K.val = 4352 + k.val) :
    (iblk m c 5 t : FVec Ideal S128x256 .bf16) (ix2 r k) = (V m c main_v10 : FVec Ideal S32768x4608 .bf16) (ix2 R K) := by
  blk_ext [iblk, idx_val t]

/-- A load of 128 columns of the queries. -/
theorem ld_q (w : FVec Ideal S128x1024 .bf16) (o : ℕ) (inb : ∀ a, (![0, o] : Fin 2 → ℕ) a + (![128, 128] : Fin 2 → ℕ) a ≤ S128x1024.size a)
    (r u : Fin 128) (K : Fin 1024) (hK : K.val = o + u.val) :
    View.ld (Val := Elt Ideal) (e' := .bf16) w (Rect.unit ![0, o] ![128, 128] inb) (ix2 r u) = w (ix2 r K) := by
  have h : o + u.val < 1024 := hK ▸ K.isLt
  have e : K = ⟨o + u.val, h⟩ := Fin.ext hK
  rw [e]
  pointwise

/-- A load of one sink. -/
theorem ld_z (w : FVec Ideal S16 .f32) (o : ℕ) (inb : ∀ a : Fin 1, (![o] : Fin 1 → ℕ) a + (![1] : Fin 1 → ℕ) a ≤ S16.size a)
    (h : 0 < (Rect.unit (s := S16) ![o] ![1] inb).shape.numel) (K : Fin 16) (hK : K.val = o) :
    View.ld (Val := Elt Ideal) (e' := .f32) w (Rect.unit (s := S16) ![o] ![1] inb) (Shape.Idx.first h) = w (ix1 K) := by
  subst hK
  refine congrArg w (funext fun a => Fin.ext ?_)
  fin_cases a
  rfl

/-- A load of one group's biases. -/
theorem ld_b (w : S2x4x512x256.Idx → EReal) (off : Fin 4 → ℕ) (inb : ∀ a, off a + (![1, 1, 512, 256] : Fin 4 → ℕ) a ≤ S2x4x512x256.size a)
    (p : Fin 2) (g : Fin 4) (ho : off = ![p.val, g.val, 0, 0]) (r : Fin 512) (k : Fin 256) :
    View.ld (Val := Elt Ideal) (e' := .f32) w (Rect.unit off ![1, 1, 512, 256] inb) (ix4 0 0 r k) = w (ix4 p g r k) := by
  subst ho
  pointwise

end Cert.Swa.Blocks

end
-- ==== Proof.Swa.Six.lean ====
/- Hand-written: a reduction of a rank-six array along its last axis, read at one entry. -/
module

public import Idealize.ShloMosaic.Lib.Pointwise

@[expose] public section

noncomputable section

namespace Cert.Swa.Six

open Idealize.ShloMosaic
open scoped BigOperators

variable {p q u v w x : Nat}

/-- The entries that a reduced index gathers are those with its five coordinates and any last one. -/
theorem gathers (h : (⟨6, ![p, q, u, v, w, x]⟩ : Shape).ReducesTo [5] ⟨5, ![p, q, u, v, w]⟩) (a : Fin p) (b : Fin q) (c : Fin u)
    (d : Fin v) (e : Fin w) (i : (⟨6, ![p, q, u, v, w, x]⟩ : Shape).Idx) :
    h.drop i = ix5 a b c d e ↔ ∃ k : Fin x, ix6 a b c d e k = i := by
  refine ⟨fun hi => ⟨i 5, ?_⟩, ?_⟩
  · have key : ∀ s : Fin 5, ((h.drop i) s).val = (ix5 a b c d e s).val := fun s => by rw [hi]
    funext s
    refine Fin.ext ?_
    match s with
    | ⟨0, _⟩ => exact (key 0).symm
    | ⟨1, _⟩ => exact (key 1).symm
    | ⟨2, _⟩ => exact (key 2).symm
    | ⟨3, _⟩ => exact (key 3).symm
    | ⟨4, _⟩ => exact (key 4).symm
    | ⟨5, _⟩ => rfl
  · rintro ⟨k, rfl⟩
    funext s
    refine Fin.ext ?_
    match s with
    | ⟨0, _⟩ => rfl
    | ⟨1, _⟩ => rfl
    | ⟨2, _⟩ => rfl
    | ⟨3, _⟩ => rfl
    | ⟨4, _⟩ => rfl

/-- A fold over what a reduced index gathers is a fold along the last axis. -/
theorem fold_at (h : (⟨6, ![p, q, u, v, w, x]⟩ : Shape).ReducesTo [5] ⟨5, ![p, q, u, v, w]⟩) (a : Fin p) (b : Fin q) (c : Fin u)
    (d : Fin v) (e : Fin w) (op : EReal → EReal → EReal) [Std.Commutative op] [Std.Associative op] (z : EReal)
    (f : (⟨6, ![p, q, u, v, w, x]⟩ : Shape).Idx → EReal) :
    (Finset.univ.filter (fun i => h.drop i = ix5 a b c d e)).fold op z f
      = Finset.univ.fold op z (fun k : Fin x => f (ix6 a b c d e k)) :=
  Finset.fold_filter_eq_fold_of_fiber op _ (fun k : Fin x => ix6 a b c d e k) (fun _ _ hk => congrFun hk 5) (gathers h a b c d e) z f

/-- A sum over what a reduced index gathers is a sum along the last axis. -/
theorem sum_at (h : (⟨6, ![p, q, u, v, w, x]⟩ : Shape).ReducesTo [5] ⟨5, ![p, q, u, v, w]⟩) (a : Fin p) (b : Fin q) (c : Fin u)
    (d : Fin v) (e : Fin w) (z : EReal) (f : (⟨6, ![p, q, u, v, w, x]⟩ : Shape).Idx → EReal) :
    Ideal.hostReduceAdd h f z (ix5 a b c d e) = z + ∑ k : Fin x, f (ix6 a b c d e k) := by
  unfold Ideal.hostReduceAdd
  rw [Finset.sum_filter_eq_sum_of_fiber _ (fun k : Fin x => ix6 a b c d e k) (fun _ _ hk => congrFun hk 5) (gathers h a b c d e) f]

/-- The host's maximum along the last axis. -/
theorem max_at {uu : Shape} (h : (⟨6, ![p, q, u, v, w, x]⟩ : Shape).ReducesTo [5] ⟨5, ![p, q, u, v, w]⟩) (hu : 0 < uu.numel) (a : Fin p) (b : Fin q)
    (c : Fin u) (d : Fin v) (e : Fin w) (z : FVec Ideal uu .f32) (f : FVec Ideal ⟨6, ![p, q, u, v, w, x]⟩ .f32) :
    Host.reduce (FloatOps.maximumf (F := Ideal) (φ := .f32)) f z h hu (ix5 a b c d e)
      = Finset.univ.fold max (z (Shape.Idx.first hu)) (fun k : Fin x => f (ix6 a b c d e k)) := by
  rw [Host.reduce_eq_fold]
  exact fold_at h a b c d e max _ f

end Cert.Swa.Six

end
-- ==== Proof.Swa.Ref.lean ====
/- Hand-written: the reference's sliding-window attention, read at one entry. -/
module

public import proofs.«01_k».proof.Proof.Gen.ReferenceIdeal.Run
public import proofs.«01_k».proof.Proof.Swa.Spec
public import proofs.«01_k».proof.Proof.Swa.Six
public import Idealize.ShloMosaic.Lib.Pointwise

@[expose] public section

set_option maxRecDepth 16384

noncomputable section

open Idealize.ShloMosaic Idealize.ShloMosaic.TcCoe Idealize.SL.Sem
open scoped BigOperators

namespace Cert.Swa.Ref

open Cert.ReferenceIdeal Cert.ReferenceIdeal.Gen

/-- The queries in blocks. -/
def QB (a0 : FVec Ideal S4x8192x4616 .f32) : FVec Ideal S4x64x128x4x4x64 .f32 :=
  shapeCast _ (shapeCast _ (extractStridedSlice S4x8192x1024 ![0, 0, 0] a0 slices_S4x8192x4616_S4x8192x1024_0_0_0) shapeCasts_S4x8192x1024_S4x8192x16x64) shapeCasts_S4x8192x16x64_S4x64x128x4x4x64

/-- The keys in blocks. -/
def KB (a0 : FVec Ideal S4x8192x4616 .f32) : FVec Ideal S4x64x128x4x64 .f32 :=
  shapeCast _ (shapeCast _ (extractStridedSlice S4x8192x256 ![0, 0, 1024] a0 slices_S4x8192x4616_S4x8192x256_0_0_1024) shapeCasts_S4x8192x256_S4x8192x4x64) shapeCasts_S4x8192x4x64_S4x64x128x4x64

/-- The values in blocks. -/
def VB (a0 : FVec Ideal S4x8192x4616 .f32) : FVec Ideal S4x64x128x4x64 .f32 :=
  shapeCast _ (shapeCast _ (extractStridedSlice S4x8192x256 ![0, 0, 1280] a0 slices_S4x8192x4616_S4x8192x256_0_0_1280) shapeCasts_S4x8192x256_S4x8192x4x64) shapeCasts_S4x8192x4x64_S4x64x128x4x64

/-- The block before, zeros before the first, and the block itself. -/
def BAND (t : FVec Ideal S4x64x128x4x64 .f32) : FVec Ideal S4x64x256x4x64 .f32 :=
  concatenate S4x64x256x4x64 2 [⟨S4x64x128x4x64, (concatenate S4x64x128x4x64 1 [⟨S4x1x128x4x64, (broadcastInDim S4x1x128x4x64 ![] bcast_S_S4x1x128x4x64 (constant S_ .f32 0x00000000#32))⟩, ⟨S4x63x128x4x64, (extractStridedSlice S4x63x128x4x64 ![0, 0, 0, 0, 0] t slices_S4x64x128x4x64_S4x63x128x4x64_0_0_0_0_0)⟩] concatenates_S4x1x128x4x64_S4x63x128x4x64_S4x64x128x4x64_d1)⟩, ⟨S4x64x128x4x64, t⟩] concatenates_S4x64x128x4x64_S4x64x128x4x64_S4x64x256x4x64_d2

/-- Query position minus key position. -/
def DIST  : IVec S128x256 32 :=
  subi (broadcastInDim S128x256 ![0, 1] bcast_S128x1_S128x256_0_1 (addi (broadcastInDim S128x1 ![0] bcast_S128_S128x1_0 ((iotaInDim S128 32 0))) (broadcastInDim S128x1 ![] bcast_S_S128x1 ((constantI S_ 32 128#32))))) (broadcastInDim S128x256 ![0, 1] bcast_S1x256_S128x256_0_1 (broadcastInDim S1x256 ![1] bcast_S256_S1x256_1 ((iotaInDim S256 32 0))))

/-- The keys a query sees. -/
def VALID  : IVec S64x128x256 1 :=
  andi (broadcastInDim S64x128x256 ![0, 1, 2] bcast_S1x128x256_S64x128x256_0_1_2 (broadcastInDim S1x128x256 ![1, 2] bcast_S128x256_S1x128x256_1_2 (andi (cmpi .sge DIST (broadcastInDim S128x256 ![] bcast_S_S128x256 ((constantI S_ 32 0#32)))) (cmpi .slt DIST (broadcastInDim S128x256 ![] bcast_S_S128x256 ((constantI S_ 32 128#32))))))) (broadcastInDim S64x128x256 ![0, 1, 2] bcast_S64x1x256_S64x128x256_0_1_2 (cmpi .sge (addi (broadcastInDim S64x1x256 ![0, 1, 2] bcast_S64x1x1_S64x1x256_0_1_2 (muli (subi (broadcastInDim S64x1x1 ![0] bcast_S64_S64x1x1_0 ((iotaInDim S64 32 0))) (broadcastInDim S64x1x1 ![] bcast_S_S64x1x1 ((constantI S_ 32 1#32)))) (broadcastInDim S64x1x1 ![] bcast_S_S64x1x1 ((constantI S_ 32 128#32))))) (broadcastInDim S64x1x256 ![0, 1, 2] bcast_S1x1x256_S64x1x256_0_1_2 (broadcastInDim S1x1x256 ![1, 2] bcast_S1x256_S1x1x256_1_2 (broadcastInDim S1x256 ![1] bcast_S256_S1x256_1 ((iotaInDim S256 32 0)))))) (broadcastInDim S64x1x256 ![] bcast_S_S64x1x256 ((constantI S_ 32 0#32)))))

/-- The slopes of the heads. -/
def SLOPES  : FVec Ideal S4x4x1x1 .f32 :=
  shapeCast _ (Host.powf (broadcastInDim S16 ![] bcast_S_S16 ((constant S_ .f32 0x40000000#32))) (Host.divf (mulf (broadcastInDim S16 ![] bcast_S_S16 ((constant S_ .f32 0xC1000000#32))) (addf (broadcastInDim S16 ![] bcast_S_S16 ((constant S_ .f32 0x3F800000#32))) ((sitofp .f32 (iotaInDim S16 32 0))))) (broadcastInDim S16 ![] bcast_S_S16 ((constant S_ .f32 0x41800000#32))))) shapeCasts_S16_S4x4x1x1

/-- The sink logits by head. -/
def SINK (a1 : FVec Ideal S16 .f32) : FVec Ideal S4x4x1x1 .f32 :=
  shapeCast _ a1 shapeCasts_S16_S4x4x1x1

/-- Key-query products. -/
def DOTS (kb : FVec Ideal S4x64x256x4x64 .f32) (q : FVec Ideal S4x64x128x4x4x64 .f32) : FVec Ideal S4x64x4x4x128x256 .f32 :=
  transpose S4x64x4x4x128x256 [0, 1, 2, 5, 4, 3] (Host.dotGeneral dot_S4x64x256x4x64_S4x64x128x4x4x64_S4x64x4x256x128x4_4_5_2_24_013_013 none kb q) transposes_S4x64x4x256x128x4_S4x64x4x4x128x256_0_1_2_5_4_3

/-- The masked scores. -/
def SCORES (dt : FVec Ideal S4x64x4x4x128x256 .f32) : FVec Ideal S4x64x4x4x128x256 .f32 :=
  select (broadcastInDim S4x64x4x4x128x256 ![1, 2, 3, 4, 5] bcast_S64x1x1x128x256_S4x64x4x4x128x256_1_2_3_4_5 (broadcastInDim S64x1x1x128x256 ![0, 3, 4] bcast_S64x128x256_S64x1x1x128x256_0_3_4 VALID)) (subf (mulf dt (broadcastInDim S4x64x4x4x128x256 ![] bcast_S_S4x64x4x4x128x256 ((constant S_ .f32 0x3E000000#32)))) (broadcastInDim S4x64x4x4x128x256 ![0, 1, 2, 3, 4, 5] bcast_S1x1x4x4x128x256_S4x64x4x4x128x256_0_1_2_3_4_5 (broadcastInDim S1x1x4x4x128x256 ![2, 3, 4, 5] bcast_S4x4x128x256_S1x1x4x4x128x256_2_3_4_5 (mulf (broadcastInDim S4x4x128x256 ![0, 1, 2, 3] bcast_S4x4x1x1_S4x4x128x256_0_1_2_3 SLOPES) (broadcastInDim S4x4x128x256 ![0, 1, 2, 3] bcast_S1x1x128x256_S4x4x128x256_0_1_2_3 (broadcastInDim S1x1x128x256 ![2, 3] bcast_S128x256_S1x1x128x256_2_3 (sitofp .f32 DIST))))))) (broadcastInDim S4x64x4x4x128x256 ![] bcast_S_S4x64x4x4x128x256 (((constant S_ .f32 0xFF800000#32))))

/-- The largest score of each query. -/
def MAXS (s : FVec Ideal S4x64x4x4x128x256 .f32) : FVec Ideal S4x64x4x4x128 .f32 :=
  Host.reduce FloatOps.maximumf s ((constant S_ .f32 0xFF800000#32)) reducesTo_S4x64x4x4x128x256_S4x64x4x4x128_d5 h_S_

/-- The largest score or sink of each query. -/
def TOPS (m : FVec Ideal S4x64x4x4x128 .f32) (z : FVec Ideal S4x4x1x1 .f32) : FVec Ideal S4x64x4x4x128x1 .f32 :=
  maximumf (broadcastInDim S4x64x4x4x128x1 ![0, 1, 2, 3, 4] bcast_S4x64x4x4x128_S4x64x4x4x128x1_0_1_2_3_4 m) (broadcastInDim S4x64x4x4x128x1 ![0, 1, 2, 3, 4, 5] bcast_S1x1x4x4x1x1_S4x64x4x4x128x1_0_1_2_3_4_5 (broadcastInDim S1x1x4x4x1x1 ![2, 3, 4, 5] bcast_S4x4x1x1_S1x1x4x4x1x1_2_3_4_5 z))

/-- The exponentials of the scores. -/
def EXPS (s : FVec Ideal S4x64x4x4x128x256 .f32) (t : FVec Ideal S4x64x4x4x128x1 .f32) : FVec Ideal S4x64x4x4x128x256 .f32 :=
  Host.exp (subf s (broadcastInDim S4x64x4x4x128x256 ![0, 1, 2, 3, 4, 5] bcast_S4x64x4x4x128x1_S4x64x4x4x128x256_0_1_2_3_4_5 t))

/-- Their sums with the sink's. -/
def DENS (e : FVec Ideal S4x64x4x4x128x256 .f32) (z : FVec Ideal S4x4x1x1 .f32) (t : FVec Ideal S4x64x4x4x128x1 .f32) : FVec Ideal S4x64x4x4x128x1 .f32 :=
  addf (broadcastInDim S4x64x4x4x128x1 ![0, 1, 2, 3, 4] bcast_S4x64x4x4x128_S4x64x4x4x128x1_0_1_2_3_4 (Host.reduceAdd e (constant S_ .f32 0x00000000#32) reducesTo_S4x64x4x4x128x256_S4x64x4x4x128_d5 h_S_)) (Host.exp (subf (broadcastInDim S4x64x4x4x128x1 ![0, 1, 2, 3, 4, 5] bcast_S1x1x4x4x1x1_S4x64x4x4x128x1_0_1_2_3_4_5 (broadcastInDim S1x1x4x4x1x1 ![2, 3, 4, 5] bcast_S4x4x1x1_S1x1x4x4x1x1_2_3_4_5 z)) t))

/-- The probabilities times the values. -/
def OUT (e : FVec Ideal S4x64x4x4x128x256 .f32) (d : FVec Ideal S4x64x4x4x128x1 .f32) (v : FVec Ideal S4x64x256x4x64 .f32) : FVec Ideal S32768x1024 .bf16 :=
  truncf .bf16 (shapeCast _ (transpose S4x64x128x4x4x64 [0, 1, 5, 2, 4, 3] (Host.dotGeneral dot_S4x64x256x4x64_S4x64x4x4x128x256_S4x64x4x64x4x128_2_5_4_34_013_012 none v (Host.divf e (broadcastInDim S4x64x4x4x128x256 ![0, 1, 2, 3, 4, 5] bcast_S4x64x4x4x128x1_S4x64x4x4x128x256_0_1_2_3_4_5 d))) transposes_S4x64x4x64x4x128_S4x64x128x4x4x64_0_1_5_2_4_3) shapeCasts_S4x64x128x4x4x64_S32768x1024) bitsLt_bf16_f32

/-- The queries in blocks, at an entry. -/
theorem qb_at (a0 : FVec Ideal S4x8192x4616 .f32) (b : Fin 4) (n : Fin 64) (i : Fin 128) (h g : Fin 4) (d : Fin 64) :
    QB a0 (ix6 b n i h g d) = query a0 b n i h g d := by
  pointwise [QB, query]

/-- The keys in blocks, at an entry. -/
theorem kb_at (a0 : FVec Ideal S4x8192x4616 .f32) (b : Fin 4) (n : Fin 64) (i : Fin 128) (h : Fin 4) (d : Fin 64) :
    KB a0 (ix5 b n i h d) = a0 (ix3 b ⟨n.val * 128 + i.val, by omega⟩ ⟨1024 + (h.val * 64 + d.val), by omega⟩) := by
  pointwise [KB]

/-- The values in blocks, at an entry. -/
theorem vb_at (a0 : FVec Ideal S4x8192x4616 .f32) (b : Fin 4) (n : Fin 64) (i : Fin 128) (h : Fin 4) (d : Fin 64) :
    VB a0 (ix5 b n i h d) = a0 (ix3 b ⟨n.val * 128 + i.val, by omega⟩ ⟨1280 + (h.val * 64 + d.val), by omega⟩) := by
  pointwise [VB]

/-- Two adjacent blocks, at an entry. -/
theorem band_at (t : FVec Ideal S4x64x128x4x64 .f32) (b : Fin 4) (n : Fin 64) (j : Fin 256) (h : Fin 4) (d : Fin 64) :
    BAND t (ix5 b n j h d) = if hj : j.val < 128 then (if hn : n.val < 1 then 0 else t (ix5 b ⟨n.val - 1, by omega⟩ ⟨j.val, hj⟩ h d))
      else t (ix5 b n ⟨j.val - 128, by omega⟩ h d) := by
  pointwise [BAND]

/-- The keys' two blocks. -/
theorem bandk_at (a0 : FVec Ideal S4x8192x4616 .f32) (b : Fin 4) (n : Fin 64) (j : Fin 256) (h : Fin 4) (d : Fin 64) :
    BAND (KB a0) (ix5 b n j h d) = band a0 1024 (by decide) b n j h d := by
  rw [band_at]; simp only [kb_at]; rfl

/-- The values' two blocks. -/
theorem bandv_at (a0 : FVec Ideal S4x8192x4616 .f32) (b : Fin 4) (n : Fin 64) (j : Fin 256) (h : Fin 4) (d : Fin 64) :
    BAND (VB a0) (ix5 b n j h d) = band a0 1280 (by decide) b n j h d := by
  rw [band_at]; simp only [vb_at]; rfl

/-- The key-query products, at an entry. -/
theorem dots_at (kb : FVec Ideal S4x64x256x4x64 .f32) (q : FVec Ideal S4x64x128x4x4x64 .f32) (b : Fin 4) (n : Fin 64) (h g : Fin 4) (i : Fin 128) (j : Fin 256) :
    DOTS kb q (ix6 b n h g i j) = ∑ d : Fin 64, kb (ix5 b n j h d) * q (ix6 b n i h g d) := by
  pointwise [DOTS]

/-- The largest score of a query. -/
theorem maxs_at (s : FVec Ideal S4x64x4x4x128x256 .f32) (b : Fin 4) (n : Fin 64) (h g : Fin 4) (i : Fin 128) :
    MAXS s (ix5 b n h g i) = Finset.univ.fold max ⊥ fun j => s (ix6 b n h g i j) := by
  unfold MAXS
  refine (Six.max_at _ _ _ _ _ _ _ _ _).trans ?_
  rw [show (constant (F := Ideal) S_ .f32 0xFF800000#32) (Shape.Idx.first h_S_) = ⊥ from bits_bot]

/-- The largest score or sink of a query. -/
theorem tops_at (m : FVec Ideal S4x64x4x4x128 .f32) (z : FVec Ideal S4x4x1x1 .f32) (b : Fin 4) (n : Fin 64) (h g : Fin 4) (i : Fin 128) :
    TOPS m z (ix6 b n h g i 0) = max (m (ix5 b n h g i)) (z (ix4 h g 0 0)) := by
  pointwise [TOPS]

/-- The exponential of a score. -/
theorem exps_at (s : FVec Ideal S4x64x4x4x128x256 .f32) (t : FVec Ideal S4x64x4x4x128x1 .f32) (b : Fin 4) (n : Fin 64) (h g : Fin 4) (i : Fin 128) (j : Fin 256) :
    EXPS s t (ix6 b n h g i j) = Ideal.exp (s (ix6 b n h g i j) - t (ix6 b n h g i 0)) := by
  pointwise [EXPS]

/-- The sum of the exponentials and the sink's. -/
theorem dens_at (e : FVec Ideal S4x64x4x4x128x256 .f32) (z : FVec Ideal S4x4x1x1 .f32) (t : FVec Ideal S4x64x4x4x128x1 .f32) (b : Fin 4) (n : Fin 64) (h g : Fin 4) (i : Fin 128) :
    DENS e z t (ix6 b n h g i 0) = (∑ j, e (ix6 b n h g i j)) + Ideal.exp (z (ix4 h g 0 0) - t (ix6 b n h g i 0)) := by
  pointwise [DENS, Six.sum_at]

/-- The output, at an entry. -/
theorem out_at (e : FVec Ideal S4x64x4x4x128x256 .f32) (dn : FVec Ideal S4x64x4x4x128x1 .f32) (v : FVec Ideal S4x64x256x4x64 .f32)
    (r : Fin 32768) (l : Fin 1024) (b : Fin 4) (n : Fin 64) (i : Fin 128) (h g : Fin 4) (d : Fin 64)
    (hr : r.val = b.val * 8192 + n.val * 128 + i.val) (hl : l.val = h.val * 256 + g.val * 64 + d.val) :
    OUT e dn v (ix2 r l) = ∑ j, v (ix5 b n j h d) * Ideal.div (e (ix6 b n h g i j)) (dn (ix6 b n h g i 0)) := by
  have hb : (⟨r.val / 8192, by omega⟩ : Fin 4) = b := Fin.ext (by dsimp only; omega)
  have hn : (⟨r.val / 128 % 64, by omega⟩ : Fin 64) = n := Fin.ext (by dsimp only; omega)
  have hi : (⟨r.val % 128, by omega⟩ : Fin 128) = i := Fin.ext (by dsimp only; omega)
  have hh : (⟨l.val / 256, by omega⟩ : Fin 4) = h := Fin.ext (by dsimp only; omega)
  have hg : (⟨l.val / 64 % 4, by omega⟩ : Fin 4) = g := Fin.ext (by dsimp only; omega)
  have hd : (⟨l.val % 64, by omega⟩ : Fin 64) = d := Fin.ext (by dsimp only; omega)
  pointwise [OUT]
  simp only [hb, hn, hi, hh, hg, hd]

/-- The sink logit of a head. -/
theorem sink_at (a1 : FVec Ideal S16 .f32) (h g : Fin 4) : SINK a1 (ix4 h g 0 0) = a1 (ix1 ⟨4 * h.val + g.val, by omega⟩) := by
  pointwise [SINK]
  exact congrArg a1 ((ix1_inj ..).2 (Fin.ext (by dsimp only; omega)))

/-- The slope of a head. -/
theorem slopes_at (h g : Fin 4) : SLOPES (ix4 h g 0 0) = ((slope (4 * h.val + g.val) : ℝ) : EReal) := by
  pointwise [SLOPES]
  have e : (FloatOps.sitofp (F := Ideal) .f32 (BitVec.ofNat 32 (h.val * 4 + g.val))) = (((4 * h.val + g.val : ℕ) : ℝ) : EReal) := by
    show (((BitVec.ofNat 32 (h.val * 4 + g.val)).toInt : ℝ) : EReal) = _
    have e : (BitVec.ofNat 32 (h.val * 4 + g.val)).toInt = ((4 * h.val + g.val : ℕ) : ℤ) := by
      rw [BitVec.toInt_eq_toNat_cond, BitVec.toNat_ofNat]
      split <;> omega
    rw [e]
    norm_cast
  rw [e, bits_two, bits_neg_eight, bits_sixteen, ← EReal.coe_one, ← EReal.coe_add, ← EReal.coe_mul, Ideal.div_coe (by norm_num),
    ← EReal.coe_mul, Ideal.pow_coe_coe]
  refine congrArg Real.toEReal ?_
  generalize 4 * h.val + g.val = k
  show (2 : ℝ) ^ (_ : ℝ) = _
  unfold slope
  rw [Real.sqrt_eq_rpow, ← Real.rpow_natCast, ← Real.rpow_mul (by norm_num), ← Real.rpow_neg (by norm_num)]
  congr 1
  push_cast
  ring

/-- Three truth values as words, joined. -/
theorem and3 (p q r : Prop) [Decidable p] [Decidable q] [Decidable r] :
    BitVec.ofBool (decide p) &&& BitVec.ofBool (decide q) &&& BitVec.ofBool (decide r) = if p ∧ q ∧ r then 1#1 else 0#1 := by
  by_cases hp : p <;> by_cases hq : q <;> by_cases hr : r <;> simp [hp, hq, hr]

/-- The mask, at an entry. -/
theorem valid_at (n : Fin 64) (i : Fin 128) (j : Fin 256) : VALID (ix3 n i j) = if vis n i j then 1#1 else 0#1 := by
  pointwise [VALID, DIST]
  have h1 := dist_word i j
  have h2 : (IntOp.addi (IntOp.muli (IntOp.subi (BitVec.ofNat 32 n.val) 1#32) 128#32) (BitVec.ofNat 32 j.val)).toInt
      = ((n.val : ℤ) - 1) * 128 + (j.val : ℤ) := by
    simp only [IntOp.subi, IntOp.addi, IntOp.muli]
    rw [BitVec.toInt_eq_toNat_cond]
    simp only [BitVec.toNat_sub, BitVec.toNat_add, BitVec.toNat_mul, BitVec.toNat_ofNat]
    split <;> omega
  have z0 : (0#32).toInt = 0 := by decide
  have z1 : (128#32).toInt = 128 := by decide
  simp only [IntOp.cmpi, IntOp.andi, BitVec.sle_eq_decide, BitVec.slt_eq_decide, h1, h2, z0, z1]
  have d1 : decide ((0 : ℤ) ≤ 128 + (i.val : ℤ) - (j.val : ℤ)) = decide (j.val ≤ 128 + i.val) := decide_eq_decide.2 (by omega)
  have d2 : decide (128 + (i.val : ℤ) - (j.val : ℤ) < 128) = decide (i.val < j.val) := decide_eq_decide.2 (by omega)
  have d3 : decide ((0 : ℤ) ≤ ((n.val : ℤ) - 1) * 128 + (j.val : ℤ)) = decide (n.val = 0 → 128 ≤ j.val) := decide_eq_decide.2 (by omega)
  rw [d1, d2, d3]
  exact and3 _ _ _

/-- The distance as the reference casts it. -/
theorem dist_at (i : Fin 128) (j : Fin 256) : (FloatOps.sitofp (F := Ideal) .f32 (DIST (ix2 i j))) = ((dist i j : ℝ) : EReal) := by
  have e : DIST (ix2 i j) = IntOp.subi (IntOp.addi (BitVec.ofNat 32 i.val) 128#32) (BitVec.ofNat 32 j.val) := by
    pointwise [DIST]
  rw [e]
  show ((((IntOp.subi (IntOp.addi (BitVec.ofNat 32 i.val) 128#32) (BitVec.ofNat 32 j.val)).toInt : ℤ) : ℝ) : EReal) = _
  rw [dist_word]
  unfold dist
  push_cast
  rfl

/-- The masked score, at an entry. -/
theorem scores_at (dt : FVec Ideal S4x64x4x4x128x256 .f32) (b : Fin 4) (n : Fin 64) (h g : Fin 4) (i : Fin 128) (j : Fin 256) :
    SCORES dt (ix6 b n h g i j) = if vis n i j then dt (ix6 b n h g i j) * ((1 / 8 : ℝ) : EReal)
      - ((slope (4 * h.val + g.val) * dist i j : ℝ) : EReal) else ⊥ := by
  pointwise [SCORES]
  rw [valid_at, slopes_at, dist_at, bits_bot, bits_eighth, ← EReal.coe_mul]
  by_cases hv : vis n i j
  · rw [if_pos hv, if_pos hv]; rfl
  · rw [if_neg hv, if_neg hv]; rfl

/-- The reference's result. -/
def REF (a0 : FVec Ideal S4x8192x4616 .f32) (a1 : FVec Ideal S16 .f32) : FVec Ideal S32768x1024 .bf16 :=
  OUT (EXPS (SCORES (DOTS (BAND (KB a0)) (QB a0))) (TOPS (MAXS (SCORES (DOTS (BAND (KB a0)) (QB a0)))) (SINK a1)))
    (DENS (EXPS (SCORES (DOTS (BAND (KB a0)) (QB a0))) (TOPS (MAXS (SCORES (DOTS (BAND (KB a0)) (QB a0)))) (SINK a1))) (SINK a1)
      (TOPS (MAXS (SCORES (DOTS (BAND (KB a0)) (QB a0)))) (SINK a1))) (BAND (VB a0))

/-- It is the term the run ends with. -/
theorem res_eq (m : (ℓ : Loc nD τ sig) → Buf (Elt Ideal) ℓ) (c : Dev nD) :
    Value.res_main_v94 (F := Ideal) m c = REF (m ((c : Thread nD τ).loc main_arg0)) (m ((c : Thread nD τ).loc main_arg1)) := rfl

/-- The reference at an entry is the attention of its query, head and feature. -/
theorem ref_at (a0 : FVec Ideal S4x8192x4616 .f32) (a1 : FVec Ideal S16 .f32)
    (r : Fin 32768) (l : Fin 1024) (b : Fin 4) (n : Fin 64) (i : Fin 128) (h g : Fin 4) (d : Fin 64)
    (hr : r.val = b.val * 8192 + n.val * 128 + i.val) (hl : l.val = h.val * 256 + g.val * 64 + d.val) :
    REF a0 a1 (ix2 r l) = attn a0 a1 b n i h g d := by
  have hs : ∀ j, SCORES (DOTS (BAND (KB a0)) (QB a0)) (ix6 b n h g i j) = score a0 b n i h g j := fun j => by
    rw [scores_at, dots_at]
    simp only [bandk_at, qb_at]
    rfl
  unfold REF
  rw [out_at _ _ _ r l b n i h g d hr hl]
  simp only [dens_at, exps_at, tops_at, maxs_at, hs, sink_at, bandv_at]
  unfold attn refOut top
  exact Finset.sum_congr rfl fun j _ => mul_comm _ _

end Cert.Swa.Ref

end
-- ==== Proof.Swa.Point.lean ====
/- Hand-written: what each store of a grid point of the sliding-window attention holds is the reference's. -/
module

public import proofs.«01_k».proof.Proof.Swa.Blocks
public import proofs.«01_k».proof.Proof.Swa.Ref

@[expose] public section

set_option maxRecDepth 16384

noncomputable section

open Idealize.ShloMosaic Idealize.ShloMosaic.TcCoe Idealize.SL.Sem
open scoped BigOperators

namespace Cert.Swa.Point

open Cert.KernelIdeal Cert.KernelIdeal.Gen Cert.Swa.Group Cert.Swa.Blocks

/-- Heads of equal parts are equal. -/
theorem head_congr {k k' : Fin 256 → Fin 64 → EReal} {q q' : Fin 64 → EReal} {b b' : Fin 256 → EReal} {z z' : EReal} {v v' : Fin 256 → EReal}
    (hk : ∀ j e, k j e = k' j e) (hq : ∀ e, q e = q' e) (hb : ∀ j, b j = b' j) (hz : z = z') (hv : ∀ j, v j = v' j) :
    head k q b z v = head k' q' b' z' v' := by
  obtain rfl : k = k' := funext fun j => funext fun e => hk j e
  obtain rfl : q = q' := funext hq
  obtain rfl : b = b' := funext hb
  obtain rfl : v = v' := funext hv
  rw [hz]

section Tiles
variable (a : (⟨3, ![4, 8192, 4616]⟩ : Shape).Idx → EReal) (z : (⟨1, ![16]⟩ : Shape).Idx → EReal)
  (ha : Fin1280 a) (hz : ∀ i, ∃ r : ℝ, z i = (r : EReal))
  (b : Fin 4) (n : Fin 64) (r : Fin 128) (g : Fin 4) (p : ℕ) (hp : p = 0 ↔ n.val = 0)
  (x y : FVec Ideal S256x128 .f32) (A B : Vec Ideal S128x128 .bf16) (w : FVec Ideal S64x256 .f32) (s : FVec Ideal S1x1x512x256 .f32)
  (z0 z1 z2 z3 : Elt Ideal .f32)
  (hx : ∀ (j : Fin 256) (e : Fin 64), x (ix2 j ⟨e.val, by omega⟩) = near a 1024 (by decide) b n j g e)
  (hy : ∀ (j : Fin 256) (e : Fin 64), y (ix2 j ⟨64 + e.val, by omega⟩) = near a 1024 (by decide) b n j g e)
  (hw : ∀ (d : Fin 64) (j : Fin 256), w (ix2 d j) = near a 1280 (by decide) b n j g d)
  (hA0 : ∀ e : Fin 64, A (ix2 r ⟨e.val, by omega⟩) = query a b n r g 0 e)
  (hA1 : ∀ e : Fin 64, A (ix2 r ⟨64 + e.val, by omega⟩) = query a b n r g 1 e)
  (hB0 : ∀ e : Fin 64, B (ix2 r ⟨e.val, by omega⟩) = query a b n r g 2 e)
  (hB1 : ∀ e : Fin 64, B (ix2 r ⟨64 + e.val, by omega⟩) = query a b n r g 3 e)
  (hs0 : ∀ j : Fin 256, s (ix4 0 0 ⟨j.val, by omega⟩ ⟨r.val, by omega⟩) = Bias.bias p (4 * g.val + 0) j r)
  (hs1 : ∀ j : Fin 256, s (ix4 0 0 ⟨256 + j.val, by omega⟩ ⟨r.val, by omega⟩) = Bias.bias p (4 * g.val + 1) j r)
  (hs2 : ∀ j : Fin 256, s (ix4 0 0 ⟨j.val, by omega⟩ ⟨128 + r.val, by omega⟩) = Bias.bias p (4 * g.val + 2) j r)
  (hs3 : ∀ j : Fin 256, s (ix4 0 0 ⟨256 + j.val, by omega⟩ ⟨128 + r.val, by omega⟩) = Bias.bias p (4 * g.val + 3) j r)
  (e0 : z0 = z (ix1 ⟨4 * g.val + 0, by omega⟩)) (e1 : z1 = z (ix1 ⟨4 * g.val + 2, by omega⟩))
  (e2 : z2 = z (ix1 ⟨4 * g.val + 1, by omega⟩)) (e3 : z3 = z (ix1 ⟨4 * g.val + 3, by omega⟩))
include ha hz hp hx hy hw hA0 hA1 hB0 hB1 hs0 hs1 hs2 hs3 e0 e1 e2 e3

/-- The left pair of a group's heads. -/
theorem left (l : Fin 128) (q : Fin 4) (hq : q.val = l.val / 64) :
    LEFT (FULL w (LOGITS (KEYS x y) (QS A B) s) z0 z1 z2 z3) (ix2 r l) = attn a z b n r g q ⟨l.val % 64, Nat.mod_lt _ (by decide)⟩ := by
  by_cases hl : l.val < 64
  · obtain rfl : q = 0 := Fin.ext (by rw [hq]; exact Nat.div_eq_of_lt hl)
    have el : l = ⟨(⟨l.val % 64, Nat.mod_lt _ (by decide)⟩ : Fin 64).val, by dsimp only; omega⟩ := Fin.ext (by dsimp only; omega)
    refine (congrArg (fun u => LEFT (FULL w (LOGITS (KEYS x y) (QS A B) s) z0 z1 z2 z3) (ix2 r u)) el).trans ?_
    refine (tile_00 x y A B w s z0 z1 z2 z3 r _).trans (Eq.trans ?_ (head_eq a 1024 b n g _ z ha hz r 0 p hp))
    exact head_congr (fun j e => hx j e) (fun e => hA0 e) (fun j => hs0 j) e0 (fun j => hw _ j)
  · obtain rfl : q = 1 := Fin.ext (by rw [hq]; show l.val / 64 = 1; omega)
    have el : l = ⟨64 + (⟨l.val % 64, Nat.mod_lt _ (by decide)⟩ : Fin 64).val, by dsimp only; omega⟩ := Fin.ext (by dsimp only; omega)
    refine (congrArg (fun u => LEFT (FULL w (LOGITS (KEYS x y) (QS A B) s) z0 z1 z2 z3) (ix2 r u)) el).trans ?_
    refine (tile_01 x y A B w s z0 z1 z2 z3 r _).trans (Eq.trans ?_ (head_eq a 1024 b n g _ z ha hz r 1 p hp))
    exact head_congr (fun j e => hy j e) (fun e => hA1 e) (fun j => hs1 j) e2 (fun j => hw _ j)

/-- The right pair of a group's heads. -/
theorem right (l : Fin 128) (q : Fin 4) (hq : q.val = 2 + l.val / 64) :
    RIGHT (FULL w (LOGITS (KEYS x y) (QS A B) s) z0 z1 z2 z3) (ix2 r l) = attn a z b n r g q ⟨l.val % 64, Nat.mod_lt _ (by decide)⟩ := by
  by_cases hl : l.val < 64
  · obtain rfl : q = 2 := Fin.ext (by rw [hq]; show 2 + l.val / 64 = 2; omega)
    have el : l = ⟨(⟨l.val % 64, Nat.mod_lt _ (by decide)⟩ : Fin 64).val, by dsimp only; omega⟩ := Fin.ext (by dsimp only; omega)
    refine (congrArg (fun u => RIGHT (FULL w (LOGITS (KEYS x y) (QS A B) s) z0 z1 z2 z3) (ix2 r u)) el).trans ?_
    refine (tile_10 x y A B w s z0 z1 z2 z3 r _).trans (Eq.trans ?_ (head_eq a 1024 b n g _ z ha hz r 2 p hp))
    exact head_congr (fun j e => hx j e) (fun e => hB0 e) (fun j => hs2 j) e1 (fun j => hw _ j)
  · obtain rfl : q = 3 := Fin.ext (by rw [hq]; show 2 + l.val / 64 = 3; omega)
    have el : l = ⟨64 + (⟨l.val % 64, Nat.mod_lt _ (by decide)⟩ : Fin 64).val, by dsimp only; omega⟩ := Fin.ext (by dsimp only; omega)
    refine (congrArg (fun u => RIGHT (FULL w (LOGITS (KEYS x y) (QS A B) s) z0 z1 z2 z3) (ix2 r u)) el).trans ?_
    refine (tile_11 x y A B w s z0 z1 z2 z3 r _).trans (Eq.trans ?_ (head_eq a 1024 b n g _ z ha hz r 3 p hp))
    exact head_congr (fun j e => hy j e) (fun e => hB1 e) (fun j => hs3 j) e3 (fun j => hw _ j)

end Tiles

section Parts
variable (m : (ℓ : Loc nD τ sig) → Buf (Elt Ideal) ℓ)

/-- The batch and the block of a grid point. -/
def bat (t : Fin cfg0.N) : Fin 4 := ⟨t.val / 64, by have := t.isLt; have e : cfg0.N = 256 := N_0; omega⟩
def blkn (t : Fin cfg0.N) : Fin 64 := ⟨t.val % 64, Nat.mod_lt _ (by decide)⟩

/-- The keys a grid point holds. -/
theorem keys_near (c : Dev nD) (t : Fin cfg0.N) (kp kc : Vec Ideal S128x256 .bf16) (ep : kp = iblk m c 3 t) (ec : kc = iblk m c 2 t)
    (j : Fin 256) (h : Fin 4) (e : Fin 64) :
    k0_pay28 kp kc (ix2 j ⟨h.val * 64 + e.val, by omega⟩)
      = near (m ((c : Thread nD τ).loc main_arg0)) 1024 (by decide) (bat t) (blkn t) j h e := by
  have ht : t.val < 256 := lt_of_lt_of_eq t.isLt N_0
  rw [keys_at]
  unfold near
  subst ep ec
  by_cases hj : j.val < 128
  · rw [dif_pos hj, dif_pos hj]
    refine ((blk_kp m c t _ _ ⟨((t.val / 64) * 64 + (t.val % 64 - 1)) * 128 + j.val, by omega⟩ ⟨4096 + (h.val * 64 + e.val), by omega⟩ rfl rfl).trans
      (entry_k m c _ ⟨h.val * 64 + e.val, by omega⟩)).trans ?_
    refine congrArg _ ?_
    congr 1 <;> refine Fin.ext ?_ <;> simp only [bat, blkn] <;> omega
  · rw [dif_neg hj, dif_neg hj]
    refine ((blk_kc m c t _ _ ⟨t.val * 128 + (j.val - 128), by omega⟩ ⟨4096 + (h.val * 64 + e.val), by omega⟩ rfl rfl).trans
      (entry_k m c _ ⟨h.val * 64 + e.val, by omega⟩)).trans ?_
    refine congrArg _ ?_
    congr 1 <;> refine Fin.ext ?_ <;> simp only [bat, blkn] <;> omega

/-- The values a grid point holds. -/
theorem vals_near (c : Dev nD) (t : Fin cfg0.N) (vp vc : Vec Ideal S128x256 .bf16) (ep : vp = iblk m c 5 t) (ec : vc = iblk m c 4 t)
    (j : Fin 256) (h : Fin 4) (e : Fin 64) :
    k0_pay29 vp vc (ix2 ⟨h.val * 64 + e.val, by omega⟩ j)
      = near (m ((c : Thread nD τ).loc main_arg0)) 1280 (by decide) (bat t) (blkn t) j h e := by
  have ht : t.val < 256 := lt_of_lt_of_eq t.isLt N_0
  rw [vals_at]
  unfold near
  subst ep ec
  by_cases hj : j.val < 128
  · rw [dif_pos hj, dif_pos hj]
    refine ((blk_vp m c t _ _ ⟨((t.val / 64) * 64 + (t.val % 64 - 1)) * 128 + j.val, by omega⟩ ⟨4352 + (h.val * 64 + e.val), by omega⟩ rfl rfl).trans
      (entry_v m c _ ⟨h.val * 64 + e.val, by omega⟩)).trans ?_
    refine congrArg _ ?_
    congr 1 <;> refine Fin.ext ?_ <;> simp only [bat, blkn] <;> omega
  · rw [dif_neg hj, dif_neg hj]
    refine ((blk_vc m c t _ _ ⟨t.val * 128 + (j.val - 128), by omega⟩ ⟨4352 + (h.val * 64 + e.val), by omega⟩ rfl rfl).trans
      (entry_v m c _ ⟨h.val * 64 + e.val, by omega⟩)).trans ?_
    refine congrArg _ ?_
    congr 1 <;> refine Fin.ext ?_ <;> simp only [bat, blkn] <;> omega

/-- The queries a grid point holds. -/
theorem query_at (c : Dev nD) (t : Fin cfg0.N) (x : FVec Ideal S128x1024 .bf16) (ex : x = X0_1 m c t) (r : Fin 128) (g q : Fin 4) (e : Fin 64)
    (K : Fin 1024) (hK : K.val = g.val * 256 + q.val * 64 + e.val) :
    x (ix2 r K) = query (m ((c : Thread nD τ).loc main_arg0)) (bat t) (blkn t) r g q e := by
  have ht : t.val < 256 := lt_of_lt_of_eq t.isLt N_0
  subst ex
  unfold query
  refine ((blk_q m c t _ _ ⟨t.val * 128 + r.val, by omega⟩ ⟨K.val, by omega⟩ rfl rfl).trans (entry_q m c _ K)).trans ?_
  refine congrArg _ ?_
  congr 1 <;> refine Fin.ext ?_ <;> simp only [bat, blkn] <;> omega

/-- The biases a grid point loads. -/
theorem bias_at (p : Fin 2) (g : Fin 4) (off : Fin 4 → ℕ) (inb : ∀ a, off a + (![1, 1, 512, 256] : Fin 4 → ℕ) a ≤ S2x4x512x256.size a)
    (T : S2x4x512x256.Idx → EReal) (hT : T = Bias.TAB) (ho : off = ![p.val, g.val, 0, 0]) (u v : ℕ) (hu : u < 2) (hv : v < 2) (j : Fin 256) (r : Fin 128)
    (R : Fin 512) (K : Fin 256) (hR : R.val = 256 * v + j.val) (hK : K.val = 128 * u + r.val) (k : ℕ) (hk : k = 4 * g.val + (2 * u + v)) :
    View.ld (Val := Elt Ideal) (e' := .f32) T (Rect.unit off ![1, 1, 512, 256] inb) (ix4 0 0 R K) = Bias.bias p.val k j r := by
  subst hT
  refine (ld_b _ off inb p g ho R K).trans ?_
  show Bias.bias p.val (4 * g.val + 2 * (K.val / 128) + R.val / 256) ⟨R.val % 256, _⟩ ⟨K.val % 128, _⟩ = _
  congr 1
  · omega
  · exact Fin.ext (by dsimp only; omega)
  · exact Fin.ext (by dsimp only; omega)

/-- Which half of the table each group's load takes. -/
def half (t : Fin cfg0.N) : Fin 2 := if t.val % 64 = 0 then 0 else 1
theorem half_zero (t : Fin cfg0.N) : (half t).val = 0 ↔ (blkn t).val = 0 := by
  unfold half blkn
  split <;> simp_all
theorem off_eq : ∀ t : Fin cfg0.N, k0_off1 (grid0.coords t) = ![(half t).val, 0, 0, 0] ∧ k0_off2 (grid0.coords t) = ![(half t).val, 1, 0, 0]
    ∧ k0_off3 (grid0.coords t) = ![(half t).val, 2, 0, 0] ∧ k0_off4 (grid0.coords t) = ![(half t).val, 3, 0, 0] :=
  (by decide +kernel : ∀ t : Fin grid0.N, _)

end Parts

/-- Where a head's channel sits in its half of a pair, and in the four heads. -/
abbrev lo (e : Fin 64) : Fin 128 := ⟨e.val, lt_of_lt_of_le e.isLt (by decide)⟩
abbrev hi (e : Fin 64) : Fin 128 := ⟨64 + e.val, Nat.add_lt_add_left e.isLt 64⟩
abbrev chan (g : Fin 4) (e : Fin 64) : Fin 256 :=
  ⟨g.val * 64 + e.val, lt_of_lt_of_le (Nat.add_lt_add_left e.isLt _) (Nat.succ_mul _ _ ▸ Nat.mul_le_mul_right 64 g.isLt)⟩

/-- The reference at an index, by its coordinates. -/
theorem ref_at_idx (a0 : FVec Ideal Cert.ReferenceIdeal.S4x8192x4616 .f32) (a1 : FVec Ideal Cert.ReferenceIdeal.S16 .f32)
    (k : S32768x1024.Idx) (b : Fin 4) (n : Fin 64) (i : Fin 128) (h g : Fin 4) (d : Fin 64)
    (hr : (k 0).val = b.val * 8192 + n.val * 128 + i.val) (hl : (k 1).val = h.val * 256 + g.val * 64 + d.val) :
    Ref.REF a0 a1 k = attn a0 a1 b n i h g d :=
  (congrArg (Ref.REF a0 a1) (eq_ix2 k)).trans (Ref.ref_at a0 a1 (k 0) (k 1) b n i h g d hr hl)

section Core
variable (m : (ℓ : Loc nD τ sig) → Buf (Elt Ideal) ℓ)

/-- A sink a grid point loads. -/
theorem sink (c : Dev nD) (t : Fin cfg0.N) (g : Fin 4) (S : FVec Ideal S16 .f32) (eS : S = iblk m c 0 t) (u : Fin 4) (o : ℕ) (ho : o = 4 * g.val + u.val)
    (inb : ∀ a : Fin 1, (![o] : Fin 1 → ℕ) a + (![1] : Fin 1 → ℕ) a ≤ S16.size a) (f : 0 < (Rect.unit (s := S16) ![o] ![1] inb).shape.numel) :
    View.ld (Val := Elt Ideal) (e' := .f32) S (Rect.unit (s := S16) ![o] ![1] inb) (Shape.Idx.first f)
      = (m ((c : Thread nD τ).loc main_arg1) : FVec Ideal S16 .f32) (ix1 ⟨4 * g.val + u.val, by omega⟩) := by
  subst eS
  exact (ld_z _ o inb f ⟨4 * g.val + u.val, by omega⟩ ho.symm).trans ((blk_z m c t _).trans (entry_z m c _))

variable (c : Dev nD) (t : Fin cfg0.N)
  (ha : Fin1280 (m ((c : Thread nD τ).loc main_arg0) : FVec Ideal S4x8192x4616 .f32))
  (hz : ∀ i, ∃ r : ℝ, (m ((c : Thread nD τ).loc main_arg1) : FVec Ideal S16 .f32) i = (r : EReal)) (g : Fin 4)
  (kp kc vp vc : Vec Ideal S128x256 .bf16) (ekp : kp = iblk m c 3 t) (ekc : kc = iblk m c 2 t) (evp : vp = iblk m c 5 t) (evc : vc = iblk m c 4 t)
  (Q : FVec Ideal S128x1024 .bf16) (eQ : Q = X0_1 m c t) (A B : Vec Ideal S128x128 .bf16) (o1 o2 : ℕ) (ho1 : o1 = 256 * g.val) (ho2 : o2 = 256 * g.val + 128)
  (inb1 : ∀ a, (![0, o1] : Fin 2 → ℕ) a + (![128, 128] : Fin 2 → ℕ) a ≤ S128x1024.size a)
  (inb2 : ∀ a, (![0, o2] : Fin 2 → ℕ) a + (![128, 128] : Fin 2 → ℕ) a ≤ S128x1024.size a)
  (hA : A = View.ld (Val := Elt Ideal) (e' := .bf16) Q (Rect.unit ![0, o1] ![128, 128] inb1))
  (hB : B = View.ld (Val := Elt Ideal) (e' := .bf16) Q (Rect.unit ![0, o2] ![128, 128] inb2))
  (T : S2x4x512x256.Idx → EReal) (hT : T = Bias.TAB) (s : FVec Ideal S1x1x512x256 .f32) (off : Fin 4 → ℕ)
  (hoff : off = ![(half t).val, g.val, 0, 0]) (inb3 : ∀ a, off a + (![1, 1, 512, 256] : Fin 4 → ℕ) a ≤ S2x4x512x256.size a)
  (hs : s = View.ld (Val := Elt Ideal) (e' := .f32) T (Rect.unit off ![1, 1, 512, 256] inb3))
  (S : FVec Ideal S16 .f32) (eS : S = iblk m c 0 t) (z0 z1 z2 z3 : Elt Ideal .f32) (p0 p1 p2 p3 : ℕ)
  (hp0 : p0 = 4 * g.val + 0) (hp1 : p1 = 4 * g.val + 2) (hp2 : p2 = 4 * g.val + 1) (hp3 : p3 = 4 * g.val + 3)
  (inz0 : ∀ a : Fin 1, (![p0] : Fin 1 → ℕ) a + (![1] : Fin 1 → ℕ) a ≤ S16.size a) (f0 : 0 < (Rect.unit (s := S16) ![p0] ![1] inz0).shape.numel)
  (e0 : z0 = View.ld (Val := Elt Ideal) (e' := .f32) S (Rect.unit (s := S16) ![p0] ![1] inz0) (Shape.Idx.first f0))
  (inz1 : ∀ a : Fin 1, (![p1] : Fin 1 → ℕ) a + (![1] : Fin 1 → ℕ) a ≤ S16.size a) (f1 : 0 < (Rect.unit (s := S16) ![p1] ![1] inz1).shape.numel)
  (e1 : z1 = View.ld (Val := Elt Ideal) (e' := .f32) S (Rect.unit (s := S16) ![p1] ![1] inz1) (Shape.Idx.first f1))
  (inz2 : ∀ a : Fin 1, (![p2] : Fin 1 → ℕ) a + (![1] : Fin 1 → ℕ) a ≤ S16.size a) (f2 : 0 < (Rect.unit (s := S16) ![p2] ![1] inz2).shape.numel)
  (e2 : z2 = View.ld (Val := Elt Ideal) (e' := .f32) S (Rect.unit (s := S16) ![p2] ![1] inz2) (Shape.Idx.first f2))
  (inz3 : ∀ a : Fin 1, (![p3] : Fin 1 → ℕ) a + (![1] : Fin 1 → ℕ) a ≤ S16.size a) (f3 : 0 < (Rect.unit (s := S16) ![p3] ![1] inz3).shape.numel)
  (e3 : z3 = View.ld (Val := Elt Ideal) (e' := .f32) S (Rect.unit (s := S16) ![p3] ![1] inz3) (Shape.Idx.first f3))
include ha hz ekp ekc evp evc eQ ho1 ho2 hA hB hT hoff hs eS hp0 hp1 hp2 hp3 e0 e1 e2 e3

/-- The left pair of a group, at a grid point, in terms of the arguments. -/
theorem core_left (x y : FVec Ideal S256x128 .f32) (w : FVec Ideal S64x256 .f32)
    (hx : ∀ (j : Fin 256) (e : Fin 64), x (ix2 j (lo e)) = k0_pay28 kp kc (ix2 j (chan g e)))
    (hy : ∀ (j : Fin 256) (e : Fin 64), y (ix2 j (hi e)) = k0_pay28 kp kc (ix2 j (chan g e)))
    (hw : ∀ (d : Fin 64) (j : Fin 256), w (ix2 d j) = k0_pay29 vp vc (ix2 (chan g d) j))
    (i : S128x128.Idx) (k : S32768x1024.Idx) (h0 : (k 0).val = t.val * 128 + (i 0).val) (h1 : (k 1).val = 256 * g.val + 0 + (i 1).val) :
    LEFT (FULL w (LOGITS (KEYS x y) (QS A B) s) z0 z1 z2 z3) i
      = Ref.REF (m ((c : Thread nD τ).loc main_arg0)) (m ((c : Thread nD τ).loc main_arg1)) k := by
  have ht : t.val < 256 := lt_of_lt_of_eq t.isLt N_0
  have i0 : (i 0).val < 128 := (i 0).isLt
  have i1 : (i 1).val < 128 := (i 1).isLt
  refine (congrArg (LEFT (FULL w (LOGITS (KEYS x y) (QS A B) s) z0 z1 z2 z3)) (eq_ix2 i)).trans ?_
  refine (left (m ((c : Thread nD τ).loc main_arg0)) (m ((c : Thread nD τ).loc main_arg1)) ha hz (bat t) (blkn t) (i 0) g (half t).val (half_zero t)
    x y A B w s z0 z1 z2 z3 (fun j e => (hx j e).trans (keys_near m c t kp kc ekp ekc j g e)) (fun j e => (hy j e).trans (keys_near m c t kp kc ekp ekc j g e))
    (fun d j => (hw d j).trans (vals_near m c t vp vc evp evc j g d)) ?_ ?_ ?_ ?_ ?_ ?_ ?_ ?_ ?_ ?_ ?_ ?_ (i 1) ⟨(i 1).val / 64, by omega⟩ rfl).trans
    (ref_at_idx _ _ k _ _ _ _ _ _ ?_ ?_).symm
  · intro e; subst hA; exact (ld_q Q o1 inb1 (i 0) _ ⟨256 * g.val + e.val, by omega⟩ (by dsimp only; omega)).trans
      (query_at m c t Q eQ (i 0) g 0 e _ (by show 256 * g.val + e.val = g.val * 256 + 0 * 64 + e.val; omega))
  · intro e; subst hA; exact (ld_q Q o1 inb1 (i 0) _ ⟨256 * g.val + (64 + e.val), by omega⟩ (by dsimp only; omega)).trans
      (query_at m c t Q eQ (i 0) g 1 e _ (by show 256 * g.val + (64 + e.val) = g.val * 256 + 1 * 64 + e.val; omega))
  · intro e; subst hB; exact (ld_q Q o2 inb2 (i 0) _ ⟨256 * g.val + (128 + e.val), by omega⟩ (by dsimp only; omega)).trans
      (query_at m c t Q eQ (i 0) g 2 e _ (by show 256 * g.val + (128 + e.val) = g.val * 256 + 2 * 64 + e.val; omega))
  · intro e; subst hB; exact (ld_q Q o2 inb2 (i 0) _ ⟨256 * g.val + (192 + e.val), by omega⟩ (by dsimp only; omega)).trans
      (query_at m c t Q eQ (i 0) g 3 e _ (by show 256 * g.val + (192 + e.val) = g.val * 256 + 3 * 64 + e.val; omega))
  · intro j; subst hs; exact bias_at (half t) g off inb3 T hT hoff 0 0 (by decide) (by decide) j (i 0) _ _ (by first | (dsimp only; omega) | dsimp only) (by first | (dsimp only; omega) | dsimp only) _ (by omega)
  · intro j; subst hs; exact bias_at (half t) g off inb3 T hT hoff 0 1 (by decide) (by decide) j (i 0) _ _ (by first | (dsimp only; omega) | dsimp only) (by first | (dsimp only; omega) | dsimp only) _ (by omega)
  · intro j; subst hs; exact bias_at (half t) g off inb3 T hT hoff 1 0 (by decide) (by decide) j (i 0) _ _ (by first | (dsimp only; omega) | dsimp only) (by first | (dsimp only; omega) | dsimp only) _ (by omega)
  · intro j; subst hs; exact bias_at (half t) g off inb3 T hT hoff 1 1 (by decide) (by decide) j (i 0) _ _ (by first | (dsimp only; omega) | dsimp only) (by first | (dsimp only; omega) | dsimp only) _ (by omega)
  · exact e0.trans (sink m c t g S eS 0 p0 hp0 inz0 f0)
  · exact e1.trans (sink m c t g S eS 2 p1 hp1 inz1 f1)
  · exact e2.trans (sink m c t g S eS 1 p2 hp2 inz2 f2)
  · exact e3.trans (sink m c t g S eS 3 p3 hp3 inz3 f3)
  · simp only [bat, blkn]; omega
  · dsimp only; omega

/-- The right pair of a group, at a grid point, in terms of the arguments. -/
theorem core_right (x y : FVec Ideal S256x128 .f32) (w : FVec Ideal S64x256 .f32)
    (hx : ∀ (j : Fin 256) (e : Fin 64), x (ix2 j (lo e)) = k0_pay28 kp kc (ix2 j (chan g e)))
    (hy : ∀ (j : Fin 256) (e : Fin 64), y (ix2 j (hi e)) = k0_pay28 kp kc (ix2 j (chan g e)))
    (hw : ∀ (d : Fin 64) (j : Fin 256), w (ix2 d j) = k0_pay29 vp vc (ix2 (chan g d) j))
    (i : S128x128.Idx) (k : S32768x1024.Idx) (h0 : (k 0).val = t.val * 128 + (i 0).val) (h1 : (k 1).val = 256 * g.val + 128 + (i 1).val) :
    RIGHT (FULL w (LOGITS (KEYS x y) (QS A B) s) z0 z1 z2 z3) i
      = Ref.REF (m ((c : Thread nD τ).loc main_arg0)) (m ((c : Thread nD τ).loc main_arg1)) k := by
  have ht : t.val < 256 := lt_of_lt_of_eq t.isLt N_0
  have i0 : (i 0).val < 128 := (i 0).isLt
  have i1 : (i 1).val < 128 := (i 1).isLt
  refine (congrArg (RIGHT (FULL w (LOGITS (KEYS x y) (QS A B) s) z0 z1 z2 z3)) (eq_ix2 i)).trans ?_
  refine (right (m ((c : Thread nD τ).loc main_arg0)) (m ((c : Thread nD τ).loc main_arg1)) ha hz (bat t) (blkn t) (i 0) g (half t).val (half_zero t)
    x y A B w s z0 z1 z2 z3 (fun j e => (hx j e).trans (keys_near m c t kp kc ekp ekc j g e)) (fun j e => (hy j e).trans (keys_near m c t kp kc ekp ekc j g e))
    (fun d j => (hw d j).trans (vals_near m c t vp vc evp evc j g d)) ?_ ?_ ?_ ?_ ?_ ?_ ?_ ?_ ?_ ?_ ?_ ?_ (i 1) ⟨2 + (i 1).val / 64, by omega⟩ rfl).trans
    (ref_at_idx _ _ k _ _ _ _ _ _ ?_ ?_).symm
  · intro e; subst hA; exact (ld_q Q o1 inb1 (i 0) _ ⟨256 * g.val + e.val, by omega⟩ (by dsimp only; omega)).trans
      (query_at m c t Q eQ (i 0) g 0 e _ (by show 256 * g.val + e.val = g.val * 256 + 0 * 64 + e.val; omega))
  · intro e; subst hA; exact (ld_q Q o1 inb1 (i 0) _ ⟨256 * g.val + (64 + e.val), by omega⟩ (by dsimp only; omega)).trans
      (query_at m c t Q eQ (i 0) g 1 e _ (by show 256 * g.val + (64 + e.val) = g.val * 256 + 1 * 64 + e.val; omega))
  · intro e; subst hB; exact (ld_q Q o2 inb2 (i 0) _ ⟨256 * g.val + (128 + e.val), by omega⟩ (by dsimp only; omega)).trans
      (query_at m c t Q eQ (i 0) g 2 e _ (by show 256 * g.val + (128 + e.val) = g.val * 256 + 2 * 64 + e.val; omega))
  · intro e; subst hB; exact (ld_q Q o2 inb2 (i 0) _ ⟨256 * g.val + (192 + e.val), by omega⟩ (by dsimp only; omega)).trans
      (query_at m c t Q eQ (i 0) g 3 e _ (by show 256 * g.val + (192 + e.val) = g.val * 256 + 3 * 64 + e.val; omega))
  · intro j; subst hs; exact bias_at (half t) g off inb3 T hT hoff 0 0 (by decide) (by decide) j (i 0) _ _ (by first | (dsimp only; omega) | dsimp only) (by first | (dsimp only; omega) | dsimp only) _ (by omega)
  · intro j; subst hs; exact bias_at (half t) g off inb3 T hT hoff 0 1 (by decide) (by decide) j (i 0) _ _ (by first | (dsimp only; omega) | dsimp only) (by first | (dsimp only; omega) | dsimp only) _ (by omega)
  · intro j; subst hs; exact bias_at (half t) g off inb3 T hT hoff 1 0 (by decide) (by decide) j (i 0) _ _ (by first | (dsimp only; omega) | dsimp only) (by first | (dsimp only; omega) | dsimp only) _ (by omega)
  · intro j; subst hs; exact bias_at (half t) g off inb3 T hT hoff 1 1 (by decide) (by decide) j (i 0) _ _ (by first | (dsimp only; omega) | dsimp only) (by first | (dsimp only; omega) | dsimp only) _ (by omega)
  · exact e0.trans (sink m c t g S eS 0 p0 hp0 inz0 f0)
  · exact e1.trans (sink m c t g S eS 2 p1 hp1 inz1 f1)
  · exact e2.trans (sink m c t g S eS 1 p2 hp2 inz2 f2)
  · exact e3.trans (sink m c t g S eS 3 p3 hp3 inz3 f3)
  · simp only [bat, blkn]; omega
  · dsimp only; omega

end Core

/-- The keys and values each group takes. -/
theorem x0 (k : FVec Ideal S256x256 .f32) (j : Fin 256) (e : Fin 64) :
    KL k (ix2 j (lo e)) = k (ix2 j (chan 0 e)) := by
  rw [kl_at]
  exact congrArg (fun u => k (ix2 j u)) (Fin.ext (by show _ = 0 * 64 + e.val; first | (dsimp only; omega) | dsimp only | rfl))
theorem y0 (k : FVec Ideal S256x256 .f32) (j : Fin 256) (e : Fin 64) :
    ROT (KL k) (ix2 j (hi e)) = k (ix2 j (chan 0 e)) := by
  rw [rot_at, kl_at]
  exact congrArg (fun u => k (ix2 j u)) (Fin.ext (by show _ = 0 * 64 + e.val; first | (dsimp only; omega) | dsimp only | rfl))
theorem v0 (v : FVec Ideal S256x256 .f32) (d : Fin 64) (j : Fin 256) :
    W0 v (ix2 d j) = v (ix2 (chan 0 d) j) := by
  rw [w0_at]
  exact congrArg (fun u => v (ix2 u j)) (Fin.ext (by show _ = 0 * 64 + d.val; first | (dsimp only; omega) | dsimp only))

theorem x1 (k : FVec Ideal S256x256 .f32) (j : Fin 256) (e : Fin 64) :
    ROT (KL k) (ix2 j (lo e)) = k (ix2 j (chan 1 e)) := by
  rw [rot_at, kl_at]
  exact congrArg (fun u => k (ix2 j u)) (Fin.ext (by show _ = 1 * 64 + e.val; first | (dsimp only; omega) | dsimp only | rfl))
theorem y1 (k : FVec Ideal S256x256 .f32) (j : Fin 256) (e : Fin 64) :
    KL k (ix2 j (hi e)) = k (ix2 j (chan 1 e)) := by
  rw [kl_at]
  exact congrArg (fun u => k (ix2 j u)) (Fin.ext (by show _ = 1 * 64 + e.val; first | (dsimp only; omega) | dsimp only | rfl))
theorem v1 (v : FVec Ideal S256x256 .f32) (d : Fin 64) (j : Fin 256) :
    W1 v (ix2 d j) = v (ix2 (chan 1 d) j) := by
  rw [w1_at]
  exact congrArg (fun u => v (ix2 u j)) (Fin.ext (by show _ = 1 * 64 + d.val; first | (dsimp only; omega) | dsimp only))

theorem x2 (k : FVec Ideal S256x256 .f32) (j : Fin 256) (e : Fin 64) :
    KR k (ix2 j (lo e)) = k (ix2 j (chan 2 e)) := by
  rw [kr_at]
  exact congrArg (fun u => k (ix2 j u)) (Fin.ext (by show _ = 2 * 64 + e.val; first | (dsimp only; omega) | dsimp only | rfl))
theorem y2 (k : FVec Ideal S256x256 .f32) (j : Fin 256) (e : Fin 64) :
    ROT (KR k) (ix2 j (hi e)) = k (ix2 j (chan 2 e)) := by
  rw [rot_at, kr_at]
  exact congrArg (fun u => k (ix2 j u)) (Fin.ext (by show _ = 2 * 64 + e.val; first | (dsimp only; omega) | dsimp only | rfl))
theorem v2 (v : FVec Ideal S256x256 .f32) (d : Fin 64) (j : Fin 256) :
    W2 v (ix2 d j) = v (ix2 (chan 2 d) j) := by
  rw [w2_at]
  exact congrArg (fun u => v (ix2 u j)) (Fin.ext (by show _ = 2 * 64 + d.val; first | (dsimp only; omega) | dsimp only))

theorem x3 (k : FVec Ideal S256x256 .f32) (j : Fin 256) (e : Fin 64) :
    ROT (KR k) (ix2 j (lo e)) = k (ix2 j (chan 3 e)) := by
  rw [rot_at, kr_at]
  exact congrArg (fun u => k (ix2 j u)) (Fin.ext (by show _ = 3 * 64 + e.val; first | (dsimp only; omega) | dsimp only | rfl))
theorem y3 (k : FVec Ideal S256x256 .f32) (j : Fin 256) (e : Fin 64) :
    KR k (ix2 j (hi e)) = k (ix2 j (chan 3 e)) := by
  rw [kr_at]
  exact congrArg (fun u => k (ix2 j u)) (Fin.ext (by show _ = 3 * 64 + e.val; first | (dsimp only; omega) | dsimp only | rfl))
theorem v3 (v : FVec Ideal S256x256 .f32) (d : Fin 64) (j : Fin 256) :
    W3 v (ix2 d j) = v (ix2 (chan 3 d) j) := by
  rw [w3_at]
  exact congrArg (fun u => v (ix2 u j)) (Fin.ext (by show _ = 3 * 64 + d.val; first | (dsimp only; omega) | dsimp only))

end Cert.Swa.Point

end
-- ==== Proof.Swa.Value.lean ====
/- Hand-written: the sliding-window attention of the kernel, over extended reals, is the reference's. -/
module

public import proofs.«01_k».proof.Proof.Swa.Point
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Swa.Value

open Cert.KernelIdeal Cert.KernelIdeal.Gen Cert.Swa.Group Cert.Swa.Blocks Cert.Swa.Point

variable (m : (ℓ : Loc nD τ sig) → Buf (Elt Ideal) ℓ)

/-- Where a stored block sits in the result. -/
theorem row0 (t : Fin cfg0.N) (y) : ((((cfg0.win 6).blk t).view.emb y : S32768x1024.Idx) 0).val = t.val * 128 + (y 0).val := by
  blk_simp [idx_val t] <;> (dsimp only; omega)
theorem row1 (t : Fin cfg0.N) (y) : ((((cfg0.win 6).blk t).view.emb y : S32768x1024.Idx) 1).val = (y 1).val := by
  blk_simp [idx_val t] <;> (dsimp only; omega)

/-- The first point leaves the table in the scratch. -/
theorem scratch_A (c : Dev nD) (t : Fin cfg0.N) (h0 : t.val % 256 = 0) :
    sout0_A_0 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) ((hcond0_0 t).mpr h0) (iblk m c 0 t) (X0_1 m c t) (iblk m c 2 t) (iblk m c 3 t) (iblk m c 4 t) (iblk m c 5 t) = Bias.TAB := by
  refine Eq.trans ?_ Bias.canon_tab
  funext y
  frame_out
  rfl

/-- Every point finds and leaves the table in the scratch. -/
theorem scratch (c : Dev nD) : ∀ (n : ℕ) (hn : n < cfg0.N), (outsAt0 m c n hn).2 = Bias.TAB
  | 0, hn => by
    rw [outsAt0_A m c ⟨0, hn⟩ (Nat.zero_mod _)]
    exact scratch_A m c ⟨0, hn⟩ (Nat.zero_mod _)
  | n + 1, hn => by
    have h : ¬ (⟨n + 1, hn⟩ : Fin cfg0.N).val % 256 = 0 := by
      have e : cfg0.N = 256 := N_0
      show ¬ (n + 1) % 256 = 0
      omega
    rw [outsAt0_B m c ⟨n + 1, hn⟩ h]
    exact scratch c n (Nat.lt_of_succ_lt hn)

variable (c : Dev nD) (ha : Fin1280 (m ((c : Thread nD τ).loc main_arg0) : FVec Ideal S4x8192x4616 .f32))
  (hz : ∀ i, ∃ r : ℝ, (m ((c : Thread nD τ).loc main_arg1) : FVec Ideal S16 .f32) i = (r : EReal))
include ha hz

set_option maxHeartbeats 1600000 in
/-- What the first point stores is the reference's. -/
theorem point_A (t : Fin cfg0.N) (h0 : t.val % 256 = 0) (y) :
    (out0_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) ((hcond0_0 t).mpr h0)
      (iblk m c 0 t) (X0_1 m c t) (iblk m c 2 t) (iblk m c 3 t) (iblk m c 4 t) (iblk m c 5 t)) y
      = Ref.REF (m ((c : Thread nD τ).loc main_arg0)) (m ((c : Thread nD τ).loc main_arg1)) (((cfg0.win 6).blk t).view.emb y) := by
  frame_out
  canon_tiles x h
  · refine (congrFun (store_31 _ _ _ _ _ _ _ _ _ _ _) x).trans ?_
    exact core_right m c t ha hz 3 _ _ _ _ rfl rfl rfl rfl _ rfl _ _ 768 896 rfl rfl _ _ rfl rfl _ Bias.canon_tab _ _ (off_eq t).2.2.2 _ rfl _ rfl _ _ _ _ 12 14 13 15
      rfl rfl rfl rfl _ _ rfl _ _ rfl _ _ rfl _ _ rfl _ _ _ (x3 _) (y3 _) (v3 _) x _ (by rw [row0, h0]) (by rw [row1, h1]; first | rfl | omega)
  · refine (congrFun (store_30 _ _ _ _ _ _ _ _ _ _ _) x).trans ?_
    exact core_left m c t ha hz 3 _ _ _ _ rfl rfl rfl rfl _ rfl _ _ 768 896 rfl rfl _ _ rfl rfl _ Bias.canon_tab _ _ (off_eq t).2.2.2 _ rfl _ rfl _ _ _ _ 12 14 13 15
      rfl rfl rfl rfl _ _ rfl _ _ rfl _ _ rfl _ _ rfl _ _ _ (x3 _) (y3 _) (v3 _) x _ (by rw [row0, h0]) (by rw [row1, h1]; first | rfl | omega)
  · refine (congrFun (store_21 _ _ _ _ _ _ _ _ _ _ _) x).trans ?_
    exact core_right m c t ha hz 2 _ _ _ _ rfl rfl rfl rfl _ rfl _ _ 512 640 rfl rfl _ _ rfl rfl _ Bias.canon_tab _ _ (off_eq t).2.2.1 _ rfl _ rfl _ _ _ _ 8 10 9 11
      rfl rfl rfl rfl _ _ rfl _ _ rfl _ _ rfl _ _ rfl _ _ _ (x2 _) (y2 _) (v2 _) x _ (by rw [row0, h0]) (by rw [row1, h1]; first | rfl | omega)
  · refine (congrFun (store_20 _ _ _ _ _ _ _ _ _ _ _) x).trans ?_
    exact core_left m c t ha hz 2 _ _ _ _ rfl rfl rfl rfl _ rfl _ _ 512 640 rfl rfl _ _ rfl rfl _ Bias.canon_tab _ _ (off_eq t).2.2.1 _ rfl _ rfl _ _ _ _ 8 10 9 11
      rfl rfl rfl rfl _ _ rfl _ _ rfl _ _ rfl _ _ rfl _ _ _ (x2 _) (y2 _) (v2 _) x _ (by rw [row0, h0]) (by rw [row1, h1]; first | rfl | omega)
  · refine (congrFun (store_11 _ _ _ _ _ _ _ _ _ _ _) x).trans ?_
    exact core_right m c t ha hz 1 _ _ _ _ rfl rfl rfl rfl _ rfl _ _ 256 384 rfl rfl _ _ rfl rfl _ Bias.canon_tab _ _ (off_eq t).2.1 _ rfl _ rfl _ _ _ _ 4 6 5 7
      rfl rfl rfl rfl _ _ rfl _ _ rfl _ _ rfl _ _ rfl _ _ _ (x1 _) (y1 _) (v1 _) x _ (by rw [row0, h0]) (by rw [row1, h1]; first | rfl | omega)
  · refine (congrFun (store_10 _ _ _ _ _ _ _ _ _ _ _) x).trans ?_
    exact core_left m c t ha hz 1 _ _ _ _ rfl rfl rfl rfl _ rfl _ _ 256 384 rfl rfl _ _ rfl rfl _ Bias.canon_tab _ _ (off_eq t).2.1 _ rfl _ rfl _ _ _ _ 4 6 5 7
      rfl rfl rfl rfl _ _ rfl _ _ rfl _ _ rfl _ _ rfl _ _ _ (x1 _) (y1 _) (v1 _) x _ (by rw [row0, h0]) (by rw [row1, h1]; first | rfl | omega)
  · refine (congrFun (store_01 _ _ _ _ _ _ _ _ _ _ _) x).trans ?_
    exact core_right m c t ha hz 0 _ _ _ _ rfl rfl rfl rfl _ rfl _ _ 0 128 rfl rfl _ _ rfl rfl _ Bias.canon_tab _ _ (off_eq t).1 _ rfl _ rfl _ _ _ _ 0 2 1 3
      rfl rfl rfl rfl _ _ rfl _ _ rfl _ _ rfl _ _ rfl _ _ _ (x0 _) (y0 _) (v0 _) x _ (by rw [row0, h0]) (by rw [row1, h1]; first | rfl | omega)
  · refine (congrFun (store_00 _ _ _ _ _ _ _ _ _ _ _) x).trans ?_
    exact core_left m c t ha hz 0 _ _ _ _ rfl rfl rfl rfl _ rfl _ _ 0 128 rfl rfl _ _ rfl rfl _ Bias.canon_tab _ _ (off_eq t).1 _ rfl _ rfl _ _ _ _ 0 2 1 3
      rfl rfl rfl rfl _ _ rfl _ _ rfl _ _ rfl _ _ rfl _ _ _ (x0 _) (y0 _) (v0 _) x _ (by rw [row0, h0]) (by rw [row1, h1]; first | rfl | omega)

set_option maxHeartbeats 1600000 in
/-- What a later point stores is the reference's. -/
theorem point_B (t : Fin cfg0.N) (h0 : ¬t.val % 256 = 0) (y) :
    (out0_B_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) (fun h => h0 ((hcond0_0 t).mp h))
      (iblk m c 0 t) (X0_1 m c t) (iblk m c 2 t) (iblk m c 3 t) (iblk m c 4 t) (iblk m c 5 t) (outsAt0 m c (t.val - 1) (Nat.lt_of_le_of_lt (Nat.sub_le _ _) t.isLt)).2) y
      = Ref.REF (m ((c : Thread nD τ).loc main_arg0)) (m ((c : Thread nD τ).loc main_arg1)) (((cfg0.win 6).blk t).view.emb y) := by
  rw [scratch m c]
  frame_out
  canon_tiles x h
  · refine (congrFun (store_31 _ _ _ _ _ _ _ _ _ _ _) x).trans ?_
    exact core_right m c t ha hz 3 _ _ _ _ rfl rfl rfl rfl _ rfl _ _ 768 896 rfl rfl _ _ rfl rfl _ (Memref.IsWhole.read_unread _ _) _ _ (off_eq t).2.2.2 _ rfl _ rfl _ _ _ _ 12 14 13 15
      rfl rfl rfl rfl _ _ rfl _ _ rfl _ _ rfl _ _ rfl _ _ _ (x3 _) (y3 _) (v3 _) x _ (by rw [row0, h0]) (by rw [row1, h1]; first | rfl | omega)
  · refine (congrFun (store_30 _ _ _ _ _ _ _ _ _ _ _) x).trans ?_
    exact core_left m c t ha hz 3 _ _ _ _ rfl rfl rfl rfl _ rfl _ _ 768 896 rfl rfl _ _ rfl rfl _ (Memref.IsWhole.read_unread _ _) _ _ (off_eq t).2.2.2 _ rfl _ rfl _ _ _ _ 12 14 13 15
      rfl rfl rfl rfl _ _ rfl _ _ rfl _ _ rfl _ _ rfl _ _ _ (x3 _) (y3 _) (v3 _) x _ (by rw [row0, h0]) (by rw [row1, h1]; first | rfl | omega)
  · refine (congrFun (store_21 _ _ _ _ _ _ _ _ _ _ _) x).trans ?_
    exact core_right m c t ha hz 2 _ _ _ _ rfl rfl rfl rfl _ rfl _ _ 512 640 rfl rfl _ _ rfl rfl _ (Memref.IsWhole.read_unread _ _) _ _ (off_eq t).2.2.1 _ rfl _ rfl _ _ _ _ 8 10 9 11
      rfl rfl rfl rfl _ _ rfl _ _ rfl _ _ rfl _ _ rfl _ _ _ (x2 _) (y2 _) (v2 _) x _ (by rw [row0, h0]) (by rw [row1, h1]; first | rfl | omega)
  · refine (congrFun (store_20 _ _ _ _ _ _ _ _ _ _ _) x).trans ?_
    exact core_left m c t ha hz 2 _ _ _ _ rfl rfl rfl rfl _ rfl _ _ 512 640 rfl rfl _ _ rfl rfl _ (Memref.IsWhole.read_unread _ _) _ _ (off_eq t).2.2.1 _ rfl _ rfl _ _ _ _ 8 10 9 11
      rfl rfl rfl rfl _ _ rfl _ _ rfl _ _ rfl _ _ rfl _ _ _ (x2 _) (y2 _) (v2 _) x _ (by rw [row0, h0]) (by rw [row1, h1]; first | rfl | omega)
  · refine (congrFun (store_11 _ _ _ _ _ _ _ _ _ _ _) x).trans ?_
    exact core_right m c t ha hz 1 _ _ _ _ rfl rfl rfl rfl _ rfl _ _ 256 384 rfl rfl _ _ rfl rfl _ (Memref.IsWhole.read_unread _ _) _ _ (off_eq t).2.1 _ rfl _ rfl _ _ _ _ 4 6 5 7
      rfl rfl rfl rfl _ _ rfl _ _ rfl _ _ rfl _ _ rfl _ _ _ (x1 _) (y1 _) (v1 _) x _ (by rw [row0, h0]) (by rw [row1, h1]; first | rfl | omega)
  · refine (congrFun (store_10 _ _ _ _ _ _ _ _ _ _ _) x).trans ?_
    exact core_left m c t ha hz 1 _ _ _ _ rfl rfl rfl rfl _ rfl _ _ 256 384 rfl rfl _ _ rfl rfl _ (Memref.IsWhole.read_unread _ _) _ _ (off_eq t).2.1 _ rfl _ rfl _ _ _ _ 4 6 5 7
      rfl rfl rfl rfl _ _ rfl _ _ rfl _ _ rfl _ _ rfl _ _ _ (x1 _) (y1 _) (v1 _) x _ (by rw [row0, h0]) (by rw [row1, h1]; first | rfl | omega)
  · refine (congrFun (store_01 _ _ _ _ _ _ _ _ _ _ _) x).trans ?_
    exact core_right m c t ha hz 0 _ _ _ _ rfl rfl rfl rfl _ rfl _ _ 0 128 rfl rfl _ _ rfl rfl _ (Memref.IsWhole.read_unread _ _) _ _ (off_eq t).1 _ rfl _ rfl _ _ _ _ 0 2 1 3
      rfl rfl rfl rfl _ _ rfl _ _ rfl _ _ rfl _ _ rfl _ _ _ (x0 _) (y0 _) (v0 _) x _ (by rw [row0, h0]) (by rw [row1, h1]; first | rfl | omega)
  · refine (congrFun (store_00 _ _ _ _ _ _ _ _ _ _ _) x).trans ?_
    exact core_left m c t ha hz 0 _ _ _ _ rfl rfl rfl rfl _ rfl _ _ 0 128 rfl rfl _ _ rfl rfl _ (Memref.IsWhole.read_unread _ _) _ _ (off_eq t).1 _ rfl _ rfl _ _ _ _ 0 2 1 3
      rfl rfl rfl rfl _ _ rfl _ _ rfl _ _ rfl _ _ rfl _ _ _ (x0 _) (y0 _) (v0 _) x _ (by rw [row0, h0]) (by rw [row1, h1]; first | rfl | omega)

/-- The result after the run is the reference's. -/
theorem final : (dats m 0 c).arrAt 6 (cfgs 0).N = Ref.REF (m ((c : Thread nD τ).loc main_arg0)) (m ((c : Thread nD τ).loc main_arg1)) := by
  refine (dats m 0 c).arrAt_eq_of_covers 6 _ (by decide +kernel) fun t hf y => ?_
  blk_simp; rw [after0_6]
  by_cases h : t.val % 256 = 0
  · rw [outsAt0_A m c t h]; dsimp only; exact point_A m c ha hz t h y
  · rw [outsAt0_B m c t h]; dsimp only; exact point_B m c ha hz t h y

end Cert.Swa.Value

end
-- ==== Proof.Swa.Claims.lean ====
/- Hand-written: the value claim about the sliding-window attention. -/
module

public import proofs.«01_k».proof.Defs
public import proofs.«01_k».proof.Proof.Gen.KernelIdeal.Value
public import proofs.«01_k».proof.Proof.Gen.ReferenceIdeal.Run
public import proofs.«01_k».proof.Proof.Gen.Pre_finite
public import proofs.«01_k».proof.Proof.Swa.Value
public import Idealize.ShloMosaic.Lib.Quiescent
public import Idealize.ShloMosaic.Lib.Pipeline.ValueKit

@[expose] public section

noncomputable section

namespace Cert.Swa

open Idealize.ShloMosaic Idealize.ShloMosaic.TcCoe Idealize.SL.Sem

/-- Plus infinity, as the comparisons hold it. -/
theorem bits_top : Ideal.ofBits .f32 0x7F800000#32 = ⊤ := by
  simp [Ideal.ofBits, Ideal.ieee]

/-- What lies strictly between the infinities is a real number. -/
theorem real_of_between (x : EReal) (h : ⊥ < x ∧ x < ⊤) : ∃ r : ℝ, x = (r : EReal) :=
  ⟨x.toReal, (EReal.coe_toReal h.2.ne h.1.ne').symm⟩

/-- Two comparisons that hold at once hold each. -/
theorem both (p q : Prop) [Decidable p] [Decidable q] (h : IntOp.andi (BitVec.ofBool (decide p)) (BitVec.ofBool (decide q)) = 1#1) : p ∧ q := by
  by_cases hp : p <;> by_cases hq : q <;> simp_all [IntOp.andi]

/-- The predicate makes queries and keys finite. -/
theorem finite_qk (a : FVec Ideal Cert.Pre_finite.S4x8192x4616 .f32) (z : FVec Ideal Cert.Pre_finite.S16 .f32)
    (h : (Cert.Pre_finite.fn (F := Ideal) a z).1 = (fun _ => 1#1)) : Fin1280 a := by
  intro b s l hl
  have e := congrFun h (ix3 b s ⟨l.val, hl⟩)
  pointwise [Cert.Pre_finite.fn] at e
  rw [bits_bot, bits_top] at e
  exact real_of_between _ (both _ _ e)

/-- The predicate makes the sinks finite. -/
theorem finite_z (a : FVec Ideal Cert.Pre_finite.S4x8192x4616 .f32) (z : FVec Ideal Cert.Pre_finite.S16 .f32)
    (h : (Cert.Pre_finite.fn (F := Ideal) a z).2 = (fun _ => 1#1)) (i : Cert.Pre_finite.S16.Idx) : ∃ r : ℝ, z i = (r : EReal) := by
  have e := congrFun h i
  pointwise [Cert.Pre_finite.fn] at e
  rw [bits_bot, bits_top] at e
  exact real_of_between _ (both _ _ e)

end Cert.Swa

namespace Cert.Proof

open Idealize.ShloMosaic Idealize.ShloMosaic.TcCoe Idealize.SL.Sem

/-- From memories that agree on the arguments, with finite queries, keys and sinks, kernel and reference end with equal results. -/
theorem algebraic_Swa : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hagree
  refine ⟨_, Cert.KernelIdeal.Value.run_blocks (F := Ideal) m g, ?_⟩
  refine (θ_run Cert.ReferenceIdeal.defs _ _).mono (fun _ h c => ⟨(h c).1.trans ?_, (h c).2⟩)
    (Cert.ReferenceIdeal.Value.run (F := Ideal) m' g')
  rw [Cert.Swa.Ref.res_eq, (hagree c).1, (hagree c).2]
  exact (Cert.Swa.Value.final m c (Cert.Swa.finite_qk _ _ (hp c).1) (Cert.Swa.finite_z _ _ (hp c).2)).symm

end Cert.Proof

end
-- ==== Proof.Ffn.Value.lean ====
/- Hand-written: the value of the up-projection kernel, as one function of the argument arrays. -/
module

public import proofs.«01_k».proof.Proof.Gen.FfnIdeal.Frame
public import proofs.«01_k».proof.Proof.Gen.FfnRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Ffn.Spec

/-- The gated activation of one pair of dot products: `g · sigmoid g · u`. -/
def act (g u : EReal) : EReal := g * Ideal.div 1 (1 + Ideal.exp (-g)) * u

section Ref
open Cert.FfnRefIdeal Cert.FfnRefIdeal.Gen

/-- The reference's result as its composed term over the three arguments. -/
def REF (a0 : FVec Ideal S4x8192x2048 .f32) (a1 a2 : FVec Ideal S4x2048x5632 .f32) : FVec Ideal S32768x5632 .bf16 :=
  truncf .bf16 (mulf (mulf (Host.dotGeneral dot_S32768x2048_S2048x5632_S32768x5632_1_0_0_1_n_n none (shapeCast _ a0 shapeCasts_S4x8192x2048_S32768x2048) (shapeCast _ (extractStridedSlice S1x2048x5632 ![0, 0, 0] a1 slices_S4x2048x5632_S1x2048x5632_0_0_0) shapeCasts_S1x2048x5632_S2048x5632)) (Host.divf (broadcastInDim S32768x5632 ![] bcast_S_S32768x5632 (constant S_ .f32 0x3F800000#32)) (addf (broadcastInDim S32768x5632 ![] bcast_S_S32768x5632 (constant S_ .f32 0x3F800000#32)) (Host.exp (Host.negf (Host.dotGeneral dot_S32768x2048_S2048x5632_S32768x5632_1_0_0_1_n_n none (shapeCast _ a0 shapeCasts_S4x8192x2048_S32768x2048) (shapeCast _ (extractStridedSlice S1x2048x5632 ![0, 0, 0] a1 slices_S4x2048x5632_S1x2048x5632_0_0_0) shapeCasts_S1x2048x5632_S2048x5632))))))) (Host.dotGeneral dot_S32768x2048_S2048x5632_S32768x5632_1_0_0_1_n_n none (shapeCast _ a0 shapeCasts_S4x8192x2048_S32768x2048) (shapeCast _ (extractStridedSlice S1x2048x5632 ![0, 0, 0] a2 slices_S4x2048x5632_S1x2048x5632_0_0_0) shapeCasts_S1x2048x5632_S2048x5632))) bitsLt_bf16_f32

/-- The reference at row `r`, column `l`: the activation of the two dot products of row `r` with the
    columns `l` of layer 0's gate and up matrices. -/
theorem ref_at (a0 : FVec Ideal S4x8192x2048 .f32) (a1 a2 : FVec Ideal S4x2048x5632 .f32) (r : Fin 32768) (l : Fin 5632) :
    REF a0 a1 a2 (ix2 r l)
      = act (∑ k : Fin 2048, a0 (ix3 ⟨r.val / 8192, by omega⟩ ⟨r.val % 8192, by omega⟩ k) * a1 (ix3 0 k l))
          (∑ k : Fin 2048, a0 (ix3 ⟨r.val / 8192, by omega⟩ ⟨r.val % 8192, by omega⟩ k) * a2 (ix3 0 k l)) := by
  pointwise [REF, act]

/-- The same at an index. -/
theorem ref_at_idx (a0 : FVec Ideal S4x8192x2048 .f32) (a1 a2 : FVec Ideal S4x2048x5632 .f32) (j : S32768x5632.Idx) :
    REF a0 a1 a2 j
      = act (∑ k : Fin 2048, a0 (ix3 ⟨(j 0).val / 8192, Nat.div_lt_of_lt_mul (j 0).isLt⟩ ⟨(j 0).val % 8192, Nat.mod_lt _ (by decide)⟩ k) * a1 (ix3 0 k (j 1)))
          (∑ k : Fin 2048, a0 (ix3 ⟨(j 0).val / 8192, Nat.div_lt_of_lt_mul (j 0).isLt⟩ ⟨(j 0).val % 8192, Nat.mod_lt _ (by decide)⟩ k) * a2 (ix3 0 k (j 1))) := by
  conv_lhs => rw [eq_ix2 j]
  exact ref_at a0 a1 a2 (j 0) (j 1)

end Ref

section Kernel
open Cert.FfnIdeal Cert.FfnIdeal.Gen

/-- The first store's payload at an index. -/
theorem pay2_at (x : FVec Ideal S1024x2048 .bf16) (wg wu : FVec Ideal S1x2048x512 .bf16) (r : Fin 1024) (l : Fin 512) :
    k0_pay2 (F := Ideal) x wg wu (ix2 r l)
      = act (∑ k : Fin 2048, x (ix2 r k) * wg (ix3 0 k l)) (∑ k : Fin 2048, x (ix2 r k) * wu (ix3 0 k l)) := by
  pointwise [k0_pay2, act]
  rw [zero_sub]

/-- The second store's payload at an index. -/
theorem pay1_at (x : FVec Ideal S1024x2048 .bf16) (wg wu : FVec Ideal S1x2048x512 .bf16) (r : Fin 1024) (l : Fin 512) :
    k0_pay1 (F := Ideal) (k0_pay4 x wg) (k0_pay5 x wu) (k0_pay6 x wg) (Scalar.ofBits .f32 0x3F800000#32) (ix2 r l)
      = act (∑ k : Fin 2048, x (ix2 r k) * wg (ix3 0 k l)) (∑ k : Fin 2048, x (ix2 r k) * wu (ix3 0 k l)) := by
  pointwise [k0_pay1, k0_pay3, k0_pay4, k0_pay5, k0_pay6, act]
  rw [zero_sub]

end Kernel

end Cert.Ffn.Spec

namespace Cert.FfnIdeal.Value

open Cert.FfnIdeal Cert.FfnIdeal.Gen Cert.Ffn.Spec

variable (m : (ℓ : Loc nD τ sig) → Buf (Elt Ideal) ℓ)

/-- Every window's block index at every grid point. -/
theorem idx_val : ∀ t : Fin cfg0.N, win0_0.index t = ![t.val / 11, 0]
    ∧ win0_1.index t = ![0, 0, t.val % 11]
    ∧ win0_2.index t = ![0, 0, t.val % 11]
    ∧ win0_3.index t = ![t.val / 11, t.val % 11] :=
  (by decide +kernel : ∀ t : Fin grid0.N, _)

/-- The activations as the kernel finds them: the argument, its two leading axes merged. -/
theorem entry_x (c : Dev nD) (r : Fin 32768) (k : Fin 2048) :
    (V m c main_v1 : FVec Ideal S32768x2048 .bf16) (ix2 r k)
      = (m ((c : Thread nD τ).loc main_arg0) : FVec Ideal S4x8192x2048 .f32)
          (ix3 ⟨r.val / 8192, by omega⟩ ⟨r.val % 8192, by omega⟩ k) := by
  entry_read
  pointwise

/-- The gate matrices as the kernel finds them. -/
theorem entry_g (c : Dev nD) (i : S4x2048x5632.Idx) :
    (V m c main_v2 : FVec Ideal S4x2048x5632 .bf16) i
      = (m ((c : Thread nD τ).loc main_arg1) : FVec Ideal S4x2048x5632 .f32) i := by
  entry_read
  pointwise

/-- The up matrices as the kernel finds them. -/
theorem entry_u (c : Dev nD) (i : S4x2048x5632.Idx) :
    (V m c main_v3 : FVec Ideal S4x2048x5632 .bf16) i
      = (m ((c : Thread nD τ).loc main_arg2) : FVec Ideal S4x2048x5632 .f32) i := by
  entry_read
  pointwise

/-- The block of activations a grid point is given. -/
theorem blk_x (c : Dev nD) (t : Fin cfg0.N) (r : Fin 2048) (k : Fin 2048) (R : Fin 32768) (hR : R.val = t.val / 11 * 2048 + r.val) :
    (iblk m c 0 t : FVec Ideal S2048x2048 .bf16) (ix2 r k) = (V m c main_v1 : FVec Ideal S32768x2048 .bf16) (ix2 R k) := by
  blk_ext [iblk, idx_val t]

/-- The block of the gate matrix a grid point is given. -/
theorem blk_g (c : Dev nD) (t : Fin cfg0.N) (k : Fin 2048) (l : Fin 512) (L : Fin 5632) (hL : L.val = t.val % 11 * 512 + l.val) :
    (iblk m c 1 t : FVec Ideal S1x2048x512 .bf16) (ix3 0 k l) = (V m c main_v2 : FVec Ideal S4x2048x5632 .bf16) (ix3 0 k L) := by
  blk_ext [iblk, idx_val t]

/-- The block of the up matrix a grid point is given. -/
theorem blk_u (c : Dev nD) (t : Fin cfg0.N) (k : Fin 2048) (l : Fin 512) (L : Fin 5632) (hL : L.val = t.val % 11 * 512 + l.val) :
    (iblk m c 2 t : FVec Ideal S1x2048x512 .bf16) (ix3 0 k l) = (V m c main_v3 : FVec Ideal S4x2048x5632 .bf16) (ix3 0 k L) := by
  blk_ext [iblk, idx_val t]

/-- The arithmetic of a point at row `r` and column `l` of its block: what the dot products of the
    block's operands are, in terms of the arguments. -/
theorem core (c : Dev nD) (t : Fin cfg0.N) (x : FVec Ideal S2048x2048 .bf16) (wg wu : FVec Ideal S1x2048x512 .bf16)
    (hx : x = iblk m c 0 t) (hg : wg = iblk m c 1 t) (hu : wu = iblk m c 2 t) (r : Fin 2048) (l : Fin 512) (j : S32768x5632.Idx)
    (h0 : (j 0).val = t.val / 11 * 2048 + r.val) (h1 : (j 1).val = t.val % 11 * 512 + l.val) :
    act (∑ k : Fin 2048, x (ix2 r k) * wg (ix3 0 k l)) (∑ k : Fin 2048, x (ix2 r k) * wu (ix3 0 k l))
      = REF (m ((c : Thread nD τ).loc main_arg0)) (m ((c : Thread nD τ).loc main_arg1)) (m ((c : Thread nD τ).loc
        main_arg2)) j := by
  subst hx hg hu
  refine Eq.trans ?_ (ref_at_idx _ _ _ _).symm
  refine congrArg₂ act (Finset.sum_congr rfl fun k _ => ?_) (Finset.sum_congr rfl fun k _ => ?_)
  · exact congrArg₂ (fun a b : EReal => a * b) ((blk_x m c t r k (j 0) h0).trans (entry_x m c (j 0) k))
      ((blk_g m c t k l (j 1) h1).trans (entry_g m c _))
  · exact congrArg₂ (fun a b : EReal => a * b) ((blk_x m c t r k (j 0) h0).trans (entry_x m c (j 0) k))
      ((blk_u m c t k l (j 1) h1).trans (entry_u m c _))

/-- What the body leaves in its output block at a grid point is the reference at that block's indices. -/
theorem point (c : Dev nD) (t : Fin cfg0.N) (y) :
    out0_3 (iblk m c 0 t) (iblk m c 1 t) (iblk m c 2 t) y
      = REF (m ((c : Thread nD τ).loc main_arg0)) (m ((c : Thread nD τ).loc main_arg1)) (m ((c : Thread nD τ).loc
        main_arg2)) (((cfg0.win 3).blk t).view.emb y) := by
  canon_tiles x h
  · idx_vars x
    refine (pay1_at _ _ _ _ _).trans ?_
    pointwise
    refine core m c t _ _ _ rfl rfl rfl ⟨1024 + x0.val, by omega⟩ x1 _ ?_ ?_
    all_goals (blk_simp [idx_val t] <;> (dsimp only; omega))
  · idx_vars x
    refine (pay2_at _ _ _ _ _).trans ?_
    pointwise
    refine core m c t _ _ _ rfl rfl rfl ⟨x0.val, by omega⟩ x1 _ ?_ ?_
    all_goals (blk_simp [idx_val t] <;> (dsimp only; omega))

/-- The output array after the run is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  exact point m c t y

end Cert.FfnIdeal.Value

end
-- ==== Proof.Ffn.Claims.lean ====
/- Hand-written: the claims about the up-projection of the feed-forward block. -/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Ffn.Value
public import Idealize.ShloMosaic.Lib.Quiescent

@[expose] public section

noncomputable section

namespace Cert.Proof

open Idealize.ShloMosaic Idealize.ShloMosaic.TcCoe Idealize.SL.Sem

/-- The kernel at its machine formats terminates without a fault and keeps its arguments. -/
theorem frame_Ffn : Cert.quiescent_Ffn (hFfn := Cert.Ffn.Gen.facts) :=
  fun m g _ => Cert.Ffn.Gen.frame m g

/-- The idealized kernel terminates without a fault and keeps its arguments. -/
theorem frame_FfnIdeal : Cert.quiescent_FfnIdeal (hFfnIdeal := Cert.FfnIdeal.Gen.facts) :=
  fun m g _ => Cert.FfnIdeal.Gen.frame m g

/-- The reference terminates without a fault and keeps its arguments. -/
theorem frame_FfnRefIdeal : Cert.quiescent_FfnRefIdeal (hFfnRefIdeal := Cert.FfnRefIdeal.Gen.facts) :=
  fun m g _ => (θ_run Cert.FfnRefIdeal.defs _ _).mono
    (fun r h => ⟨fun c => (h c).2, Idealize.ShloMosaic.sem_eq_zero_of_no_sems (by decide) r.2⟩)
    (Cert.FfnRefIdeal.Value.run (F := Ideal) m g)

/-- From memories that agree on the arguments, kernel and reference end with equal results. -/
theorem algebraic_Ffn : Cert.algebraic_FfnIdeal_FfnRefIdeal (hFfnIdeal := Cert.FfnIdeal.Gen.facts) (hFfnRefIdeal := Cert.FfnRefIdeal.Gen.facts) := by
  intro m g m' g' _ hagree
  refine ⟨_, Cert.FfnIdeal.Value.run_blocks (F := Ideal) m g, ?_⟩
  refine (θ_run Cert.FfnRefIdeal.defs _ _).mono (fun _ h c => ⟨(h c).1.trans ?_, (h c).2⟩)
    (Cert.FfnRefIdeal.Value.run (F := Ideal) m' g')
  rw [(hagree c).1, (hagree c).2.1, (hagree c).2.2]
  exact (Cert.FfnIdeal.Value.final m c).symm

end Cert.Proof

end
-- ==== Proof.Norm.Row.lean ====
/- Hand-written: the normed row that the projections with a residual end with. -/
module

public import Idealize.ShloMosaic.Lib.Pipeline.ValueKit

@[expose] public section

noncomputable section

open Idealize.ShloMosaic
open scoped BigOperators

namespace Cert.Norm

/-- Entry `l` of the row `h` divided by the root of its mean square, times the gain. -/
def row (h : Fin 2048 → EReal) (gain : EReal) (l : Fin 2048) : EReal :=
  h l * Ideal.rsqrt (Ideal.div (∑ k : Fin 2048, h k * h k) (Ideal.ofBits .f32 0x45000000#32)
    + Ideal.ofBits .f32 0x3727C5AC#32) * gain

/-- Equal rows and equal gains have equal normed rows. -/
theorem row_congr {h h' : Fin 2048 → EReal} {g g' : EReal} (l : Fin 2048) (hh : ∀ k, h k = h' k) (hg : g = g') :
    row h g l = row h' g' l := by
  rw [funext hh, hg]

end Cert.Norm

end
-- ==== Proof.Down.Value.lean ====
/- Hand-written: the value of the down-projection kernel, as one function of the argument arrays. -/
module

public import proofs.«01_k».proof.Proof.Gen.DownIdeal.Frame
public import proofs.«01_k».proof.Proof.Gen.DownRefIdeal.Run
public import proofs.«01_k».proof.Proof.Norm.Row
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Down.Spec

section Ref
open Cert.DownRefIdeal Cert.DownRefIdeal.Gen

/-- The reference's residual stream after the projection. -/
def HID (a0 : FVec Ideal S4x8192x5632 .f32) (a1 : FVec Ideal S4x5632x2048 .f32) (a2 : FVec Ideal S4x8192x2048 .f32) :
    FVec Ideal S32768x2048 .f32 :=
  addf (shapeCast _ a2 shapeCasts_S4x8192x2048_S32768x2048) (Host.dotGeneral dot_S32768x5632_S5632x2048_S32768x2048_1_0_0_1_n_n none (shapeCast _ a0 shapeCasts_S4x8192x5632_S32768x5632) (shapeCast _ (extractStridedSlice S1x5632x2048 ![3, 0, 0] a1 slices_S4x5632x2048_S1x5632x2048_3_0_0) shapeCasts_S1x5632x2048_S5632x2048))

/-- The norm of the rows of `h` with gain `g`. -/
def NORM (h : FVec Ideal S32768x2048 .f32) (g : FVec Ideal S2048 .f32) : FVec Ideal S32768x2048 .f32 :=
  mulf (mulf h (broadcastInDim S32768x2048 ![0, 1] bcast_S32768x1_S32768x2048_0_1 (Host.rsqrt (addf (Host.divf (broadcastInDim S32768x1 ![0] bcast_S32768_S32768x1_0 (Host.reduceAdd (mulf h h) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x3727C5AC#32)))))) (broadcastInDim S32768x2048 ![0, 1] bcast_S1x2048_S32768x2048_0_1 (broadcastInDim S1x2048 ![1] bcast_S2048_S1x2048_1 g))

/-- The reference's result. -/
def REF (a0 : FVec Ideal S4x8192x5632 .f32) (a1 : FVec Ideal S4x5632x2048 .f32) (a2 : FVec Ideal S4x8192x2048 .f32)
    (a3 : FVec Ideal S2048 .f32) : FVec Ideal S32768x2048 .f32 := NORM (HID a0 a1 a2) a3

/-- The residual stream at row `r`, column `l`. -/
theorem hid_at (a0 : FVec Ideal S4x8192x5632 .f32) (a1 : FVec Ideal S4x5632x2048 .f32) (a2 : FVec Ideal S4x8192x2048 .f32)
    (r : Fin 32768) (l : Fin 2048) :
    HID a0 a1 a2 (ix2 r l)
      = a2 (ix3 ⟨r.val / 8192, by omega⟩ ⟨r.val % 8192, by omega⟩ l)
        + ∑ k : Fin 5632, a0 (ix3 ⟨r.val / 8192, by omega⟩ ⟨r.val % 8192, by omega⟩ k) * a1 (ix3 3 k l) := by
  pointwise [HID]

/-- The norm at row `r`, column `l`. -/
theorem norm_at (h : FVec Ideal S32768x2048 .f32) (g : FVec Ideal S2048 .f32) (r : Fin 32768) (l : Fin 2048) :
    NORM h g (ix2 r l) = Norm.row (fun k => h (ix2 r k)) (g (ix1 l)) l := by
  pointwise [NORM, Norm.row]

/-- The reference at row `r`, column `l`. -/
theorem ref_at (a0 : FVec Ideal S4x8192x5632 .f32) (a1 : FVec Ideal S4x5632x2048 .f32) (a2 : FVec Ideal S4x8192x2048 .f32)
    (a3 : FVec Ideal S2048 .f32) (r : Fin 32768) (l : Fin 2048) :
    REF a0 a1 a2 a3 (ix2 r l)
      = Norm.row (fun q => a2 (ix3 ⟨r.val / 8192, by omega⟩ ⟨r.val % 8192, by omega⟩ q)
        + ∑ k : Fin 5632, a0 (ix3 ⟨r.val / 8192, by omega⟩ ⟨r.val % 8192, by omega⟩ k) * a1 (ix3 3 k q)) (a3 (ix1 l)) l :=
  (norm_at _ _ r l).trans (Norm.row_congr l (fun k => hid_at a0 a1 a2 r k) rfl)

/-- The same at an index. -/
theorem ref_at_idx (a0 : FVec Ideal S4x8192x5632 .f32) (a1 : FVec Ideal S4x5632x2048 .f32)
    (a2 : FVec Ideal S4x8192x2048 .f32) (a3 : FVec Ideal S2048 .f32) (j : S32768x2048.Idx) :
    REF a0 a1 a2 a3 j
      = Norm.row (fun q => a2 (ix3 ⟨(j 0).val / 8192, Nat.div_lt_of_lt_mul (j 0).isLt⟩ ⟨(j 0).val % 8192, Nat.mod_lt _ (by decide)⟩ q)
        + ∑ k : Fin 5632, a0 (ix3 ⟨(j 0).val / 8192, Nat.div_lt_of_lt_mul (j 0).isLt⟩ ⟨(j 0).val % 8192, Nat.mod_lt _ (by decide)⟩ k) * a1 (ix3 3 k q))
          (a3 (ix1 (j 1))) (j 1) := by
  conv_lhs => rw [eq_ix2 j]
  exact ref_at a0 a1 a2 a3 (j 0) (j 1)

end Ref

section Kernel
open Cert.DownIdeal Cert.DownIdeal.Gen

/-- The stored payload at an index. -/
theorem pay_at (h : FVec Ideal S256x2048 .f32) (x : FVec Ideal S256x5632 .bf16) (w : FVec Ideal S1x5632x2048 .bf16)
    (g : FVec Ideal S1x2048 .f32) (r : Fin 256) (l : Fin 2048) :
    k0_pay1 (F := Ideal) h x w g (ix2 r l)
      = Norm.row (fun q => h (ix2 r q) + ∑ k : Fin 5632, x (ix2 r k) * w (ix3 0 k q)) (g (ix2 0 l)) l := by
  pointwise [k0_pay1, Norm.row]

end Kernel

end Cert.Down.Spec

namespace Cert.DownIdeal.Value

open Cert.DownIdeal Cert.DownIdeal.Gen Cert.Down.Spec

variable (m : (ℓ : Loc nD τ sig) → Buf (Elt Ideal) ℓ)

/-- Every window's block index at every grid point. -/
theorem idx_val : ∀ t : Fin cfg0.N, win0_0.index t = ![t.val, 0]
    ∧ win0_1.index t = ![3, 0, 0]
    ∧ win0_2.index t = ![t.val, 0]
    ∧ win0_3.index t = ![0, 0]
    ∧ win0_4.index t = ![t.val, 0] :=
  (by decide +kernel : ∀ t : Fin grid0.N, _)

/-- The activations as the kernel finds them: the argument, its two leading axes merged. -/
theorem entry_x (c : Dev nD) (r : Fin 32768) (k : Fin 5632) :
    (V m c main_v1 : FVec Ideal S32768x5632 .bf16) (ix2 r k)
      = (m ((c : Thread nD τ).loc main_arg0) : FVec Ideal S4x8192x5632 .f32)
          (ix3 ⟨r.val / 8192, by omega⟩ ⟨r.val % 8192, by omega⟩ k) := by
  entry_read
  pointwise

/-- The weights as the kernel finds them. -/
theorem entry_w (c : Dev nD) (i : S4x5632x2048.Idx) :
    (V m c main_v2 : FVec Ideal S4x5632x2048 .bf16) i
      = (m ((c : Thread nD τ).loc main_arg1) : FVec Ideal S4x5632x2048 .f32) i := by
  entry_read
  pointwise

/-- The residual stream as the kernel finds it. -/
theorem entry_h (c : Dev nD) (r : Fin 32768) (k : Fin 2048) :
    (V m c main_v3 : FVec Ideal S32768x2048 .f32) (ix2 r k)
      = (m ((c : Thread nD τ).loc main_arg2) : FVec Ideal S4x8192x2048 .f32)
          (ix3 ⟨r.val / 8192, by omega⟩ ⟨r.val % 8192, by omega⟩ k) := by
  entry_read
  pointwise

/-- The gain as the kernel finds it. -/
theorem entry_g (c : Dev nD) (l : Fin 2048) :
    (V m c main_v4 : FVec Ideal S1x2048 .f32) (ix2 0 l)
      = (m ((c : Thread nD τ).loc main_arg3) : FVec Ideal S2048 .f32) (ix1 l) := by
  entry_read
  pointwise

/-- The block of activations a grid point is given. -/
theorem blk_x (c : Dev nD) (t : Fin cfg0.N) (r : Fin 256) (k : Fin 5632) (R : Fin 32768) (hR : R.val = t.val * 256 + r.val) :
    (iblk m c 0 t : FVec Ideal S256x5632 .bf16) (ix2 r k) = (V m c main_v1 : FVec Ideal S32768x5632 .bf16) (ix2 R k) := by
  blk_ext [iblk, idx_val t]

/-- The weights of the last layer, whole at every grid point. -/
theorem blk_w (c : Dev nD) (t : Fin cfg0.N) (k : Fin 5632) (l : Fin 2048) :
    (iblk m c 1 t : FVec Ideal S1x5632x2048 .bf16) (ix3 0 k l) = (V m c main_v2 : FVec Ideal S4x5632x2048 .bf16) (ix3 3 k l) := by
  blk_ext [iblk, idx_val t]

/-- The block of the residual stream a grid point is given. -/
theorem blk_h (c : Dev nD) (t : Fin cfg0.N) (r : Fin 256) (k : Fin 2048) (R : Fin 32768) (hR : R.val = t.val * 256 + r.val) :
    (iblk m c 2 t : FVec Ideal S256x2048 .f32) (ix2 r k) = (V m c main_v3 : FVec Ideal S32768x2048 .f32) (ix2 R k) := by
  blk_ext [iblk, idx_val t]

/-- The gain, whole at every grid point. -/
theorem blk_g (c : Dev nD) (t : Fin cfg0.N) (l : Fin 2048) :
    (iblk m c 3 t : FVec Ideal S1x2048 .f32) (ix2 0 l) = (V m c main_v4 : FVec Ideal S1x2048 .f32) (ix2 0 l) := by
  blk_ext [iblk, idx_val t]

/-- The arithmetic of a point at row `r` and column `l` of its block, in terms of the arguments. -/
theorem core (c : Dev nD) (t : Fin cfg0.N) (h : FVec Ideal S256x2048 .f32) (x : FVec Ideal S256x5632 .bf16)
    (w : FVec Ideal S1x5632x2048 .bf16) (g : FVec Ideal S1x2048 .f32)
    (hh : h = iblk m c 2 t) (hx : x = iblk m c 0 t) (hw : w = iblk m c 1 t) (hg : g = iblk m c 3 t)
    (r : Fin 256) (l : Fin 2048) (j : S32768x2048.Idx)
    (h0 : (j 0).val = t.val * 256 + r.val) (h1 : j 1 = l) :
    Norm.row (fun q => h (ix2 r q) + ∑ k : Fin 5632, x (ix2 r k) * w (ix3 0 k q)) (g (ix2 0 l)) l
      = REF (m ((c : Thread nD τ).loc main_arg0)) (m ((c : Thread nD τ).loc main_arg1)) (m ((c : Thread nD τ).loc
        main_arg2)) (m ((c : Thread nD τ).loc main_arg3)) j := by
  subst hh hx hw hg h1
  refine Eq.trans ?_ (ref_at_idx _ _ _ _ _).symm
  refine Norm.row_congr _ (fun q => ?_) ((blk_g m c t _).trans (entry_g m c _))
  refine congrArg₂ (fun a b : EReal => a + b) ((blk_h m c t r q (j 0) h0).trans (entry_h m c (j 0) q))
    (Finset.sum_congr rfl fun k _ => ?_)
  exact congrArg₂ (fun a b : EReal => a * b) ((blk_x m c t r k (j 0) h0).trans (entry_x m c (j 0) k))
      ((blk_w m c t k q).trans (entry_w m c _))

/-- What the body stores at an index of its block is the reference at the array index it sits at. -/
theorem point (c : Dev nD) (t : Fin cfg0.N) (y) :
    k0_pay1 (iblk m c 2 t) (iblk m c 0 t) (iblk m c 1 t) (iblk m c 3 t) y
      = REF (m ((c : Thread nD τ).loc main_arg0)) (m ((c : Thread nD τ).loc main_arg1)) (m ((c : Thread nD τ).loc
        main_arg2)) (m ((c : Thread nD τ).loc main_arg3)) (((cfg0.win 4).blk t).view.emb y) := by
  idx_vars y
  refine (pay_at _ _ _ _ _ _).trans ?_
  refine core m c t _ _ _ _ rfl rfl rfl rfl y0 y1 _ ?_ ?_
  · blk_simp [idx_val t] <;> (dsimp only; omega)
  · refine Fin.ext ?_
    blk_simp [idx_val t] <;> (dsimp only; omega)

/-- The output array after the run is the reference's term of the arguments. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.DownIdeal.Value

end
-- ==== Proof.Down.Claims.lean ====
/- Hand-written: the claims about the down-projection with its residual and norm. -/
module

public import proofs.«01_k».proof.Defs
public import proofs.«01_k».proof.Proof.Gen.Down.Frame
public import proofs.«01_k».proof.Proof.Gen.DownIdeal.Value
public import proofs.«01_k».proof.Proof.Gen.DownRefIdeal.Run
public import proofs.«01_k».proof.Proof.Down.Value
public import Idealize.ShloMosaic.Lib.Quiescent

@[expose] public section

noncomputable section

namespace Cert.Proof

open Idealize.ShloMosaic Idealize.ShloMosaic.TcCoe Idealize.SL.Sem

/-- The kernel at its machine formats terminates without a fault and keeps its arguments. -/
theorem frame_Down : Cert.quiescent_Down (hDown := Cert.Down.Gen.facts) :=
  fun m g _ => Cert.Down.Gen.frame m g

/-- The idealized kernel terminates without a fault and keeps its arguments. -/
theorem frame_DownIdeal : Cert.quiescent_DownIdeal (hDownIdeal := Cert.DownIdeal.Gen.facts) :=
  fun m g _ => Cert.DownIdeal.Gen.frame m g

/-- The reference terminates without a fault and keeps its arguments. -/
theorem frame_DownRefIdeal : Cert.quiescent_DownRefIdeal (hDownRefIdeal := Cert.DownRefIdeal.Gen.facts) :=
  fun m g _ => (θ_run Cert.DownRefIdeal.defs _ _).mono
    (fun r h => ⟨fun c => (h c).2, Idealize.ShloMosaic.sem_eq_zero_of_no_sems (by decide) r.2⟩)
    (Cert.DownRefIdeal.Value.run (F := Ideal) m g)

/-- From memories that agree on the arguments, kernel and reference end with equal results. -/
theorem algebraic_Down : Cert.algebraic_DownIdeal_DownRefIdeal (hDownIdeal := Cert.DownIdeal.Gen.facts) (hDownRefIdeal := Cert.DownRefIdeal.Gen.facts) := by
  intro m g m' g' _ hagree
  refine ⟨_, Cert.DownIdeal.Value.run_blocks (F := Ideal) m g, ?_⟩
  refine (θ_run Cert.DownRefIdeal.defs _ _).mono (fun _ h c => ⟨(h c).1.trans ?_, (h c).2⟩)
    (Cert.DownRefIdeal.Value.run (F := Ideal) m' g')
  rw [(hagree c).1, (hagree c).2.1, (hagree c).2.2.1, (hagree c).2.2.2]
  exact (Cert.DownIdeal.Value.final m c).symm

end Cert.Proof

end
-- ==== Proof.Out.Value.lean ====
/- Hand-written: the value of the output-projection kernel, as functions of the argument arrays. -/
module

public import proofs.«01_k».proof.Proof.Gen.OutIdeal.Frame
public import proofs.«01_k».proof.Proof.Gen.OutRefIdeal.Run
public import proofs.«01_k».proof.Proof.Norm.Row
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Out.Spec

/-- One entry of the residual stream: what was there, plus the dot products of the two halves of the mixed row. -/
def hid (h : EReal) (x y u v : Fin 1024 → EReal) : EReal := h + ∑ k, x k * u k + ∑ k, y k * v k

/-- Equal parts have equal sums. -/
theorem hid_congr {h h' : EReal} {x x' y y' u u' v v' : Fin 1024 → EReal} (hh : h = h') (hx : ∀ k, x k = x' k)
    (hy : ∀ k, y k = y' k) (hu : ∀ k, u k = u' k) (hv : ∀ k, v k = v' k) : hid h x y u v = hid h' x' y' u' v' := by
  rw [hh, funext hx, funext hy, funext hu, funext hv]

section Ref
open Cert.OutRefIdeal Cert.OutRefIdeal.Gen

/-- The reference's residual stream after the projection. -/
def HID (a0 a1 : FVec Ideal S4x8192x1024 .f32) (a2 : FVec Ideal S2048x2048 .f32) (a3 : FVec Ideal S4x8192x2048 .f32) :
    FVec Ideal S32768x2048 .f32 :=
  addf (shapeCast _ a3 shapeCasts_S4x8192x2048_S32768x2048) (Host.dotGeneral dot_S32768x2048_S2048x2048_S32768x2048_1_0_0_1_n_n none (shapeCast _ (concatenate S4x8192x2048 2 [⟨S4x8192x1024, a0⟩, ⟨S4x8192x1024, a1⟩] concatenates_S4x8192x1024_S4x8192x1024_S4x8192x2048_d2) shapeCasts_S4x8192x2048_S32768x2048) a2)

/-- The norm of the rows of `h` with gain `g`. -/
def NORM (h : FVec Ideal S32768x2048 .f32) (g : FVec Ideal S2048 .f32) : FVec Ideal S32768x2048 .bf16 :=
  truncf .bf16 (mulf (mulf h (broadcastInDim S32768x2048 ![0, 1] bcast_S32768x1_S32768x2048_0_1 (Host.rsqrt (addf (Host.divf (broadcastInDim S32768x1 ![0] bcast_S32768_S32768x1_0 (Host.reduceAdd (mulf h h) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x3727C5AC#32)))))) (broadcastInDim S32768x2048 ![0, 1] bcast_S1x2048_S32768x2048_0_1 (broadcastInDim S1x2048 ![1] bcast_S2048_S1x2048_1 g))) bitsLt_bf16_f32

/-- The residual stream at row `r`, column `l`. -/
theorem hid_at (a0 a1 : FVec Ideal S4x8192x1024 .f32) (a2 : FVec Ideal S2048x2048 .f32) (a3 : FVec Ideal S4x8192x2048 .f32)
    (r : Fin 32768) (l : Fin 2048) :
    HID a0 a1 a2 a3 (ix2 r l)
      = hid (a3 (ix3 ⟨r.val / 8192, by omega⟩ ⟨r.val % 8192, by omega⟩ l))
          (fun k => a0 (ix3 ⟨r.val / 8192, by omega⟩ ⟨r.val % 8192, by omega⟩ k))
          (fun k => a1 (ix3 ⟨r.val / 8192, by omega⟩ ⟨r.val % 8192, by omega⟩ k))
          (fun k => a2 (ix2 ⟨k.val, by omega⟩ l)) (fun k => a2 (ix2 ⟨1024 + k.val, by omega⟩ l)) := by
  pointwise [HID, hid]
  exact (add_assoc _ _ _).symm

/-- The norm at row `r`, column `l`. -/
theorem norm_at (h : FVec Ideal S32768x2048 .f32) (g : FVec Ideal S2048 .f32) (r : Fin 32768) (l : Fin 2048) :
    NORM h g (ix2 r l) = Norm.row (fun k => h (ix2 r k)) (g (ix1 l)) l := by
  pointwise [NORM, Norm.row]

/-- The residual stream at an index. -/
theorem hid_at_idx (a0 a1 : FVec Ideal S4x8192x1024 .f32) (a2 : FVec Ideal S2048x2048 .f32) (a3 : FVec Ideal S4x8192x2048 .f32)
    (j : S32768x2048.Idx) :
    HID a0 a1 a2 a3 j
      = hid (a3 (ix3 ⟨(j 0).val / 8192, Nat.div_lt_of_lt_mul (j 0).isLt⟩ ⟨(j 0).val % 8192, Nat.mod_lt _ (by decide)⟩ (j 1)))
          (fun k => a0 (ix3 ⟨(j 0).val / 8192, Nat.div_lt_of_lt_mul (j 0).isLt⟩ ⟨(j 0).val % 8192, Nat.mod_lt _ (by decide)⟩ k))
          (fun k => a1 (ix3 ⟨(j 0).val / 8192, Nat.div_lt_of_lt_mul (j 0).isLt⟩ ⟨(j 0).val % 8192, Nat.mod_lt _ (by decide)⟩ k))
          (fun k => a2 (ix2 ⟨k.val, by omega⟩ (j 1))) (fun k => a2 (ix2 ⟨1024 + k.val, by omega⟩ (j 1))) := by
  conv_lhs => rw [eq_ix2 j]
  exact hid_at a0 a1 a2 a3 (j 0) (j 1)

/-- The norm at an index. -/
theorem norm_at_idx (h : FVec Ideal S32768x2048 .f32) (g : FVec Ideal S2048 .f32) (j : S32768x2048.Idx) :
    NORM h g j = Norm.row (fun k => h (ix2 (j 0) k)) (g (ix1 (j 1))) (j 1) := by
  conv_lhs => rw [eq_ix2 j]
  exact norm_at h g (j 0) (j 1)

end Ref

section Kernel
open Cert.OutIdeal Cert.OutIdeal.Gen

/-- The stored residual stream at an index. -/
theorem pay1_at (h : FVec Ideal S512x2048 .f32) (x : FVec Ideal S512x1024 .bf16) (u : FVec Ideal S1024x2048 .bf16)
    (y : FVec Ideal S512x1024 .bf16) (v : FVec Ideal S1024x2048 .bf16) (r : Fin 512) (l : Fin 2048) :
    k0_pay1 (F := Ideal) h x u y v (ix2 r l)
      = hid (h (ix2 r l)) (fun k => x (ix2 r k)) (fun k => y (ix2 r k)) (fun k => u (ix2 k l)) (fun k => v (ix2 k l)) := by
  pointwise [k0_pay1, hid]

/-- The stored normed row at an index, in terms of the stored residual stream. -/
theorem pay2_at (h : FVec Ideal S512x2048 .f32) (x : FVec Ideal S512x1024 .bf16) (u : FVec Ideal S1024x2048 .bf16)
    (y : FVec Ideal S512x1024 .bf16) (v : FVec Ideal S1024x2048 .bf16) (g : FVec Ideal S1x2048 .f32) (r : Fin 512) (l : Fin 2048) :
    k0_pay2 (F := Ideal) h x u y v g (ix2 r l)
      = Norm.row (fun q => k0_pay1 (F := Ideal) h x u y v (ix2 r q)) (g (ix2 0 l)) l := by
  pointwise [k0_pay2, Norm.row]

end Kernel

end Cert.Out.Spec

namespace Cert.OutIdeal.Value

open Cert.OutIdeal Cert.OutIdeal.Gen Cert.Out.Spec

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![0, 0]
    ∧ win0_3.index t = ![t.val, 0]
    ∧ win0_4.index t = ![0, 0]
    ∧ win0_5.index t = ![t.val, 0]
    ∧ win0_6.index t = ![t.val, 0] :=
  (by decide +kernel : ∀ t : Fin grid0.N, _)

/-- The attention's half of the mixed rows as the kernel finds it. -/
theorem entry_x (c : Dev nD) (r : Fin 32768) (k : Fin 1024) :
    (V m c main_v1 : FVec Ideal S32768x1024 .bf16) (ix2 r k)
      = (m ((c : Thread nD τ).loc main_arg0) : FVec Ideal S4x8192x1024 .f32)
          (ix3 ⟨r.val / 8192, by omega⟩ ⟨r.val % 8192, by omega⟩ k) := by
  entry_read
  pointwise

/-- The recurrence's half of the mixed rows as the kernel finds it. -/
theorem entry_y (c : Dev nD) (r : Fin 32768) (k : Fin 1024) :
    (V m c main_v3 : FVec Ideal S32768x1024 .bf16) (ix2 r k)
      = (m ((c : Thread nD τ).loc main_arg1) : FVec Ideal S4x8192x1024 .f32)
          (ix3 ⟨r.val / 8192, by omega⟩ ⟨r.val % 8192, by omega⟩ k) := by
  entry_read
  pointwise

/-- The weights as the kernel finds them. -/
theorem entry_w (c : Dev nD) (i : S2048x2048.Idx) :
    (V m c main_v4 : FVec Ideal S2048x2048 .bf16) i
      = (m ((c : Thread nD τ).loc main_arg2) : FVec Ideal S2048x2048 .f32) i := by
  entry_read
  pointwise

/-- The residual stream as the kernel finds it. -/
theorem entry_h (c : Dev nD) (r : Fin 32768) (k : Fin 2048) :
    (V m c main_v5 : FVec Ideal S32768x2048 .f32) (ix2 r k)
      = (m ((c : Thread nD τ).loc main_arg3) : FVec Ideal S4x8192x2048 .f32)
          (ix3 ⟨r.val / 8192, by omega⟩ ⟨r.val % 8192, by omega⟩ k) := by
  entry_read
  pointwise

/-- The gain as the kernel finds it. -/
theorem entry_g (c : Dev nD) (l : Fin 2048) :
    (V m c main_v6 : FVec Ideal S1x2048 .f32) (ix2 0 l)
      = (m ((c : Thread nD τ).loc main_arg4) : FVec Ideal S2048 .f32) (ix1 l) := by
  entry_read
  pointwise

/-- The block of attention rows a grid point is given. -/
theorem blk_x (c : Dev nD) (t : Fin cfg0.N) (r : Fin 512) (k : Fin 1024) (R : Fin 32768) (hR : R.val = t.val * 512 + r.val) :
    (iblk m c 0 t : FVec Ideal S512x1024 .bf16) (ix2 r k) = (V m c main_v1 : FVec Ideal S32768x1024 .bf16) (ix2 R k) := by
  blk_ext [iblk, idx_val t]

/-- The block of recurrence rows a grid point is given. -/
theorem blk_y (c : Dev nD) (t : Fin cfg0.N) (r : Fin 512) (k : Fin 1024) (R : Fin 32768) (hR : R.val = t.val * 512 + r.val) :
    (iblk m c 1 t : FVec Ideal S512x1024 .bf16) (ix2 r k) = (V m c main_v3 : FVec Ideal S32768x1024 .bf16) (ix2 R k) := by
  blk_ext [iblk, idx_val t]

/-- The weights, whole at every grid point. -/
theorem blk_w (c : Dev nD) (t : Fin cfg0.N) (k : Fin 2048) (l : Fin 2048) :
    (iblk m c 2 t : FVec Ideal S2048x2048 .bf16) (ix2 k l) = (V m c main_v4 : FVec Ideal S2048x2048 .bf16) (ix2 k l) := by
  blk_ext [iblk, idx_val t]

/-- The rows the first load takes. -/
theorem ld_u (w : FVec Ideal S2048x2048 .bf16) (k : Fin 1024) (l : Fin 2048) :
    View.ld (Val := Elt Ideal) (e' := .bf16) w r0_2 (ix2 k l) = w (ix2 ⟨k.val, by omega⟩ l) := by
  pointwise [r0_2]

/-- The rows the second load takes. -/
theorem ld_v (w : FVec Ideal S2048x2048 .bf16) (k : Fin 1024) (l : Fin 2048) :
    View.ld (Val := Elt Ideal) (e' := .bf16) w r0_3 (ix2 k l) = w (ix2 ⟨1024 + k.val, by omega⟩ l) := by
  pointwise [r0_3]

/-- The upper half of the weights, whole at every grid point. -/
theorem blk_u (c : Dev nD) (t : Fin cfg0.N) (k : Fin 1024) (l : Fin 2048) :
    (View.ld (iblk m c 2 t) r0_2 : FVec Ideal S1024x2048 .bf16) (ix2 k l)
      = (V m c main_v4 : FVec Ideal S2048x2048 .bf16) (ix2 ⟨k.val, by omega⟩ l) := by
  exact (ld_u _ k l).trans (blk_w m c t _ l)

/-- The lower half of the weights, whole at every grid point. -/
theorem blk_v (c : Dev nD) (t : Fin cfg0.N) (k : Fin 1024) (l : Fin 2048) :
    (View.ld (iblk m c 2 t) r0_3 : FVec Ideal S1024x2048 .bf16) (ix2 k l)
      = (V m c main_v4 : FVec Ideal S2048x2048 .bf16) (ix2 ⟨1024 + k.val, by omega⟩ l) := by
  exact (ld_v _ k l).trans (blk_w m c t _ l)

/-- The block of the residual stream a grid point is given. -/
theorem blk_h (c : Dev nD) (t : Fin cfg0.N) (r : Fin 512) (k : Fin 2048) (R : Fin 32768) (hR : R.val = t.val * 512 + r.val) :
    (iblk m c 3 t : FVec Ideal S512x2048 .f32) (ix2 r k) = (V m c main_v5 : FVec Ideal S32768x2048 .f32) (ix2 R k) := by
  blk_ext [iblk, idx_val t]

/-- The gain, whole at every grid point. -/
theorem blk_g (c : Dev nD) (t : Fin cfg0.N) (l : Fin 2048) :
    (iblk m c 4 t : FVec Ideal S1x2048 .f32) (ix2 0 l) = (V m c main_v6 : FVec Ideal S1x2048 .f32) (ix2 0 l) := by
  blk_ext [iblk, idx_val t]

/-- The residual stream of a point at row `r` and column `l` of its block, in terms of the arguments. -/
theorem core_h (c : Dev nD) (t : Fin cfg0.N) (h : FVec Ideal S512x2048 .f32) (x : FVec Ideal S512x1024 .bf16)
    (u : FVec Ideal S1024x2048 .bf16) (y : FVec Ideal S512x1024 .bf16) (v : FVec Ideal S1024x2048 .bf16)
    (hh : h = iblk m c 3 t) (hx : x = iblk m c 0 t) (hu : u = View.ld (iblk m c 2 t) r0_2) (hy : y = iblk m c 1 t)
    (hv : v = View.ld (iblk m c 2 t) r0_3)
    (r : Fin 512) (l : Fin 2048) (j : S32768x2048.Idx)
    (h0 : (j 0).val = t.val * 512 + r.val) (h1 : j 1 = l) :
    k0_pay1 (F := Ideal) h x u y v (ix2 r l)
      = HID (m ((c : Thread nD τ).loc main_arg0)) (m ((c : Thread nD τ).loc main_arg1)) (m ((c : Thread nD τ).loc main_arg2)) (m ((c : Thread nD τ).loc main_arg3)) j := by
  subst hh hx hu hy hv h1
  refine (pay1_at _ _ _ _ _ _ _).trans (Eq.trans ?_ (hid_at_idx _ _ _ _ _).symm)
  exact hid_congr ((blk_h m c t r _ (j 0) h0).trans (entry_h m c (j 0) _))
    (fun k => (blk_x m c t r k (j 0) h0).trans (entry_x m c (j 0) k))
    (fun k => (blk_y m c t r k (j 0) h0).trans (entry_y m c (j 0) k))
    (fun k => (blk_u m c t k _).trans (entry_w m c _)) (fun k => (blk_v m c t k _).trans (entry_w m c _))

/-- The normed row of a point at row `r` and column `l` of its block, in terms of the arguments. -/
theorem core_n (c : Dev nD) (t : Fin cfg0.N) (h : FVec Ideal S512x2048 .f32) (x : FVec Ideal S512x1024 .bf16)
    (u : FVec Ideal S1024x2048 .bf16) (y : FVec Ideal S512x1024 .bf16) (v : FVec Ideal S1024x2048 .bf16) (g : FVec Ideal S1x2048 .f32)
    (hh : h = iblk m c 3 t) (hx : x = iblk m c 0 t) (hu : u = View.ld (iblk m c 2 t) r0_2) (hy : y = iblk m c 1 t)
    (hv : v = View.ld (iblk m c 2 t) r0_3) (hg : g = iblk m c 4 t)
    (r : Fin 512) (l : Fin 2048) (j : S32768x2048.Idx)
    (h0 : (j 0).val = t.val * 512 + r.val) (h1 : j 1 = l) :
    k0_pay2 (F := Ideal) h x u y v g (ix2 r l)
      = NORM (HID (m ((c : Thread nD τ).loc main_arg0)) (m ((c : Thread nD τ).loc main_arg1)) (m ((c : Thread nD τ).loc main_arg2)) (m ((c : Thread nD τ).loc main_arg3)))
          (m ((c : Thread nD τ).loc main_arg4)) j := by
  subst hg h1
  refine (pay2_at _ _ _ _ _ _ _ _).trans (Eq.trans ?_ (norm_at_idx _ _ _).symm)
  exact Norm.row_congr _ (fun q => core_h m c t h x u y v hh hx hu hy hv r q (ix2 (j 0) q) h0 rfl)
    ((blk_g m c t _).trans (entry_g m c _))

/-- What the body stores of the residual stream is the reference at the array index it sits at. -/
theorem point_h (c : Dev nD) (t : Fin cfg0.N) (y) :
    k0_pay1 (iblk m c 3 t) (iblk m c 0 t) (View.ld (iblk m c 2 t) r0_2) (iblk m c 1 t) (View.ld (iblk m c 2 t) r0_3) y
      = HID (m ((c : Thread nD τ).loc main_arg0)) (m ((c : Thread nD τ).loc main_arg1)) (m ((c : Thread nD τ).loc main_arg2)) (m ((c : Thread nD τ).loc main_arg3)) (((cfg0.win 5).blk t).view.emb y) := by
  idx_vars y
  refine core_h m c t _ _ _ _ _ rfl rfl rfl rfl rfl y0 y1 _ ?_ ?_
  · blk_simp [idx_val t] <;> (dsimp only; omega)
  · refine Fin.ext ?_
    blk_simp [idx_val t] <;> (dsimp only; omega)

/-- What the body stores of the normed rows is the reference at the array index it sits at. -/
theorem point_n (c : Dev nD) (t : Fin cfg0.N) (y) :
    k0_pay2 (iblk m c 3 t) (iblk m c 0 t) (View.ld (iblk m c 2 t) r0_2) (iblk m c 1 t) (View.ld (iblk m c 2 t) r0_3)
        (iblk m c 4 t) y
      = NORM (HID (m ((c : Thread nD τ).loc main_arg0)) (m ((c : Thread nD τ).loc main_arg1)) (m ((c : Thread nD τ).loc main_arg2)) (m ((c : Thread nD τ).loc main_arg3)))
          (m ((c : Thread nD τ).loc main_arg4)) (((cfg0.win 6).blk t).view.emb y) := by
  idx_vars y
  refine core_n m c t _ _ _ _ _ _ rfl rfl rfl rfl rfl rfl y0 y1 _ ?_ ?_
  · blk_simp [idx_val t] <;> (dsimp only; omega)
  · refine Fin.ext ?_
    blk_simp [idx_val t] <;> (dsimp only; omega)

/-- The residual stream after the run is the reference's. -/
theorem final_5 (c : Dev nD) : (dats m 0 c).arrAt 5 (cfgs 0).N
    = HID (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point_h m c t y

/-- The normed rows after the run are the reference's. -/
theorem final_6 (c : Dev nD) : (dats m 0 c).arrAt 6 (cfgs 0).N
    = NORM (HID (m ((c : Thread nD τ).loc main_arg0)) (m ((c : Thread nD τ).loc main_arg1)) (m ((c : Thread nD τ).loc main_arg2)) (m ((c : Thread nD τ).loc main_arg3)))
        (m ((c : Thread nD τ).loc main_arg4)) := by
  refine (dats m 0 c).arrAt_eq_of_covers 6 _ (by decide +kernel) fun t hf y => ?_
  blk_simp; rw [after0_6]; frame_out
  exact point_n m c t y

end Cert.OutIdeal.Value

end
-- ==== Proof.Out.Claims.lean ====
/- Hand-written: the claims about the output projection of the even layers. -/
module

public import proofs.«01_k».proof.Defs
public import proofs.«01_k».proof.Proof.Gen.Out.Frame
public import proofs.«01_k».proof.Proof.Gen.OutIdeal.Value
public import proofs.«01_k».proof.Proof.Gen.OutRefIdeal.Run
public import proofs.«01_k».proof.Proof.Out.Value
public import Idealize.ShloMosaic.Lib.Quiescent

@[expose] public section

noncomputable section

namespace Cert.Proof

open Idealize.ShloMosaic Idealize.ShloMosaic.TcCoe Idealize.SL.Sem

/-- The kernel at its machine formats terminates without a fault and keeps its arguments. -/
theorem frame_Out : Cert.quiescent_Out (hOut := Cert.Out.Gen.facts) :=
  fun m g _ => Cert.Out.Gen.frame m g

/-- The idealized kernel terminates without a fault and keeps its arguments. -/
theorem frame_OutIdeal : Cert.quiescent_OutIdeal (hOutIdeal := Cert.OutIdeal.Gen.facts) :=
  fun m g _ => Cert.OutIdeal.Gen.frame m g

/-- The reference terminates without a fault and keeps its arguments. -/
theorem frame_OutRefIdeal : Cert.quiescent_OutRefIdeal (hOutRefIdeal := Cert.OutRefIdeal.Gen.facts) :=
  fun m g _ => (θ_run Cert.OutRefIdeal.defs _ _).mono
    (fun r h => ⟨fun c => (h c).2.2, Idealize.ShloMosaic.sem_eq_zero_of_no_sems (by decide) r.2⟩)
    (Cert.OutRefIdeal.Value.run (F := Ideal) m g)

/-- From memories that agree on the arguments, kernel and reference end with equal results. -/
theorem algebraic_Out : Cert.algebraic_OutIdeal_OutRefIdeal (hOutIdeal := Cert.OutIdeal.Gen.facts) (hOutRefIdeal := Cert.OutRefIdeal.Gen.facts) := by
  intro m g m' g' _ hagree
  refine ⟨_, _, Cert.OutIdeal.Value.run_blocks (F := Ideal) m g, ?_⟩
  refine (θ_run Cert.OutRefIdeal.defs _ _).mono (fun _ h c => ⟨(h c).1.trans ?_, (h c).2.1.trans ?_, (h c).2.2⟩)
    (Cert.OutRefIdeal.Value.run (F := Ideal) m' g')
  · rw [(hagree c).1, (hagree c).2.1, (hagree c).2.2.1, (hagree c).2.2.2.1]
    exact (Cert.OutIdeal.Value.final_5 m c).symm
  · rw [(hagree c).1, (hagree c).2.1, (hagree c).2.2.1, (hagree c).2.2.2.1, (hagree c).2.2.2.2]
    exact (Cert.OutIdeal.Value.final_6 m c).symm

end Cert.Proof

end
-- ==== Proof.Odd.Value.lean ====
/- Hand-written: the value of the output projection of the odd layers, as functions of the argument arrays. -/
module

public import proofs.«01_k».proof.Proof.Gen.OddIdeal.Frame
public import proofs.«01_k».proof.Proof.Gen.OddRefIdeal.Run
public import proofs.«01_k».proof.Proof.Norm.Row
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Odd.Spec

/-- One entry of the residual stream: what was there, plus the dot product of the row with a column of the weights. -/
def hid (h : EReal) (x w : Fin 2048 → EReal) : EReal := h + ∑ k, x k * w k

/-- Equal parts have equal sums. -/
theorem hid_congr {h h' : EReal} {x x' w w' : Fin 2048 → EReal} (hh : h = h') (hx : ∀ k, x k = x' k)
    (hw : ∀ k, w k = w' k) : hid h x w = hid h' x' w' := by
  rw [hh, funext hx, funext hw]

section Ref
open Cert.OddRefIdeal Cert.OddRefIdeal.Gen

/-- The reference's residual stream after the projection. -/
def HID (a0 : FVec Ideal S4x8192x2048 .f32) (a1 : FVec Ideal S2048x2048 .f32) (a2 : FVec Ideal S4x8192x2048 .f32) :
    FVec Ideal S32768x2048 .f32 :=
  addf (shapeCast _ a2 shapeCasts_S4x8192x2048_S32768x2048) (Host.dotGeneral dot_S32768x2048_S2048x2048_S32768x2048_1_0_0_1_n_n none (shapeCast _ a0 shapeCasts_S4x8192x2048_S32768x2048) a1)

/-- The norm of the rows of `h` with gain `g`. -/
def NORM (h : FVec Ideal S32768x2048 .f32) (g : FVec Ideal S2048 .f32) : FVec Ideal S32768x2048 .bf16 :=
  truncf .bf16 (mulf (mulf h (broadcastInDim S32768x2048 ![0, 1] bcast_S32768x1_S32768x2048_0_1 (Host.rsqrt (addf (Host.divf (broadcastInDim S32768x1 ![0] bcast_S32768_S32768x1_0 (Host.reduceAdd (mulf h h) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x3727C5AC#32)))))) (broadcastInDim S32768x2048 ![0, 1] bcast_S1x2048_S32768x2048_0_1 (broadcastInDim S1x2048 ![1] bcast_S2048_S1x2048_1 g))) bitsLt_bf16_f32

/-- The residual stream at row `r`, column `l`. -/
theorem hid_at (a0 : FVec Ideal S4x8192x2048 .f32) (a1 : FVec Ideal S2048x2048 .f32) (a2 : FVec Ideal S4x8192x2048 .f32)
    (r : Fin 32768) (l : Fin 2048) :
    HID a0 a1 a2 (ix2 r l)
      = hid (a2 (ix3 ⟨r.val / 8192, by omega⟩ ⟨r.val % 8192, by omega⟩ l))
          (fun k => a0 (ix3 ⟨r.val / 8192, by omega⟩ ⟨r.val % 8192, by omega⟩ k)) (fun k => a1 (ix2 k l)) := by
  pointwise [HID, hid]

/-- The norm at row `r`, column `l`. -/
theorem norm_at (h : FVec Ideal S32768x2048 .f32) (g : FVec Ideal S2048 .f32) (r : Fin 32768) (l : Fin 2048) :
    NORM h g (ix2 r l) = Norm.row (fun k => h (ix2 r k)) (g (ix1 l)) l := by
  pointwise [NORM, Norm.row]

/-- The residual stream at an index. -/
theorem hid_at_idx (a0 : FVec Ideal S4x8192x2048 .f32) (a1 : FVec Ideal S2048x2048 .f32) (a2 : FVec Ideal S4x8192x2048 .f32)
    (j : S32768x2048.Idx) :
    HID a0 a1 a2 j
      = hid (a2 (ix3 ⟨(j 0).val / 8192, Nat.div_lt_of_lt_mul (j 0).isLt⟩ ⟨(j 0).val % 8192, Nat.mod_lt _ (by decide)⟩ (j 1)))
          (fun k => a0 (ix3 ⟨(j 0).val / 8192, Nat.div_lt_of_lt_mul (j 0).isLt⟩ ⟨(j 0).val % 8192, Nat.mod_lt _ (by decide)⟩ k))
          (fun k => a1 (ix2 k (j 1))) := by
  conv_lhs => rw [eq_ix2 j]
  exact hid_at a0 a1 a2 (j 0) (j 1)

/-- The norm at an index. -/
theorem norm_at_idx (h : FVec Ideal S32768x2048 .f32) (g : FVec Ideal S2048 .f32) (j : S32768x2048.Idx) :
    NORM h g j = Norm.row (fun k => h (ix2 (j 0) k)) (g (ix1 (j 1))) (j 1) := by
  conv_lhs => rw [eq_ix2 j]
  exact norm_at h g (j 0) (j 1)

end Ref

section Kernel
open Cert.OddIdeal Cert.OddIdeal.Gen

/-- The stored residual stream at an index. -/
theorem pay1_at (h : FVec Ideal S512x2048 .f32) (x : FVec Ideal S512x2048 .bf16) (w : FVec Ideal S2048x2048 .bf16)
    (r : Fin 512) (l : Fin 2048) :
    k0_pay1 (F := Ideal) h x w (ix2 r l) = hid (h (ix2 r l)) (fun k => x (ix2 r k)) (fun k => w (ix2 k l)) := by
  pointwise [k0_pay1, hid]

/-- The stored normed row at an index, in terms of the stored residual stream. -/
theorem pay2_at (h : FVec Ideal S512x2048 .f32) (x : FVec Ideal S512x2048 .bf16) (w : FVec Ideal S2048x2048 .bf16)
    (g : FVec Ideal S1x2048 .f32) (r : Fin 512) (l : Fin 2048) :
    k0_pay2 (F := Ideal) h x w g (ix2 r l)
      = Norm.row (fun q => k0_pay1 (F := Ideal) h x w (ix2 r q)) (g (ix2 0 l)) l := by
  pointwise [k0_pay2, Norm.row]

end Kernel

end Cert.Odd.Spec

namespace Cert.OddIdeal.Value

open Cert.OddIdeal Cert.OddIdeal.Gen Cert.Odd.Spec

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- The rows to project as the kernel finds them: the argument, its two leading axes merged. -/
theorem entry_x (c : Dev nD) (r : Fin 32768) (k : Fin 2048) :
    (V m c main_v1 : FVec Ideal S32768x2048 .bf16) (ix2 r k)
      = (m ((c : Thread nD τ).loc main_arg0) : FVec Ideal S4x8192x2048 .f32)
          (ix3 ⟨r.val / 8192, by omega⟩ ⟨r.val % 8192, by omega⟩ k) := by
  entry_read
  pointwise

/-- The weights as the kernel finds them. -/
theorem entry_w (c : Dev nD) (i : S2048x2048.Idx) :
    (V m c main_v2 : FVec Ideal S2048x2048 .bf16) i
      = (m ((c : Thread nD τ).loc main_arg1) : FVec Ideal S2048x2048 .f32) i := by
  entry_read
  pointwise

/-- The residual stream as the kernel finds it. -/
theorem entry_h (c : Dev nD) (r : Fin 32768) (k : Fin 2048) :
    (V m c main_v3 : FVec Ideal S32768x2048 .f32) (ix2 r k)
      = (m ((c : Thread nD τ).loc main_arg2) : FVec Ideal S4x8192x2048 .f32)
          (ix3 ⟨r.val / 8192, by omega⟩ ⟨r.val % 8192, by omega⟩ k) := by
  entry_read
  pointwise

/-- The gain as the kernel finds it. -/
theorem entry_g (c : Dev nD) (l : Fin 2048) :
    (V m c main_v4 : FVec Ideal S1x2048 .f32) (ix2 0 l)
      = (m ((c : Thread nD τ).loc main_arg3) : FVec Ideal S2048 .f32) (ix1 l) := by
  entry_read
  pointwise

/-- The block of rows a grid point is given. -/
theorem blk_x (c : Dev nD) (t : Fin cfg0.N) (r : Fin 512) (k : Fin 2048) (R : Fin 32768) (hR : R.val = t.val * 512 + r.val) :
    (iblk m c 0 t : FVec Ideal S512x2048 .bf16) (ix2 r k) = (V m c main_v1 : FVec Ideal S32768x2048 .bf16) (ix2 R k) := by
  blk_ext [iblk, idx_val t]

/-- The weights, whole at every grid point. -/
theorem blk_w (c : Dev nD) (t : Fin cfg0.N) (k : Fin 2048) (l : Fin 2048) :
    (iblk m c 1 t : FVec Ideal S2048x2048 .bf16) (ix2 k l) = (V m c main_v2 : FVec Ideal S2048x2048 .bf16) (ix2 k l) := by
  blk_ext [iblk, idx_val t]

/-- The block of the residual stream a grid point is given. -/
theorem blk_h (c : Dev nD) (t : Fin cfg0.N) (r : Fin 512) (k : Fin 2048) (R : Fin 32768) (hR : R.val = t.val * 512 + r.val) :
    (iblk m c 2 t : FVec Ideal S512x2048 .f32) (ix2 r k) = (V m c main_v3 : FVec Ideal S32768x2048 .f32) (ix2 R k) := by
  blk_ext [iblk, idx_val t]

/-- The gain, whole at every grid point. -/
theorem blk_g (c : Dev nD) (t : Fin cfg0.N) (l : Fin 2048) :
    (iblk m c 3 t : FVec Ideal S1x2048 .f32) (ix2 0 l) = (V m c main_v4 : FVec Ideal S1x2048 .f32) (ix2 0 l) := by
  blk_ext [iblk, idx_val t]

/-- The residual stream of a point at row `r` and column `l` of its block, in terms of the arguments. -/
theorem core_h (c : Dev nD) (t : Fin cfg0.N) (h : FVec Ideal S512x2048 .f32) (x : FVec Ideal S512x2048 .bf16)
    (w : FVec Ideal S2048x2048 .bf16)
    (hh : h = iblk m c 2 t) (hx : x = iblk m c 0 t) (hw : w = iblk m c 1 t)
    (r : Fin 512) (l : Fin 2048) (j : S32768x2048.Idx)
    (h0 : (j 0).val = t.val * 512 + r.val) (h1 : j 1 = l) :
    k0_pay1 (F := Ideal) h x w (ix2 r l)
      = HID (m ((c : Thread nD τ).loc main_arg0)) (m ((c : Thread nD τ).loc main_arg1)) (m ((c : Thread nD τ).loc main_arg2)) j := by
  subst hh hx hw h1
  refine (pay1_at _ _ _ _ _).trans (Eq.trans ?_ (hid_at_idx _ _ _ _).symm)
  exact hid_congr ((blk_h m c t r _ (j 0) h0).trans (entry_h m c (j 0) _))
    (fun k => (blk_x m c t r k (j 0) h0).trans (entry_x m c (j 0) k))
    (fun k => (blk_w m c t k _).trans (entry_w m c _))

/-- The normed row of a point at row `r` and column `l` of its block, in terms of the arguments. -/
theorem core_n (c : Dev nD) (t : Fin cfg0.N) (h : FVec Ideal S512x2048 .f32) (x : FVec Ideal S512x2048 .bf16)
    (w : FVec Ideal S2048x2048 .bf16) (g : FVec Ideal S1x2048 .f32)
    (hh : h = iblk m c 2 t) (hx : x = iblk m c 0 t) (hw : w = iblk m c 1 t) (hg : g = iblk m c 3 t)
    (r : Fin 512) (l : Fin 2048) (j : S32768x2048.Idx)
    (h0 : (j 0).val = t.val * 512 + r.val) (h1 : j 1 = l) :
    k0_pay2 (F := Ideal) h x w g (ix2 r l)
      = NORM (HID (m ((c : Thread nD τ).loc main_arg0)) (m ((c : Thread nD τ).loc main_arg1)) (m ((c : Thread nD τ).loc main_arg2)))
          (m ((c : Thread nD τ).loc main_arg3)) j := by
  subst hg h1
  refine (pay2_at _ _ _ _ _ _).trans (Eq.trans ?_ (norm_at_idx _ _ _).symm)
  exact Norm.row_congr _ (fun q => core_h m c t h x w hh hx hw r q (ix2 (j 0) q) h0 rfl)
    ((blk_g m c t _).trans (entry_g m c _))

/-- What the body stores of the residual stream is the reference at the array index it sits at. -/
theorem point_h (c : Dev nD) (t : Fin cfg0.N) (y) :
    k0_pay1 (iblk m c 2 t) (iblk m c 0 t) (iblk m c 1 t) y
      = HID (m ((c : Thread nD τ).loc main_arg0)) (m ((c : Thread nD τ).loc main_arg1)) (m ((c : Thread nD τ).loc main_arg2)) (((cfg0.win 4).blk t).view.emb y) := by
  idx_vars y
  refine core_h m c t _ _ _ rfl rfl rfl y0 y1 _ ?_ ?_
  · blk_simp [idx_val t] <;> (dsimp only; omega)
  · refine Fin.ext ?_
    blk_simp [idx_val t] <;> (dsimp only; omega)

/-- What the body stores of the normed rows is the reference at the array index it sits at. -/
theorem point_n (c : Dev nD) (t : Fin cfg0.N) (y) :
    k0_pay2 (iblk m c 2 t) (iblk m c 0 t) (iblk m c 1 t) (iblk m c 3 t) y
      = NORM (HID (m ((c : Thread nD τ).loc main_arg0)) (m ((c : Thread nD τ).loc main_arg1)) (m ((c : Thread nD τ).loc main_arg2)))
          (m ((c : Thread nD τ).loc main_arg3)) (((cfg0.win 5).blk t).view.emb y) := by
  idx_vars y
  refine core_n m c t _ _ _ _ rfl rfl rfl rfl y0 y1 _ ?_ ?_
  · blk_simp [idx_val t] <;> (dsimp only; omega)
  · refine Fin.ext ?_
    blk_simp [idx_val t] <;> (dsimp only; omega)

/-- The residual stream after the run is the reference's. -/
theorem final_4 (c : Dev nD) : (dats m 0 c).arrAt 4 (cfgs 0).N
    = HID (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  exact point_h m c t y

/-- The normed rows after the run are the reference's. -/
theorem final_5 (c : Dev nD) : (dats m 0 c).arrAt 5 (cfgs 0).N
    = NORM (HID (m ((c : Thread nD τ).loc main_arg0)) (m ((c : Thread nD τ).loc main_arg1)) (m ((c : Thread nD τ).loc main_arg2)))
        (m ((c : Thread nD τ).loc main_arg3)) := by
  refine (dats m 0 c).arrAt_eq_of_covers 5 _ (by decide +kernel) fun t hf y => ?_
  blk_simp; rw [after0_5]; frame_out
  exact point_n m c t y

end Cert.OddIdeal.Value

end
-- ==== Proof.Odd.Claims.lean ====
/- Hand-written: the claims about the output projection of the odd layers. -/
module

public import proofs.«01_k».proof.Defs
public import proofs.«01_k».proof.Proof.Gen.Odd.Frame
public import proofs.«01_k».proof.Proof.Gen.OddIdeal.Value
public import proofs.«01_k».proof.Proof.Gen.OddRefIdeal.Run
public import proofs.«01_k».proof.Proof.Odd.Value
public import Idealize.ShloMosaic.Lib.Quiescent

@[expose] public section

noncomputable section

namespace Cert.Proof

open Idealize.ShloMosaic Idealize.ShloMosaic.TcCoe Idealize.SL.Sem

/-- The kernel at its machine formats terminates without a fault and keeps its arguments. -/
theorem frame_Odd : Cert.quiescent_Odd (hOdd := Cert.Odd.Gen.facts) :=
  fun m g _ => Cert.Odd.Gen.frame m g

/-- The idealized kernel terminates without a fault and keeps its arguments. -/
theorem frame_OddIdeal : Cert.quiescent_OddIdeal (hOddIdeal := Cert.OddIdeal.Gen.facts) :=
  fun m g _ => Cert.OddIdeal.Gen.frame m g

/-- The reference terminates without a fault and keeps its arguments. -/
theorem frame_OddRefIdeal : Cert.quiescent_OddRefIdeal (hOddRefIdeal := Cert.OddRefIdeal.Gen.facts) :=
  fun m g _ => (θ_run Cert.OddRefIdeal.defs _ _).mono
    (fun r h => ⟨fun c => (h c).2.2, Idealize.ShloMosaic.sem_eq_zero_of_no_sems (by decide) r.2⟩)
    (Cert.OddRefIdeal.Value.run (F := Ideal) m g)

/-- From memories that agree on the arguments, kernel and reference end with equal results. -/
theorem algebraic_Odd : Cert.algebraic_OddIdeal_OddRefIdeal (hOddIdeal := Cert.OddIdeal.Gen.facts) (hOddRefIdeal := Cert.OddRefIdeal.Gen.facts) := by
  intro m g m' g' _ hagree
  refine ⟨_, _, Cert.OddIdeal.Value.run_blocks (F := Ideal) m g, ?_⟩
  refine (θ_run Cert.OddRefIdeal.defs _ _).mono (fun _ h c => ⟨(h c).1.trans ?_, (h c).2.1.trans ?_, (h c).2.2⟩)
    (Cert.OddRefIdeal.Value.run (F := Ideal) m' g')
  · rw [(hagree c).1, (hagree c).2.1, (hagree c).2.2.1]
    exact (Cert.OddIdeal.Value.final_4 m c).symm
  · rw [(hagree c).1, (hagree c).2.1, (hagree c).2.2.1, (hagree c).2.2.2]
    exact (Cert.OddIdeal.Value.final_5 m c).symm

end Cert.Proof

end
-- ==== Proof.Mid.Value.lean ====
/- Hand-written: the value of the down-projection in front of a further layer, as functions of the argument arrays. -/
module

public import proofs.«01_k».proof.Proof.Gen.MidIdeal.Frame
public import proofs.«01_k».proof.Proof.Gen.MidRefIdeal.Run
public import proofs.«01_k».proof.Proof.Norm.Row
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Mid.Spec

/-- One entry of the residual stream: what was there, plus the dot product of the row with a column of the weights. -/
def hid (h : EReal) (x w : Fin 5632 → EReal) : EReal := h + ∑ k, x k * w k

/-- Equal parts have equal sums. -/
theorem hid_congr {h h' : EReal} {x x' w w' : Fin 5632 → EReal} (hh : h = h') (hx : ∀ k, x k = x' k)
    (hw : ∀ k, w k = w' k) : hid h x w = hid h' x' w' := by
  rw [hh, funext hx, funext hw]

section Ref
open Cert.MidRefIdeal Cert.MidRefIdeal.Gen

/-- The reference's residual stream after the projection. -/
def HID (a0 : FVec Ideal S4x8192x5632 .f32) (a1 : FVec Ideal S4x5632x2048 .f32) (a2 : FVec Ideal S4x8192x2048 .f32) :
    FVec Ideal S32768x2048 .f32 :=
  addf (shapeCast _ a2 shapeCasts_S4x8192x2048_S32768x2048) (Host.dotGeneral dot_S32768x5632_S5632x2048_S32768x2048_1_0_0_1_n_n none (shapeCast _ a0 shapeCasts_S4x8192x5632_S32768x5632) (shapeCast _ (extractStridedSlice S1x5632x2048 ![0, 0, 0] a1 slices_S4x5632x2048_S1x5632x2048_0_0_0) shapeCasts_S1x5632x2048_S5632x2048))

/-- The norm of the rows of `h` with gain `g`. -/
def NORM (h : FVec Ideal S32768x2048 .f32) (g : FVec Ideal S2048 .f32) : FVec Ideal S32768x2048 .bf16 :=
  truncf .bf16 (mulf (mulf h (broadcastInDim S32768x2048 ![0, 1] bcast_S32768x1_S32768x2048_0_1 (Host.rsqrt (addf (Host.divf (broadcastInDim S32768x1 ![0] bcast_S32768_S32768x1_0 (Host.reduceAdd (mulf h h) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x3727C5AC#32)))))) (broadcastInDim S32768x2048 ![0, 1] bcast_S1x2048_S32768x2048_0_1 (broadcastInDim S1x2048 ![1] bcast_S2048_S1x2048_1 g))) bitsLt_bf16_f32

/-- The residual stream at row `r`, column `l`. -/
theorem hid_at (a0 : FVec Ideal S4x8192x5632 .f32) (a1 : FVec Ideal S4x5632x2048 .f32) (a2 : FVec Ideal S4x8192x2048 .f32)
    (r : Fin 32768) (l : Fin 2048) :
    HID a0 a1 a2 (ix2 r l)
      = hid (a2 (ix3 ⟨r.val / 8192, by omega⟩ ⟨r.val % 8192, by omega⟩ l))
          (fun k => a0 (ix3 ⟨r.val / 8192, by omega⟩ ⟨r.val % 8192, by omega⟩ k)) (fun k => a1 (ix3 0 k l)) := by
  pointwise [HID, hid]

/-- The norm at row `r`, column `l`. -/
theorem norm_at (h : FVec Ideal S32768x2048 .f32) (g : FVec Ideal S2048 .f32) (r : Fin 32768) (l : Fin 2048) :
    NORM h g (ix2 r l) = Norm.row (fun k => h (ix2 r k)) (g (ix1 l)) l := by
  pointwise [NORM, Norm.row]

/-- The residual stream at an index. -/
theorem hid_at_idx (a0 : FVec Ideal S4x8192x5632 .f32) (a1 : FVec Ideal S4x5632x2048 .f32) (a2 : FVec Ideal S4x8192x2048 .f32)
    (j : S32768x2048.Idx) :
    HID a0 a1 a2 j
      = hid (a2 (ix3 ⟨(j 0).val / 8192, Nat.div_lt_of_lt_mul (j 0).isLt⟩ ⟨(j 0).val % 8192, Nat.mod_lt _ (by decide)⟩ (j 1)))
          (fun k => a0 (ix3 ⟨(j 0).val / 8192, Nat.div_lt_of_lt_mul (j 0).isLt⟩ ⟨(j 0).val % 8192, Nat.mod_lt _ (by decide)⟩ k))
          (fun k => a1 (ix3 0 k (j 1))) := by
  conv_lhs => rw [eq_ix2 j]
  exact hid_at a0 a1 a2 (j 0) (j 1)

/-- The norm at an index. -/
theorem norm_at_idx (h : FVec Ideal S32768x2048 .f32) (g : FVec Ideal S2048 .f32) (j : S32768x2048.Idx) :
    NORM h g j = Norm.row (fun k => h (ix2 (j 0) k)) (g (ix1 (j 1))) (j 1) := by
  conv_lhs => rw [eq_ix2 j]
  exact norm_at h g (j 0) (j 1)

end Ref

section Kernel
open Cert.MidIdeal Cert.MidIdeal.Gen

/-- The stored residual stream at an index. -/
theorem pay1_at (h : FVec Ideal S256x2048 .f32) (x : FVec Ideal S256x5632 .bf16) (w : FVec Ideal S1x5632x2048 .bf16)
    (r : Fin 256) (l : Fin 2048) :
    k0_pay1 (F := Ideal) h x w (ix2 r l) = hid (h (ix2 r l)) (fun k => x (ix2 r k)) (fun k => w (ix3 0 k l)) := by
  pointwise [k0_pay1, hid]

/-- The stored normed row at an index, in terms of the stored residual stream. -/
theorem pay2_at (h : FVec Ideal S256x2048 .f32) (x : FVec Ideal S256x5632 .bf16) (w : FVec Ideal S1x5632x2048 .bf16)
    (g : FVec Ideal S1x2048 .f32) (r : Fin 256) (l : Fin 2048) :
    k0_pay2 (F := Ideal) h x w g (ix2 r l)
      = Norm.row (fun q => k0_pay1 (F := Ideal) h x w (ix2 r q)) (g (ix2 0 l)) l := by
  pointwise [k0_pay2, Norm.row]

end Kernel

end Cert.Mid.Spec

namespace Cert.MidIdeal.Value

open Cert.MidIdeal Cert.MidIdeal.Gen Cert.Mid.Spec

variable (m : (ℓ : Loc nD τ sig) → Buf (Elt Ideal) ℓ)

/-- Every window's block index at every grid point. -/
theorem idx_val : ∀ t : Fin cfg0.N, win0_0.index t = ![t.val, 0]
    ∧ win0_1.index t = ![0, 0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- The rows to project as the kernel finds them: the argument, its two leading axes merged. -/
theorem entry_x (c : Dev nD) (r : Fin 32768) (k : Fin 5632) :
    (V m c main_v1 : FVec Ideal S32768x5632 .bf16) (ix2 r k)
      = (m ((c : Thread nD τ).loc main_arg0) : FVec Ideal S4x8192x5632 .f32)
          (ix3 ⟨r.val / 8192, by omega⟩ ⟨r.val % 8192, by omega⟩ k) := by
  entry_read
  pointwise

/-- The weights as the kernel finds them. -/
theorem entry_w (c : Dev nD) (i : S4x5632x2048.Idx) :
    (V m c main_v2 : FVec Ideal S4x5632x2048 .bf16) i
      = (m ((c : Thread nD τ).loc main_arg1) : FVec Ideal S4x5632x2048 .f32) i := by
  entry_read
  pointwise

/-- The residual stream as the kernel finds it. -/
theorem entry_h (c : Dev nD) (r : Fin 32768) (k : Fin 2048) :
    (V m c main_v3 : FVec Ideal S32768x2048 .f32) (ix2 r k)
      = (m ((c : Thread nD τ).loc main_arg2) : FVec Ideal S4x8192x2048 .f32)
          (ix3 ⟨r.val / 8192, by omega⟩ ⟨r.val % 8192, by omega⟩ k) := by
  entry_read
  pointwise

/-- The gain as the kernel finds it. -/
theorem entry_g (c : Dev nD) (l : Fin 2048) :
    (V m c main_v4 : FVec Ideal S1x2048 .f32) (ix2 0 l)
      = (m ((c : Thread nD τ).loc main_arg3) : FVec Ideal S2048 .f32) (ix1 l) := by
  entry_read
  pointwise

/-- The block of rows a grid point is given. -/
theorem blk_x (c : Dev nD) (t : Fin cfg0.N) (r : Fin 256) (k : Fin 5632) (R : Fin 32768) (hR : R.val = t.val * 256 + r.val) :
    (iblk m c 0 t : FVec Ideal S256x5632 .bf16) (ix2 r k) = (V m c main_v1 : FVec Ideal S32768x5632 .bf16) (ix2 R k) := by
  blk_ext [iblk, idx_val t]

/-- The weights of the first layer, whole at every grid point. -/
theorem blk_w (c : Dev nD) (t : Fin cfg0.N) (k : Fin 5632) (l : Fin 2048) :
    (iblk m c 1 t : FVec Ideal S1x5632x2048 .bf16) (ix3 0 k l) = (V m c main_v2 : FVec Ideal S4x5632x2048 .bf16) (ix3 0 k l) := by
  blk_ext [iblk, idx_val t]

/-- The block of the residual stream a grid point is given. -/
theorem blk_h (c : Dev nD) (t : Fin cfg0.N) (r : Fin 256) (k : Fin 2048) (R : Fin 32768) (hR : R.val = t.val * 256 + r.val) :
    (iblk m c 2 t : FVec Ideal S256x2048 .f32) (ix2 r k) = (V m c main_v3 : FVec Ideal S32768x2048 .f32) (ix2 R k) := by
  blk_ext [iblk, idx_val t]

/-- The gain, whole at every grid point. -/
theorem blk_g (c : Dev nD) (t : Fin cfg0.N) (l : Fin 2048) :
    (iblk m c 3 t : FVec Ideal S1x2048 .f32) (ix2 0 l) = (V m c main_v4 : FVec Ideal S1x2048 .f32) (ix2 0 l) := by
  blk_ext [iblk, idx_val t]

/-- The residual stream of a point at row `r` and column `l` of its block, in terms of the arguments. -/
theorem core_h (c : Dev nD) (t : Fin cfg0.N) (h : FVec Ideal S256x2048 .f32) (x : FVec Ideal S256x5632 .bf16)
    (w : FVec Ideal S1x5632x2048 .bf16)
    (hh : h = iblk m c 2 t) (hx : x = iblk m c 0 t) (hw : w = iblk m c 1 t)
    (r : Fin 256) (l : Fin 2048) (j : S32768x2048.Idx)
    (h0 : (j 0).val = t.val * 256 + r.val) (h1 : j 1 = l) :
    k0_pay1 (F := Ideal) h x w (ix2 r l)
      = HID (m ((c : Thread nD τ).loc main_arg0)) (m ((c : Thread nD τ).loc main_arg1)) (m ((c : Thread nD τ).loc main_arg2)) j := by
  subst hh hx hw h1
  refine (pay1_at _ _ _ _ _).trans (Eq.trans ?_ (hid_at_idx _ _ _ _).symm)
  exact hid_congr ((blk_h m c t r _ (j 0) h0).trans (entry_h m c (j 0) _))
    (fun k => (blk_x m c t r k (j 0) h0).trans (entry_x m c (j 0) k))
    (fun k => (blk_w m c t k _).trans (entry_w m c _))

/-- The normed row of a point at row `r` and column `l` of its block, in terms of the arguments. -/
theorem core_n (c : Dev nD) (t : Fin cfg0.N) (h : FVec Ideal S256x2048 .f32) (x : FVec Ideal S256x5632 .bf16)
    (w : FVec Ideal S1x5632x2048 .bf16) (g : FVec Ideal S1x2048 .f32)
    (hh : h = iblk m c 2 t) (hx : x = iblk m c 0 t) (hw : w = iblk m c 1 t) (hg : g = iblk m c 3 t)
    (r : Fin 256) (l : Fin 2048) (j : S32768x2048.Idx)
    (h0 : (j 0).val = t.val * 256 + r.val) (h1 : j 1 = l) :
    k0_pay2 (F := Ideal) h x w g (ix2 r l)
      = NORM (HID (m ((c : Thread nD τ).loc main_arg0)) (m ((c : Thread nD τ).loc main_arg1)) (m ((c : Thread nD τ).loc main_arg2)))
          (m ((c : Thread nD τ).loc main_arg3)) j := by
  subst hg h1
  refine (pay2_at _ _ _ _ _ _).trans (Eq.trans ?_ (norm_at_idx _ _ _).symm)
  exact Norm.row_congr _ (fun q => core_h m c t h x w hh hx hw r q (ix2 (j 0) q) h0 rfl)
    ((blk_g m c t _).trans (entry_g m c _))

/-- What the body stores of the residual stream is the reference at the array index it sits at. -/
theorem point_h (c : Dev nD) (t : Fin cfg0.N) (y) :
    k0_pay1 (iblk m c 2 t) (iblk m c 0 t) (iblk m c 1 t) y
      = HID (m ((c : Thread nD τ).loc main_arg0)) (m ((c : Thread nD τ).loc main_arg1)) (m ((c : Thread nD τ).loc main_arg2)) (((cfg0.win 4).blk t).view.emb y) := by
  idx_vars y
  refine core_h m c t _ _ _ rfl rfl rfl y0 y1 _ ?_ ?_
  · blk_simp [idx_val t] <;> (dsimp only; omega)
  · refine Fin.ext ?_
    blk_simp [idx_val t] <;> (dsimp only; omega)

/-- What the body stores of the normed rows is the reference at the array index it sits at. -/
theorem point_n (c : Dev nD) (t : Fin cfg0.N) (y) :
    k0_pay2 (iblk m c 2 t) (iblk m c 0 t) (iblk m c 1 t) (iblk m c 3 t) y
      = NORM (HID (m ((c : Thread nD τ).loc main_arg0)) (m ((c : Thread nD τ).loc main_arg1)) (m ((c : Thread nD τ).loc main_arg2)))
          (m ((c : Thread nD τ).loc main_arg3)) (((cfg0.win 5).blk t).view.emb y) := by
  idx_vars y
  refine core_n m c t _ _ _ _ rfl rfl rfl rfl y0 y1 _ ?_ ?_
  · blk_simp [idx_val t] <;> (dsimp only; omega)
  · refine Fin.ext ?_
    blk_simp [idx_val t] <;> (dsimp only; omega)

/-- The residual stream after the run is the reference's. -/
theorem final_4 (c : Dev nD) : (dats m 0 c).arrAt 4 (cfgs 0).N
    = HID (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  exact point_h m c t y

/-- The normed rows after the run are the reference's. -/
theorem final_5 (c : Dev nD) : (dats m 0 c).arrAt 5 (cfgs 0).N
    = NORM (HID (m ((c : Thread nD τ).loc main_arg0)) (m ((c : Thread nD τ).loc main_arg1)) (m ((c : Thread nD τ).loc main_arg2)))
        (m ((c : Thread nD τ).loc main_arg3)) := by
  refine (dats m 0 c).arrAt_eq_of_covers 5 _ (by decide +kernel) fun t hf y => ?_
  blk_simp; rw [after0_5]; frame_out
  exact point_n m c t y

end Cert.MidIdeal.Value

end
-- ==== Proof.Mid.Claims.lean ====
/- Hand-written: the claims about the down-projection in front of a further layer. -/
module

public import proofs.«01_k».proof.Defs
public import proofs.«01_k».proof.Proof.Gen.Mid.Frame
public import proofs.«01_k».proof.Proof.Gen.MidIdeal.Value
public import proofs.«01_k».proof.Proof.Gen.MidRefIdeal.Run
public import proofs.«01_k».proof.Proof.Mid.Value
public import Idealize.ShloMosaic.Lib.Quiescent

@[expose] public section

noncomputable section

namespace Cert.Proof

open Idealize.ShloMosaic Idealize.ShloMosaic.TcCoe Idealize.SL.Sem

/-- The kernel at its machine formats terminates without a fault and keeps its arguments. -/
theorem frame_Mid : Cert.quiescent_Mid (hMid := Cert.Mid.Gen.facts) :=
  fun m g _ => Cert.Mid.Gen.frame m g

/-- The idealized kernel terminates without a fault and keeps its arguments. -/
theorem frame_MidIdeal : Cert.quiescent_MidIdeal (hMidIdeal := Cert.MidIdeal.Gen.facts) :=
  fun m g _ => Cert.MidIdeal.Gen.frame m g

/-- The reference terminates without a fault and keeps its arguments. -/
theorem frame_MidRefIdeal : Cert.quiescent_MidRefIdeal (hMidRefIdeal := Cert.MidRefIdeal.Gen.facts) :=
  fun m g _ => (θ_run Cert.MidRefIdeal.defs _ _).mono
    (fun r h => ⟨fun c => (h c).2.2, Idealize.ShloMosaic.sem_eq_zero_of_no_sems (by decide) r.2⟩)
    (Cert.MidRefIdeal.Value.run (F := Ideal) m g)

/-- From memories that agree on the arguments, kernel and reference end with equal results. -/
theorem algebraic_Mid : Cert.algebraic_MidIdeal_MidRefIdeal (hMidIdeal := Cert.MidIdeal.Gen.facts) (hMidRefIdeal := Cert.MidRefIdeal.Gen.facts) := by
  intro m g m' g' _ hagree
  refine ⟨_, _, Cert.MidIdeal.Value.run_blocks (F := Ideal) m g, ?_⟩
  refine (θ_run Cert.MidRefIdeal.defs _ _).mono (fun _ h c => ⟨(h c).1.trans ?_, (h c).2.1.trans ?_, (h c).2.2⟩)
    (Cert.MidRefIdeal.Value.run (F := Ideal) m' g')
  · rw [(hagree c).1, (hagree c).2.1, (hagree c).2.2.1]
    exact (Cert.MidIdeal.Value.final_4 m c).symm
  · rw [(hagree c).1, (hagree c).2.1, (hagree c).2.2.1, (hagree c).2.2.2]
    exact (Cert.MidIdeal.Value.final_5 m c).symm

end Cert.Proof

end
-- ==== Proof.Proj.IdealRuns.lean ====
/- The body of the odd layers' input projection, executed: once at a grid point that opens a row block of tokens (there the
   gates are stored), once at any other (there they are left alone). Also what the pipeline hands the body. -/
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the assertions are over. -/
abbrev Res (F : FTy → Type) := MT nD τ sig Unit (Elt F) ℕ (UR sig nD τ) ℕ

variable (m : (ℓ : Loc nD τ sig) → Buf (Elt F) ℓ) (ρ : Dev nD → PrngReg)

/-! ## The host operations before the call -/

/-- What core `c`'s buffer `b` holds when the call begins. -/
abbrev V (c : Dev nD) (b : Ref sig .tc) : Buf (Elt F) ((c : Thread nD τ).loc b) :=
  StableHlo.after (List.flatten [hostOps0, hostOps0_1, hostOps0_2]) (fun b => m (c, b)) b

/-- The first line of host operations allocates nothing. -/
theorem fresh0 : (hostOps0 : List (HloOp τ sig (Elt F))).Forall fun op => op.fresh = ∅ := by
  simp only [List.Forall]; repeat' constructor
/-- Nor does the second, -/
theorem fresh1 : (hostOps0_1 : List (HloOp τ sig (Elt F))).Forall fun op => op.fresh = ∅ := by
  simp only [List.Forall]; repeat' constructor
/-- nor the third. -/
theorem fresh2 : (hostOps0_2 : List (HloOp τ sig (Elt F))).Forall fun op => op.fresh = ∅ := by
  simp only [List.Forall]; repeat' constructor

set_option maxHeartbeats 800000 in
/-- The program is the host operations, then the call. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

/-- The call finds the tokens as they were given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- It finds the norm's gain as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- It finds the weights as they were given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- Window `w`'s block at point `t`, read off its array as the call finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## Where the gates are stored -/

/-- The body's condition: the inner grid index is zero. -/
abbrev opens (i : grid0.Coords) : Prop := k0_cond1 i = 1#1

/-- It holds at every fourth point. -/
theorem opens_iff : ∀ t : Fin cfg0.N, opens (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [opens, k0_cond1, e0, e1]
    word_cmp
   : ∀ t : Fin grid0.N, opens (grid0.coords t) ↔ t.val % 4 = 0)

/-- The gates' window is live where a row block opens. -/
theorem live6 : ∀ t : Fin cfg0.N, opens (grid0.coords t) → cfg0.idle 6 (grid0.coords t) = false := by decide +kernel

/-- Whether the gates' buffer is yet unwritten at a point: it is where a row block opens. -/
def unwritten : ℕ → Bool
  | 0 => true
  | n + 1 => (0x8888888888888888 : ℕ).testBit n

/-- `unwritten` follows the pipeline's own step. -/
theorem unwritten_step : ∀ t : Fin cfg0.N,
    unwritten (t.val + 1) = ((cfg0.win 6).flush t || (cfg0.idle 6 (cfg0.grid.coords t) && unwritten t.val)) := by
  decide +kernel

/-- So away from a row block's opening the gates' buffer is written. -/
theorem written6 : ∀ t : Fin cfg0.N, ¬opens (grid0.coords t) → cfg0.fresh 6 t.val = false := by
  intro t
  rw [Pipeline.Cfg.fresh_tab cfg0 6 unwritten rfl unwritten_step t.val (Nat.le_of_lt t.isLt)]
  revert t; decide +kernel

/-! ## The staging buffers at a point -/

/-- The buffer the main result's contents are stated through. -/
abbrev VO5 : View sig .tc .vmem S2048x1536 .bf16 := (Memref.whole cc0_stg5_0 : Memref sig .tc .vmem S2048x1536 .bf16).view
/-- The buffer the gates' contents are stated through. -/
abbrev VO6 : View sig .tc .vmem S2048x128 .f32 := (Memref.whole cc0_stg6_0 : Memref sig .tc .vmem S2048x128 .f32).view

/-- The tokens' buffer at point `t`, whole. -/
abbrev b0 (t : Fin cfg0.N) : Memref sig .tc .vmem S2048x2048 .bf16 := win0_0.stage (cfg0.slots t 0)
abbrev w0 (t : Fin cfg0.N) : (b0 t).IsWhole := hstage0_0 ((cfg0.slots t 0).cast nbuf0_0)
/-- The gain's. -/
abbrev b1 (t : Fin cfg0.N) : Memref sig .tc .vmem S1x2048 .f32 := win0_1.stage (cfg0.slots t 1)
abbrev w1 (t : Fin cfg0.N) : (b1 t).IsWhole := hstage0_1 ((cfg0.slots t 1).cast nbuf0_1)
/-- The weights'. -/
abbrev b2 (t : Fin cfg0.N) : Memref sig .tc .vmem S2048x1536 .bf16 := win0_2.stage (cfg0.slots t 2)
abbrev w2 (t : Fin cfg0.N) : (b2 t).IsWhole := hstage0_2 ((cfg0.slots t 2).cast nbuf0_2)
/-- The column scales'. -/
abbrev b3 (t : Fin cfg0.N) : Memref sig .tc .vmem S1x1536 .f32 := win0_3.stage (cfg0.slots t 3)
abbrev w3 (t : Fin cfg0.N) : (b3 t).IsWhole := hstage0_3 ((cfg0.slots t 3).cast nbuf0_3)
/-- The gate weights'. -/
abbrev b4 (t : Fin cfg0.N) : Memref sig .tc .vmem S2048x128 .bf16 := win0_4.stage (cfg0.slots t 4)
abbrev w4 (t : Fin cfg0.N) : (b4 t).IsWhole := hstage0_4 ((cfg0.slots t 4).cast nbuf0_4)
/-- The main result's. -/
abbrev b5 (t : Fin cfg0.N) : Memref sig .tc .vmem S2048x1536 .bf16 := win0_5.stage (cfg0.slots t 5)
abbrev w5 (t : Fin cfg0.N) : (b5 t).IsWhole := hstage0_5 ((cfg0.slots t 5).cast nbuf0_5)
/-- The gates'. -/
abbrev b6 (t : Fin cfg0.N) : Memref sig .tc .vmem S2048x128 .f32 := win0_6.stage (cfg0.slots t 6)
abbrev w6 (t : Fin cfg0.N) : (b6 t).IsWhole := hstage0_6 ((cfg0.slots t 6).cast nbuf0_6)
/-- The norm's scratch buffer, which this call does not touch. -/
abbrev scr : Memref sig .tc .vmem S8x128 .bf16 := Memref.whole cc0_scratch0

/-! ## The body, executed -/

section

variable (c : Dev nD) (i : grid0.Coords)
  (arg2 : Memref sig .tc .vmem S2048x2048 .bf16) (harg2 : arg2.IsWhole)
  (arg3 : Memref sig .tc .vmem S1x2048 .f32) (harg3 : arg3.IsWhole)
  (arg4 : Memref sig .tc .vmem S2048x1536 .bf16) (harg4 : arg4.IsWhole)
  (arg5 : Memref sig .tc .vmem S1x1536 .f32) (harg5 : arg5.IsWhole)
  (arg6 : Memref sig .tc .vmem S2048x128 .bf16) (harg6 : arg6.IsWhole)
  (arg7 : Memref sig .tc .vmem S2048x1536 .bf16) (harg7 : arg7.IsWhole)
  (arg8 : Memref sig .tc .vmem S2048x128 .f32) (harg8 : arg8.IsWhole)
  (arg9 : Memref sig .tc .vmem S8x128 .bf16) (harg9 : arg9.IsWhole)
  (x : Vec F S2048x2048 .bf16) (wt : Vec F S2048x1536 .bf16) (cs : Vec F S1x1536 .f32) (wg : Vec F S2048x128 .bf16)

set_option maxHeartbeats 1000000 in
/-- Where a row block opens: from the tokens', the weights', the scales' and the gate weights' buffers the body runs to the
    same, with the pieces it stored written to the two results' buffers. -/
def runOpen (hc : opens i) :
    Σ' (L5 : List (View.Piece (Elt F) S2048x1536 .bf16)), { L6 : List (View.Piece (Elt F) S2048x128 .f32) //
      ∀ (E : Set ℕ) (K : PUnit → sProp (Res F)),
        iprop(owns (c : Thread nD τ) arg2 fullShare x ∗ owns (c : Thread nD τ) arg4 fullShare wt
            ∗ owns (c : Thread nD τ) arg5 fullShare cs ∗ owns (c : Thread nD τ) arg6 fullShare wg
            ∗ (∃ d, owns (c : Thread nD τ) arg7 fullShare d) ∗ (∃ d, owns (c : Thread nD τ) arg8 fullShare d)
            ∗ (iprop(owns (c : Thread nD τ) arg2 fullShare x ∗ owns (c : Thread nD τ) arg4 fullShare wt
                ∗ owns (c : Thread nD τ) arg5 fullShare cs ∗ owns (c : Thread nD τ) arg6 fullShare wg
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6))
              -∗ K ⟨⟩))
          ⊢ wp frame (wpE (defs₀ (F := F)) Variants.none c none) E
              (cc0_norm_proj i arg2 harg2 arg3 harg3 arg4 harg4 arg5 harg5 arg6 harg6 arg7 harg7 arg8 harg8 arg9 harg9) K } := by
  refine ⟨?_, ?_, fun E K => ?run⟩
  case run =>
    simp only [cc0_norm_proj_eq_skeleton]; unfold cc0_norm_proj_skel
    unfold owns
    iintro ⟨⟨%f2, %hf2, H2⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf2; obtain rfl := harg4.eq_unread hf4; obtain rfl := harg5.eq_unread hf5
    obtain rfl := harg6.eq_unread hf6
    sl_exec (disch := sl_exact hc)
    sl_step
    iapply Hk
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

set_option maxHeartbeats 1000000 in
/-- Elsewhere the same without the gates, whose buffers it does not touch. -/
def runOn (hc : ¬opens i) :
    { L5 : List (View.Piece (Elt F) S2048x1536 .bf16) //
      ∀ (E : Set ℕ) (K : PUnit → sProp (Res F)),
        iprop(owns (c : Thread nD τ) arg2 fullShare x ∗ owns (c : Thread nD τ) arg4 fullShare wt
            ∗ owns (c : Thread nD τ) arg5 fullShare cs ∗ (∃ d, owns (c : Thread nD τ) arg7 fullShare d)
            ∗ (iprop(owns (c : Thread nD τ) arg2 fullShare x ∗ owns (c : Thread nD τ) arg4 fullShare wt
                ∗ owns (c : Thread nD τ) arg5 fullShare cs
                ∗ (∃ f, arg7.view.loc (c : Thread nD τ) ↦[arg7.view.set]{fullShare} arg7.view.writes (Elt F) f L5))
              -∗ K ⟨⟩))
          ⊢ wp frame (wpE (defs₀ (F := F)) Variants.none c none) E
              (cc0_norm_proj i arg2 harg2 arg3 harg3 arg4 harg4 arg5 harg5 arg6 harg6 arg7 harg7 arg8 harg8 arg9 harg9) K } := by
  refine ⟨?_, fun E K => ?run⟩
  case run =>
    simp only [cc0_norm_proj_eq_skeleton]; unfold cc0_norm_proj_skel
    unfold owns
    iintro ⟨⟨%f2, %hf2, H2⟩, ⟨%f4, %hf4, H4⟩, ⟨%f5, %hf5, H5⟩, ⟨%d7, %f7, -, H7⟩, Hk⟩
    obtain rfl := harg2.eq_unread hf2; obtain rfl := harg4.eq_unread hf4; obtain rfl := harg5.eq_unread hf5
    sl_exec (disch := sl_exact hc)
    sl_step
    iapply Hk
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    iexists _; iexact H7

end

end Cert.ProjIdeal.Body

end
-- ==== Proof.Proj.IdealFrame.lean ====
/- What the odd layers' input projection leaves in its buffers at every grid point, and its frame. The gates of a row block
   are stored at the block's first point, left alone at the next three, and written back after the last. -/
module

public import proofs.«01_k».proof.Proof.Proj.IdealRuns

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## What a point leaves -/

/-- The body's run at a point that opens a row block. -/
abbrev atOpen (c : Dev nD) (t : Fin cfg0.N) (h : t.val % 4 = 0) :=
  runOpen (F := F) c (grid0.coords t) (b0 t) (w0 t) (b1 t) (w1 t) (b2 t) (w2 t) (b3 t) (w3 t) (b4 t) (w4 t) (b5 t) (w5 t)
    (b6 t) (w6 t) scr (Memref.isWhole_whole _) (iblk m c 0 t) (iblk m c 2 t) (iblk m c 3 t) (iblk m c 4 t)
    ((opens_iff t).mpr h)

/-- The body's run at any other point. -/
abbrev atOn (c : Dev nD) (t : Fin cfg0.N) (h : ¬t.val % 4 = 0) :=
  runOn (F := F) c (grid0.coords t) (b0 t) (w0 t) (b1 t) (w1 t) (b2 t) (w2 t) (b3 t) (w3 t) (b4 t) (w4 t) (b5 t) (w5 t)
    (b6 t) (w6 t) scr (Memref.isWhole_whole _) (iblk m c 0 t) (iblk m c 2 t) (iblk m c 3 t)
    (fun h' => h ((opens_iff t).mp h'))

/-- The two stores of the main result fill its block, at an opening point -/
theorem cover5_open (c : Dev nD) (t : Fin cfg0.N) (h : t.val % 4 = 0) (y : S2048x1536.Idx) :
    ∃ pc ∈ (atOpen m c t h).1, y ∈ pc.1.set :=
  View.cover_of_tiledL (atOpen m c t h).1 S1024x1536.size (by sl_kernel_rfl) y

/-- and at any other. -/
theorem cover5_on (c : Dev nD) (t : Fin cfg0.N) (h : ¬t.val % 4 = 0) (y : S2048x1536.Idx) :
    ∃ pc ∈ (atOn m c t h).1, y ∈ pc.1.set :=
  View.cover_of_tiledL (atOn m c t h).1 S1024x1536.size (by sl_kernel_rfl) y

/-- The store of the gates fills theirs. -/
theorem cover6 (c : Dev nD) (t : Fin cfg0.N) (h : t.val % 4 = 0) (y : S2048x128.Idx) :
    ∃ pc ∈ (atOpen m c t h).2.1, y ∈ pc.1.set :=
  View.cover_of_tiledL (atOpen m c t h).2.1 S2048x128.size (by sl_kernel_rfl) y

/-- The main result's block as an opening point leaves it, -/
def out5_open (c : Dev nD) (t : Fin cfg0.N) (h : t.val % 4 = 0) : Vec F S2048x1536 .bf16 :=
  VO5.read (Elt F) (VO5.writes (Elt F) VO5.junk (atOpen m c t h).1)

/-- and as any other leaves it. -/
def out5_on (c : Dev nD) (t : Fin cfg0.N) (h : ¬t.val % 4 = 0) : Vec F S2048x1536 .bf16 :=
  VO5.read (Elt F) (VO5.writes (Elt F) VO5.junk (atOn m c t h).1)

/-- The main result's block as a point leaves it. -/
def out5 (c : Dev nD) (t : Fin cfg0.N) : Vec F S2048x1536 .bf16 :=
  if h : t.val % 4 = 0 then out5_open m c t h else out5_on m c t h

/-- The gates' block as an opening point leaves it. -/
def out6_open (c : Dev nD) (t : Fin cfg0.N) (h : t.val % 4 = 0) : Vec F S2048x128 .f32 :=
  VO6.read (Elt F) (VO6.writes (Elt F) VO6.junk (atOpen m c t h).2.1)

/-- The point that opened the row block `t` lies in. -/
def opener (t : Fin cfg0.N) : Fin cfg0.N := ⟨t.val - t.val % 4, Nat.lt_of_le_of_lt (Nat.sub_le _ _) t.isLt⟩

/-- It is an opening point. -/
theorem opener_opens (t : Fin cfg0.N) : (opener t).val % 4 = 0 := by
  show (t.val - t.val % 4) % 4 = 0; omega

/-- An opening point is its own. -/
theorem opener_self (t : Fin cfg0.N) (h : t.val % 4 = 0) : opener t = t := Fin.ext (by
  show t.val - t.val % 4 = t.val; omega)

/-- Any other shares its with the point before. -/
theorem opener_pred (t : Fin cfg0.N) (h : ¬t.val % 4 = 0) (h' : t.val - 1 < cfg0.N) :
    opener ⟨t.val - 1, h'⟩ = opener t := Fin.ext (by
  show t.val - 1 - (t.val - 1) % 4 = t.val - t.val % 4; omega)

/-- The gates' block after any point: as the row block's opening point left it. -/
def out6 (c : Dev nD) (t : Fin cfg0.N) : Vec F S2048x128 .f32 := out6_open m c (opener t) (opener_opens t)

/-- So it depends on the opening point alone, -/
theorem out6_congr (c : Dev nD) {s t : Fin cfg0.N} (h : opener s = opener t) : out6 m c s = out6 m c t := by
  unfold out6; congr 1

/-- and at an opening point is what that point leaves. -/
theorem out6_at (c : Dev nD) (t : Fin cfg0.N) (h : t.val % 4 = 0) : out6 m c t = out6_open m c t h := by
  unfold out6; congr 1; exact opener_self t h

/-! ## The proof data -/

/-- The arrays as the call finds them; after each point the inputs' buffers at their blocks and the results' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
  Φ _ := Pipeline.ΦA spec0 c
  q _ := fullShare
  owed _ := 0

/-- The arrays of the proof data. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = out5 m c t := by dsimp only [dats]
theorem after_6 (c : Dev nD) (t : Fin cfg0.N) : (dats m 0 c).after 6 t = out6 m c t := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]) t d).trans
    (by unfold Dat.fetched Dat.blockOf iblk; rw [A_eq]; try rfl)

/-- Away from a row block's opening the gates' buffer holds what the opening point left. -/
theorem before_6 (c : Dev nD) (t : Fin cfg0.N) (h : ¬t.val % 4 = 0) (d) : (dats m 0 c).before 6 t d = out6 m c t := by
  have carry : ∀ (s : Fin cfg0.N) (_ : s.val ≠ 0), cfg0.idle 6 (grid0.coords s) = true → cfg0.fresh 6 s.val = false →
      (dats m 0 c).after 6 s = (dats m 0 c).after 6 ⟨s.val - 1, by omega⟩ := by
    intro s _ hi _
    rw [after_6, after_6]
    by_cases hs : s.val % 4 = 0
    · rw [live6 s ((opens_iff s).mpr hs)] at hi
      exact absurd hi Bool.false_ne_true
    · exact out6_congr m c (opener_pred s hs _).symm
  rw [Dat.before_out_traj _ 6 rfl (fun _ _ => rfl) carry t.val t rfl d,
    if_neg (by rw [written6 t (fun h' => h ((opens_iff t).mp h'))]; exact Bool.false_ne_true), after_6]
  exact out6_congr m c (opener_pred t h _)

/-- So left alone it is as the pipeline wants it. -/
theorem leaves_6 (c : Dev nD) (t : Fin cfg0.N) (h : ¬t.val % 4 = 0) (d) :
    owns (c : Thread nD τ) (b6 t) fullShare ((dats m 0 c).before 6 t d) ⊢ ((dats m 0 c).leavesExact 6 t : sProp (Res F)) := by
  have now : owns (c : Thread nD τ) (b6 t) fullShare ((dats m 0 c).before 6 t d)
      ⊢ (owns (c : Thread nD τ) (b6 t) fullShare ((dats m 0 c).after 6 t) : sProp (Res F)) := by
    rw [before_6 m c t h d, after_6]
  unfold Dat.leavesExact
  cases cfg0.idle 6 (cfg0.grid.coords t)
  · exact now
  · cases (cfg0.win 6).flush t
    · iintro H; iexists d; iexact H
    · exact now

/-! ## The body at a point -/

/-- What the pipeline leaves besides the windows: the scratch buffer and the generator's state. -/
theorem rest_eq (c : Dev nD) :
    (Pipeline.ΦA spec0 c : sProp (Res F))
      = iprop(iprop((∃ d, owns (c : Thread nD τ) scr fullShare d)) ∗ (∃ r, prngReg c r)) := by
  unfold Pipeline.ΦA; rw [scopedRest0_eq]; simp only [scr, owns_whole]; try rfl

/-- What the body is handed at point `t`. -/
def bodyPre (c : Dev nD) (t : Fin cfg0.N) : sProp (Res F) :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d)))

/-- What it hands back. -/
def bodyPost (c : Dev nD) (t : Fin cfg0.N) : sProp (Res F) :=
  iprop((dats m 0 c).Φ t.succ ∗ (dats m 0 c).owesAt () t.succ
    ∗ owns (c : Thread nD τ) (b0 t) fullShare (iblk m c 0 t)
    ∗ owns (c : Thread nD τ) (b1 t) fullShare (iblk m c 1 t)
    ∗ owns (c : Thread nD τ) (b2 t) fullShare (iblk m c 2 t)
    ∗ owns (c : Thread nD τ) (b3 t) fullShare (iblk m c 3 t)
    ∗ owns (c : Thread nD τ) (b4 t) fullShare (iblk m c 4 t)
    ∗ owns (c : Thread nD τ) (b5 t) fullShare (out5 m c t)
    ∗ (dats m 0 c).leavesExact 6 t)

set_option maxHeartbeats 1600000 in
/-- The body at a point: by the run of its case, the buffers it does not touch carried along. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  by_cases h : t.val % 4 = 0
  · rw [show (dats m 0 c).leavesExact 6 t = owns (c : Thread nD τ) (b6 t) fullShare (out6_open m c t h) from by
      unfold Dat.leavesExact; rw [live6 t ((opens_iff t).mpr h), after_6, out6_at m c t h]]
    rw [show out5 m c t = out5_open m c t h from dif_pos h]
    unfold out5_open out6_open
    iintro ⟨Hr, Ho, ⟨%d0, H0⟩, ⟨%d1, H1⟩, ⟨%d2, H2⟩, ⟨%d3, H3⟩, ⟨%d4, H4⟩, ⟨%d5, H5⟩, ⟨%d6, H6⟩⟩
    iapply ((atOpen m c t h).2.2 Set.univ _)
    isplitl [H0]; · iexact H0
    isplitl [H2]; · iexact H2
    isplitl [H3]; · iexact H3
    isplitl [H4]; · iexact H4
    isplitl [H5]; · iexists _; iexact H5
    isplitl [H6]; · iexists _; iexact H6
    iintro ⟨H0, H2, H3, H4, ⟨%e5, H5⟩, ⟨%e6, H6⟩⟩
    isplitl [Hr]; · iexact Hr
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_open m c t h)
    unfold owns; iexists _; isplitr
    swap; · iexact H6
    ipureintro; exact View.read_writes_of_cover _ _ _ _ _ (cover6 m c t h)
  · rw [show out5 m c t = out5_on m c t h from dif_neg h]
    unfold out5_on
    iintro ⟨Hr, Ho, ⟨%d0, H0⟩, ⟨%d1, H1⟩, ⟨%d2, H2⟩, ⟨%d3, H3⟩, ⟨%d4, H4⟩, ⟨%d5, H5⟩, ⟨%d6, H6⟩⟩
    ihave H6 := (leaves_6 m c t h d6) $$ H6
    iapply ((atOn m c t h).2 Set.univ _)
    isplitl [H0]; · iexact H0
    isplitl [H2]; · iexact H2
    isplitl [H3]; · iexact H3
    isplitl [H5]; · iexists _; iexact H5
    iintro ⟨H0, H2, H3, ⟨%e5, H5⟩⟩
    isplitl [Hr]; · iexact Hr
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_on m c t h)
    iexact H6

/-- The table's row at a point is the body there. -/
theorem row_eq (t : Fin cfg0.N) :
    defs₀ (F := F) .tc cfg0.body (cfg0.bodyArgs t (cfg0.slots t)) = bodyAt0 t := by
  unfold defs₀; rw [Defs.onTc_tc]

/-- What the pipeline asks of the body, at every point. -/
theorem body_obligation (c : Dev nD) :
    BodyObligation (dats (F := F) m 0 c) (defs₀ (F := F)) Variants.none () Set.univ := fun t => by
  rw [bigSep_W0, bigSep_W0, row_eq]
  exact triple_restated (sound_body m c t) rfl .rfl fun _ => .rfl

/-! ## The run -/

set_option backward.isDefEq.respectTransparency.types false in
/-- The program terminates with the arrays as the proof data says and every semaphore at zero. -/
theorem run_full : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The frame: the program terminates, its arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => kept m r h.1 c, h.2⟩) (run_full m ρ)

/-- The run with the two results named. -/
theorem run_results : θ_run defs (onTc (τ := τ) (main (F := F))) ⟨m, fun _ => 0, ρ⟩ fun r => ∀ c : Dev nD,
      r.2.mem ((c : Thread nD τ).loc main_v9_0) = (dats m 0 c).arrAt 5 cfg0.N
      ∧ r.2.mem ((c : Thread nD τ).loc main_v9_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 5, (h.1 c).1 6, kept m r h.1 c⟩) (run_full m ρ)

end Cert.ProjIdeal.Body

end
-- ==== Proof.Proj.Value.lean ====
/- The value of the input projection of the odd layers, its gates beside it, as functions of the argument arrays. -/
module

public import proofs.«01_k».proof.Proof.Gen.ProjRefIdeal.Run
public import proofs.«01_k».proof.Proof.Proj.IdealFrame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Proj.Spec

/-- The dot product of a row and a column. -/
def dot (x w : Fin 2048 → EReal) : EReal := ∑ k, x k * w k

/-- Equal parts have equal dot products. -/
theorem dot_congr {x x' w w' : Fin 2048 → EReal} (hx : ∀ k, x k = x' k) (hw : ∀ k, w k = w' k) : dot x w = dot x' w' := by
  rw [funext hx, funext hw]

/-- With a column of zeros it is zero. -/
theorem dot_zero (x : Fin 2048 → EReal) : dot x (fun _ => 0) = 0 := by
  unfold dot; simp only [mul_zero, Finset.sum_const_zero]

/-- The integer zero as a number. -/
theorem int_zero : (FloatOps.sitofp (F := Ideal) FTy.f32 0#32 : EReal) = 0 := by
  show (((BitVec.toInt 0#32 : ℝ)) : EReal) = 0
  simp

section Ref
open Cert.ProjRefIdeal Cert.ProjRefIdeal.Gen

/-- The reference's projection. -/
def MAIN (a0 : FVec Ideal S4x8192x2048 .f32) (a2 : FVec Ideal S2048x6160 .f32) : FVec Ideal S32768x6144 .bf16 :=
  truncf .bf16 (extractStridedSlice S32768x6144 ![0, 0] (Host.dotGeneral dot_S32768x2048_S2048x6160_S32768x6160_1_0_0_1_n_n none (shapeCast _ a0 shapeCasts_S4x8192x2048_S32768x2048) a2) slices_S32768x6160_S32768x6144_0_0) bitsLt_bf16_f32

/-- The reference's gates, in 128 columns. -/
def GATES (a0 : FVec Ideal S4x8192x2048 .f32) (a2 : FVec Ideal S2048x6160 .f32) : FVec Ideal S32768x128 .f32 :=
  pad S32768x128 ![0, 0] ![0, 112] ![0, 0] (extractStridedSlice S32768x16 ![0, 6144] (Host.dotGeneral dot_S32768x2048_S2048x6160_S32768x6160_1_0_0_1_n_n none (shapeCast _ a0 shapeCasts_S4x8192x2048_S32768x2048) a2) slices_S32768x6160_S32768x16_0_6144) (sitofp .f32 (constantI S_ 32 0#32)) pads_S32768x16_S32768x128_000_01120 h_S_

/-- The projection at row `r`, column `l`. -/
theorem main_at (a0 : FVec Ideal S4x8192x2048 .f32) (a2 : FVec Ideal S2048x6160 .f32) (r : Fin 32768) (l : Fin 6144) :
    MAIN a0 a2 (ix2 r l)
      = dot (fun k => a0 (ix3 ⟨r.val / 8192, by omega⟩ ⟨r.val % 8192, by omega⟩ k)) (fun k => a2 (ix2 k ⟨l.val, by omega⟩)) := by
  pointwise [MAIN, dot]

/-- The gates at row `r`, column `l`: those of the first 16 columns, zeros after. -/
theorem gates_at (a0 : FVec Ideal S4x8192x2048 .f32) (a2 : FVec Ideal S2048x6160 .f32) (r : Fin 32768) (l : Fin 128) :
    GATES a0 a2 (ix2 r l)
      = if h : l.val < 16 then dot (fun k => a0 (ix3 ⟨r.val / 8192, by omega⟩ ⟨r.val % 8192, by omega⟩ k))
          (fun k => a2 (ix2 k ⟨6144 + l.val, by omega⟩)) else 0 := by
  by_cases h : l.val < 16
  · rw [dif_pos h]
    pointwise [GATES, dot]
    rw [dif_pos h]
  · rw [dif_neg h]
    pointwise [GATES]
    rw [dif_neg h]; exact int_zero

/-- The projection at an index. -/
theorem main_at_idx (a0 : FVec Ideal S4x8192x2048 .f32) (a2 : FVec Ideal S2048x6160 .f32) (j : S32768x6144.Idx) :
    MAIN a0 a2 j
      = dot (fun k => a0 (ix3 ⟨(j 0).val / 8192, Nat.div_lt_of_lt_mul (j 0).isLt⟩ ⟨(j 0).val % 8192, Nat.mod_lt _ (by decide)⟩ k))
          (fun k => a2 (ix2 k ⟨(j 1).val, Nat.lt_trans (j 1).isLt (by decide)⟩)) := by
  conv_lhs => rw [eq_ix2 j]
  exact main_at a0 a2 (j 0) (j 1)

/-- The gates at an index. -/
theorem gates_at_idx (a0 : FVec Ideal S4x8192x2048 .f32) (a2 : FVec Ideal S2048x6160 .f32) (j : S32768x128.Idx) :
    GATES a0 a2 j
      = if h : (j 1).val < 16 then
          dot (fun k => a0 (ix3 ⟨(j 0).val / 8192, Nat.div_lt_of_lt_mul (j 0).isLt⟩ ⟨(j 0).val % 8192, Nat.mod_lt _ (by decide)⟩ k))
            (fun k => a2 (ix2 k ⟨6144 + (j 1).val, Nat.add_lt_add_left h 6144⟩)) else 0 := by
  conv_lhs => rw [eq_ix2 j]
  exact gates_at a0 a2 (j 0) (j 1)

end Ref

section Kernel
open Cert.ProjIdeal Cert.ProjIdeal.Gen

/-- The stored gates at an index. -/
theorem pay1_at (x : FVec Ideal S2048x2048 .bf16) (w : FVec Ideal S2048x128 .bf16) (r : Fin 2048) (l : Fin 128) :
    k0_pay1 (F := Ideal) x w (ix2 r l) = dot (fun k => x (ix2 r k)) (fun k => w (ix2 k l)) := by
  pointwise [k0_pay1, dot]

/-- The first half of the stored projection at an index, -/
theorem pay2_at (x : FVec Ideal S1024x2048 .bf16) (w : FVec Ideal S2048x1536 .bf16) (s : FVec Ideal S1x1536 .f32)
    (r : Fin 1024) (l : Fin 1536) :
    k0_pay2 (F := Ideal) x w s (ix2 r l) = dot (fun k => x (ix2 r k)) (fun k => w (ix2 k l)) * s (ix2 0 l) := by
  pointwise [k0_pay2, dot]

/-- and the second. -/
theorem pay3_at (x : FVec Ideal S1024x2048 .bf16) (w : FVec Ideal S2048x1536 .bf16) (s : FVec Ideal S1x1536 .f32)
    (r : Fin 1024) (l : Fin 1536) :
    k0_pay3 (F := Ideal) x w s (ix2 r l) = dot (fun k => x (ix2 r k)) (fun k => w (ix2 k l)) * s (ix2 0 l) := by
  pointwise [k0_pay3, dot]

end Kernel

end Cert.Proj.Spec

namespace Cert.ProjIdeal.Body

open Cert.ProjIdeal Cert.ProjIdeal.Gen Cert.Proj.Spec

variable (m : (ℓ : Loc nD τ sig) → Buf (Elt Ideal) ℓ)

/-- Every window's block index at every grid point. -/
theorem idx_val : ∀ t : Fin cfg0.N, win0_0.index t = ![t.val / 4, 0]
    ∧ win0_1.index t = ![0, 0]
    ∧ win0_2.index t = ![0, t.val % 4]
    ∧ win0_3.index t = ![0, t.val % 4]
    ∧ win0_4.index t = ![0, 0]
    ∧ win0_5.index t = ![t.val / 4, t.val % 4]
    ∧ win0_6.index t = ![t.val / 4, 0] :=
  (by decide +kernel : ∀ t : Fin grid0.N, _)

/-- The tokens as the kernel finds them: the argument, its two leading axes merged. -/
theorem entry_x (c : Dev nD) (r : Fin 32768) (k : Fin 2048) :
    (V m c main_v6 : FVec Ideal S32768x2048 .bf16) (ix2 r k)
      = (m ((c : Thread nD τ).loc main_arg0) : FVec Ideal S4x8192x2048 .f32)
          (ix3 ⟨r.val / 8192, by omega⟩ ⟨r.val % 8192, by omega⟩ k) := by
  simp only [V, hostOps0, hostOps0_1, hostOps0_2, List.flatten_cons, List.flatten_nil, List.append_nil, List.cons_append,
    List.nil_append]
  entry_read
  pointwise

/-- The weights as the kernel finds them: the first 6144 columns. -/
theorem entry_w (c : Dev nD) (k : Fin 2048) (l : Fin 6144) :
    (V m c main_v1 : FVec Ideal S2048x6144 .bf16) (ix2 k l)
      = (m ((c : Thread nD τ).loc main_arg2) : FVec Ideal S2048x6160 .f32) (ix2 k ⟨l.val, by omega⟩) := by
  simp only [V, hostOps0, hostOps0_1, hostOps0_2, List.flatten_cons, List.flatten_nil, List.append_nil, List.cons_append,
    List.nil_append]
  entry_read
  pointwise

/-- The column scales are ones. -/
theorem entry_s (c : Dev nD) (i : S1x6144.Idx) :
    (V m c main_v7 : FVec Ideal S1x6144 .f32) i = (1 : EReal) := by
  simp only [V, hostOps0, hostOps0_1, hostOps0_2, List.flatten_cons, List.flatten_nil, List.append_nil, List.cons_append,
    List.nil_append]
  entry_read
  pointwise

/-- The gate weights as the kernel finds them: the last 16 columns, then zeros. -/
theorem entry_g (c : Dev nD) (k : Fin 2048) (l : Fin 128) :
    (V m c main_v4 : FVec Ideal S2048x128 .bf16) (ix2 k l)
      = if h : l.val < 16 then (m ((c : Thread nD τ).loc main_arg2) : FVec Ideal S2048x6160 .f32) (ix2 k ⟨6144 + l.val, by omega⟩)
        else (0 : EReal) := by
  simp only [V, hostOps0, hostOps0_1, hostOps0_2, List.flatten_cons, List.flatten_nil, List.append_nil, List.cons_append,
    List.nil_append]
  entry_read
  change (pad S2048x128 ![0, 0] ![0, 112] ![0, 0]
    (extractStridedSlice S2048x16 ![0, 6144] (m (c, Proc.tc.devRef main_arg2) : FVec Ideal S2048x6160 .f32)
      slices_S2048x6160_S2048x16_0_6144)
    (sitofp FTy.f32 (constantI S_ 32 0#32) : FVec Ideal S_ .f32)
    pads_S2048x16_S2048x128_000_01120 h_S_ : FVec Ideal S2048x128 .f32) (ix2 k l) = _
  by_cases h : l.val < 16
  · rw [dif_pos h]
    pointwise
    rw [dif_pos h]
  · rw [dif_neg h]
    pointwise
    rw [dif_neg h]; exact int_zero

/-- The block of tokens a grid point is given. -/
theorem blk_x (c : Dev nD) (t : Fin cfg0.N) (r : Fin 2048) (k : Fin 2048) (R : Fin 32768)
    (hR : R.val = t.val / 4 * 2048 + r.val) :
    (iblk m c 0 t : FVec Ideal S2048x2048 .bf16) (ix2 r k) = (V m c main_v6 : FVec Ideal S32768x2048 .bf16) (ix2 R k) := by
  blk_ext [iblk, idx_val t]

/-- The block of weights a grid point is given. -/
theorem blk_w (c : Dev nD) (t : Fin cfg0.N) (k : Fin 2048) (l : Fin 1536) (L : Fin 6144)
    (hL : L.val = t.val % 4 * 1536 + l.val) :
    (iblk m c 2 t : FVec Ideal S2048x1536 .bf16) (ix2 k l) = (V m c main_v1 : FVec Ideal S2048x6144 .bf16) (ix2 k L) := by
  blk_ext [iblk, idx_val t]

/-- The block of column scales a grid point is given. -/
theorem blk_s (c : Dev nD) (t : Fin cfg0.N) (l : Fin 1536) (L : Fin 6144) (hL : L.val = t.val % 4 * 1536 + l.val) :
    (iblk m c 3 t : FVec Ideal S1x1536 .f32) (ix2 0 l) = (V m c main_v7 : FVec Ideal S1x6144 .f32) (ix2 0 L) := by
  blk_ext [iblk, idx_val t]

/-- The gate weights, whole at every grid point. -/
theorem blk_g (c : Dev nD) (t : Fin cfg0.N) (k : Fin 2048) (l : Fin 128) :
    (iblk m c 4 t : FVec Ideal S2048x128 .bf16) (ix2 k l) = (V m c main_v4 : FVec Ideal S2048x128 .bf16) (ix2 k l) := by
  blk_ext [iblk, idx_val t]

/-- An entry of a block of the projection, in terms of the arguments: row `R`, column `L` of the arrays. -/
theorem core_m (c : Dev nD) (t : Fin cfg0.N) (r : Fin 2048) (l : Fin 1536) (j : S32768x6144.Idx)
    (h0 : (j 0).val = t.val / 4 * 2048 + r.val) (h1 : (j 1).val = t.val % 4 * 1536 + l.val) :
    dot (fun k => (iblk m c 0 t : FVec Ideal S2048x2048 .bf16) (ix2 r k))
        (fun k => (iblk m c 2 t : FVec Ideal S2048x1536 .bf16) (ix2 k l)) * (iblk m c 3 t : FVec Ideal S1x1536 .f32) (ix2 0 l)
      = MAIN (m ((c : Thread nD τ).loc main_arg0)) (m ((c : Thread nD τ).loc main_arg2)) j := by
  rw [blk_s m c t l (j 1) h1, entry_s]
  refine (mul_one _).trans (Eq.trans ?_ (main_at_idx _ _ j).symm)
  exact dot_congr (fun k => (blk_x m c t r k (j 0) h0).trans (entry_x m c (j 0) k))
    (fun k => (blk_w m c t k l (j 1) h1).trans (entry_w m c k (j 1)))

/-- An entry of a block of the gates, in terms of the arguments. -/
theorem core_g (c : Dev nD) (t : Fin cfg0.N) (r : Fin 2048) (l : Fin 128) (j : S32768x128.Idx)
    (h0 : (j 0).val = t.val / 4 * 2048 + r.val) (h1 : j 1 = l) :
    dot (fun k => (iblk m c 0 t : FVec Ideal S2048x2048 .bf16) (ix2 r k))
        (fun k => (iblk m c 4 t : FVec Ideal S2048x128 .bf16) (ix2 k l))
      = GATES (m ((c : Thread nD τ).loc main_arg0)) (m ((c : Thread nD τ).loc main_arg2)) j := by
  subst h1
  refine Eq.trans ?_ (gates_at_idx _ _ j).symm
  refine (dot_congr (fun k => (blk_x m c t r k (j 0) h0).trans (entry_x m c (j 0) k))
    (fun k => (blk_g m c t k (j 1)).trans (entry_g m c k (j 1)))).trans ?_
  by_cases h : (j 1).val < 16
  · simp only [dif_pos h]
  · simp only [dif_neg h]; exact dot_zero _

/-- What an opening point stores of the projection is the reference at the array index it sits at, -/
theorem point5_open (c : Dev nD) (t : Fin cfg0.N) (h : t.val % 4 = 0) (y) :
    out5_open m c t h y
      = MAIN (m ((c : Thread nD τ).loc main_arg0)) (m ((c : Thread nD τ).loc main_arg2)) (((cfg0.win 5).blk t).view.emb y) := by
  unfold out5_open atOpen
  frame_out
  canon_tiles x h
  · idx_vars x
    refine (pay3_at _ _ _ _ _).trans ?_
    pointwise
    refine core_m m c t ⟨1024 + x0.val, by omega⟩ x1 _ ?_ ?_
    all_goals (blk_simp [idx_val t] <;> (dsimp only; omega))
  · idx_vars x
    refine (pay2_at _ _ _ _ _).trans ?_
    pointwise
    refine core_m m c t ⟨x0.val, by omega⟩ x1 _ ?_ ?_
    all_goals (blk_simp [idx_val t] <;> (dsimp only; omega))

/-- and what any other stores. -/
theorem point5_on (c : Dev nD) (t : Fin cfg0.N) (h : ¬t.val % 4 = 0) (y) :
    out5_on m c t h y
      = MAIN (m ((c : Thread nD τ).loc main_arg0)) (m ((c : Thread nD τ).loc main_arg2)) (((cfg0.win 5).blk t).view.emb y) := by
  unfold out5_on atOn
  frame_out
  canon_tiles x h
  · idx_vars x
    refine (pay3_at _ _ _ _ _).trans ?_
    pointwise
    refine core_m m c t ⟨1024 + x0.val, by omega⟩ x1 _ ?_ ?_
    all_goals (blk_simp [idx_val t] <;> (dsimp only; omega))
  · idx_vars x
    refine (pay2_at _ _ _ _ _).trans ?_
    pointwise
    refine core_m m c t ⟨x0.val, by omega⟩ x1 _ ?_ ?_
    all_goals (blk_simp [idx_val t] <;> (dsimp only; omega))

/-- What an opening point stores of the gates is the reference at the array index it sits at. -/
theorem point6 (c : Dev nD) (t : Fin cfg0.N) (h : t.val % 4 = 0) (y) :
    out6_open m c t h y
      = GATES (m ((c : Thread nD τ).loc main_arg0)) (m ((c : Thread nD τ).loc main_arg2)) (((cfg0.win 6).blk t).view.emb y) := by
  unfold out6_open atOpen
  frame_out
  idx_vars y
  refine (pay1_at _ _ _ _).trans ?_
  refine core_g m c t y0 y1 _ ?_ ?_
  · blk_simp [idx_val t] <;> (dsimp only; omega)
  · refine Fin.ext ?_
    blk_simp [idx_val t] <;> (dsimp only; omega)

/-- The projection after the run is the reference's. -/
theorem final_5 (c : Dev nD) : (dats m 0 c).arrAt 5 (cfgs 0).N
    = MAIN (m ((c : Thread nD τ).loc main_arg0)) (m ((c : Thread nD τ).loc main_arg2)) := by
  refine (dats m 0 c).arrAt_eq_of_covers 5 _ (by decide +kernel) fun t hf y => ?_
  blk_simp; rw [after_5]
  unfold out5
  by_cases h : t.val % 4 = 0
  · rw [dif_pos h]; exact point5_open m c t h y
  · rw [dif_neg h]; exact point5_on m c t h y

/-- A row block's points write the gates back to one block of the array. -/
theorem blk6_opener (t : Fin cfg0.N) (y) :
    ((cfg0.win 6).blk (opener t)).view.emb y = ((cfg0.win 6).blk t).view.emb y := by
  idx_vars y
  refine funext fun a => ?_
  fin_cases a
  · refine Fin.ext ?_
    blk_simp [idx_val t, idx_val (opener t)] <;> (dsimp only [opener]; omega)
  · refine Fin.ext ?_
    blk_simp [idx_val t, idx_val (opener t)] <;> (dsimp only [opener]; omega)

/-- The gates after the run are the reference's. -/
theorem final_6 (c : Dev nD) : (dats m 0 c).arrAt 6 (cfgs 0).N
    = GATES (m ((c : Thread nD τ).loc main_arg0)) (m ((c : Thread nD τ).loc main_arg2)) := by
  refine (dats m 0 c).arrAt_eq_of_covers 6 _ (by decide +kernel) fun t hf y => ?_
  blk_simp; rw [after_6]
  refine (point6 m c (opener t) (opener_opens t) y).trans ?_
  rw [blk6_opener]

end Cert.ProjIdeal.Body

end
-- ==== Proof.Proj.Claims.lean ====
/- Hand-written: the claims about the input projection of the odd layers. -/
module

public import proofs.«01_k».proof.Defs
public import proofs.«01_k».proof.Proof.Proj.BitsFrame
public import proofs.«01_k».proof.Proof.Gen.ProjRefIdeal.Run
public import proofs.«01_k».proof.Proof.Proj.Value
public import Idealize.ShloMosaic.Lib.Quiescent

@[expose] public section

noncomputable section

namespace Cert.Proof

open Idealize.ShloMosaic Idealize.ShloMosaic.TcCoe Idealize.SL.Sem

/-- The kernel at its machine formats terminates without a fault and keeps its arguments. -/
theorem frame_Proj : Cert.quiescent_Proj (hProj := Cert.Proj.Gen.facts) :=
  fun m g _ => Cert.Proj.Body.frame_run m g

/-- The idealized kernel terminates without a fault and keeps its arguments. -/
theorem frame_ProjIdeal : Cert.quiescent_ProjIdeal (hProjIdeal := Cert.ProjIdeal.Gen.facts) :=
  fun m g _ => Cert.ProjIdeal.Body.frame_run m g

/-- The reference terminates without a fault and keeps its arguments. -/
theorem frame_ProjRefIdeal : Cert.quiescent_ProjRefIdeal (hProjRefIdeal := Cert.ProjRefIdeal.Gen.facts) :=
  fun m g _ => (θ_run Cert.ProjRefIdeal.defs _ _).mono
    (fun r h => ⟨fun c => (h c).2.2, Idealize.ShloMosaic.sem_eq_zero_of_no_sems (by decide) r.2⟩)
    (Cert.ProjRefIdeal.Value.run (F := Ideal) m g)

/-- From memories that agree on the arguments, kernel and reference end with equal results. -/
theorem algebraic_Proj : Cert.algebraic_ProjIdeal_ProjRefIdeal (hProjIdeal := Cert.ProjIdeal.Gen.facts) (hProjRefIdeal := Cert.ProjRefIdeal.Gen.facts) := by
  intro m g m' g' _ hagree
  refine ⟨_, _, Cert.ProjIdeal.Body.run_results (F := Ideal) m g, ?_⟩
  refine (θ_run Cert.ProjRefIdeal.defs _ _).mono (fun _ h c => ⟨(h c).1.trans ?_, (h c).2.1.trans ?_, (h c).2.2⟩)
    (Cert.ProjRefIdeal.Value.run (F := Ideal) m' g')
  · rw [(hagree c).1, (hagree c).2.2]
    exact (Cert.ProjIdeal.Body.final_5 m c).symm
  · rw [(hagree c).1, (hagree c).2.2]
    exact (Cert.ProjIdeal.Body.final_6 m c).symm

end Cert.Proof

end
-- ==== Proof.Even.IdealRuns.lean ====
/- The body of the even layers' input projection, executed: once at a grid point that opens a row block of tokens (there the
   gates are stored), once at any other (there they are left alone). Also what the pipeline hands the body. -/
module

public import proofs.«01_k».proof.Proof.Gen.EvenIdeal.Launch
public import proofs.«01_k».proof.Proof.Gen.EvenIdeal.Skeleton
public import proofs.«01_k».proof.Proof.Gen.EvenIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.EvenIdeal.Body

open Cert.EvenIdeal Cert.EvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the assertions are over. -/
abbrev Res (F : FTy → Type) := MT nD τ sig Unit (Elt F) ℕ (UR sig nD τ) ℕ

variable (m : (ℓ : Loc nD τ sig) → Buf (Elt F) ℓ) (ρ : Dev nD → PrngReg)

/-! ## The host operations before the call -/

/-- What core `c`'s buffer `b` holds when the call begins. -/
abbrev V (c : Dev nD) (b : Ref sig .tc) : Buf (Elt F) ((c : Thread nD τ).loc b) :=
  StableHlo.after (List.flatten [hostOps0, hostOps0_1, hostOps0_2]) (fun b => m (c, b)) b

/-- The first line of host operations allocates nothing. -/
theorem fresh0 : (hostOps0 : List (HloOp τ sig (Elt F))).Forall fun op => op.fresh = ∅ := by
  simp only [List.Forall]; repeat' constructor
/-- Nor does the second, -/
theorem fresh1 : (hostOps0_1 : List (HloOp τ sig (Elt F))).Forall fun op => op.fresh = ∅ := by
  simp only [List.Forall]; repeat' constructor
/-- nor the third. -/
theorem fresh2 : (hostOps0_2 : List (HloOp τ sig (Elt F))).Forall fun op => op.fresh = ∅ := by
  simp only [List.Forall]; repeat' constructor

set_option maxHeartbeats 800000 in
/-- The program is the host operations, then the call. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

/-- The call finds the tokens as they were given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      StableHlo.binaryIndexed_writes, Finset.mem_singleton]
    repeat' apply And.intro
    all_goals exact StableHlo.devRef_ne_of_ne (by decide)))
/-- It finds the norm's gain as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      StableHlo.binaryIndexed_writes, Finset.mem_singleton]
    repeat' apply And.intro
    all_goals exact StableHlo.devRef_ne_of_ne (by decide)))
/-- It finds the weights as they were given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      StableHlo.binaryIndexed_writes, Finset.mem_singleton]
    repeat' apply And.intro
    all_goals exact StableHlo.devRef_ne_of_ne (by decide)))

/-- Window `w`'s block at point `t`, read off its array as the call finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## Where the gates are stored -/

/-- The body's condition: the inner grid index is zero. -/
abbrev opens (i : grid0.Coords) : Prop := k0_cond1 i = 1#1

/-- It holds at every third point. -/
theorem opens_iff : ∀ t : Fin cfg0.N, opens (grid0.coords t) ↔ t.val % 3 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [opens, k0_cond1, e0, e1]
    word_cmp
   : ∀ t : Fin grid0.N, opens (grid0.coords t) ↔ t.val % 3 = 0)

/-- The gates' window is live where a row block opens. -/
theorem live6 : ∀ t : Fin cfg0.N, opens (grid0.coords t) → cfg0.idle 6 (grid0.coords t) = false := by decide +kernel

/-- Whether the gates' buffer is yet unwritten at a point: it is where a row block opens. -/
def unwritten : ℕ → Bool
  | 0 => true
  | n + 1 => (0x924924924924 : ℕ).testBit n

/-- `unwritten` follows the pipeline's own step. -/
theorem unwritten_step : ∀ t : Fin cfg0.N,
    unwritten (t.val + 1) = ((cfg0.win 6).flush t || (cfg0.idle 6 (cfg0.grid.coords t) && unwritten t.val)) := by
  decide +kernel

/-- So away from a row block's opening the gates' buffer is written. -/
theorem written6 : ∀ t : Fin cfg0.N, ¬opens (grid0.coords t) → cfg0.fresh 6 t.val = false := by
  intro t
  rw [Pipeline.Cfg.fresh_tab cfg0 6 unwritten rfl unwritten_step t.val (Nat.le_of_lt t.isLt)]
  revert t; decide +kernel

/-! ## The staging buffers at a point -/

/-- The buffer the main result's contents are stated through. -/
abbrev VO5 : View sig .tc .vmem S2048x1536 .bf16 := (Memref.whole cc0_stg5_0 : Memref sig .tc .vmem S2048x1536 .bf16).view
/-- The buffer the gates' contents are stated through. -/
abbrev VO6 : View sig .tc .vmem S2048x128 .f32 := (Memref.whole cc0_stg6_0 : Memref sig .tc .vmem S2048x128 .f32).view

/-- The tokens' buffer at point `t`, whole. -/
abbrev b0 (t : Fin cfg0.N) : Memref sig .tc .vmem S2048x2048 .bf16 := win0_0.stage (cfg0.slots t 0)
abbrev w0 (t : Fin cfg0.N) : (b0 t).IsWhole := hstage0_0 ((cfg0.slots t 0).cast nbuf0_0)
/-- The gain's. -/
abbrev b1 (t : Fin cfg0.N) : Memref sig .tc .vmem S1x2048 .f32 := win0_1.stage (cfg0.slots t 1)
abbrev w1 (t : Fin cfg0.N) : (b1 t).IsWhole := hstage0_1 ((cfg0.slots t 1).cast nbuf0_1)
/-- The weights'. -/
abbrev b2 (t : Fin cfg0.N) : Memref sig .tc .vmem S2048x1536 .bf16 := win0_2.stage (cfg0.slots t 2)
abbrev w2 (t : Fin cfg0.N) : (b2 t).IsWhole := hstage0_2 ((cfg0.slots t 2).cast nbuf0_2)
/-- The column scales'. -/
abbrev b3 (t : Fin cfg0.N) : Memref sig .tc .vmem S1x1536 .f32 := win0_3.stage (cfg0.slots t 3)
abbrev w3 (t : Fin cfg0.N) : (b3 t).IsWhole := hstage0_3 ((cfg0.slots t 3).cast nbuf0_3)
/-- The gate weights'. -/
abbrev b4 (t : Fin cfg0.N) : Memref sig .tc .vmem S2048x128 .bf16 := win0_4.stage (cfg0.slots t 4)
abbrev w4 (t : Fin cfg0.N) : (b4 t).IsWhole := hstage0_4 ((cfg0.slots t 4).cast nbuf0_4)
/-- The main result's. -/
abbrev b5 (t : Fin cfg0.N) : Memref sig .tc .vmem S2048x1536 .bf16 := win0_5.stage (cfg0.slots t 5)
abbrev w5 (t : Fin cfg0.N) : (b5 t).IsWhole := hstage0_5 ((cfg0.slots t 5).cast nbuf0_5)
/-- The gates'. -/
abbrev b6 (t : Fin cfg0.N) : Memref sig .tc .vmem S2048x128 .f32 := win0_6.stage (cfg0.slots t 6)
abbrev w6 (t : Fin cfg0.N) : (b6 t).IsWhole := hstage0_6 ((cfg0.slots t 6).cast nbuf0_6)
/-- The norm's scratch buffer, which this call does not touch. -/
abbrev scr : Memref sig .tc .vmem S8x128 .bf16 := Memref.whole cc0_scratch0

/-! ## The body, executed -/

section

variable (c : Dev nD) (i : grid0.Coords)
  (arg2 : Memref sig .tc .vmem S2048x2048 .bf16) (harg2 : arg2.IsWhole)
  (arg3 : Memref sig .tc .vmem S1x2048 .f32) (harg3 : arg3.IsWhole)
  (arg4 : Memref sig .tc .vmem S2048x1536 .bf16) (harg4 : arg4.IsWhole)
  (arg5 : Memref sig .tc .vmem S1x1536 .f32) (harg5 : arg5.IsWhole)
  (arg6 : Memref sig .tc .vmem S2048x128 .bf16) (harg6 : arg6.IsWhole)
  (arg7 : Memref sig .tc .vmem S2048x1536 .bf16) (harg7 : arg7.IsWhole)
  (arg8 : Memref sig .tc .vmem S2048x128 .f32) (harg8 : arg8.IsWhole)
  (arg9 : Memref sig .tc .vmem S8x128 .bf16) (harg9 : arg9.IsWhole)
  (x : Vec F S2048x2048 .bf16) (wt : Vec F S2048x1536 .bf16) (cs : Vec F S1x1536 .f32) (wg : Vec F S2048x128 .bf16)

set_option maxHeartbeats 1000000 in
/-- Where a row block opens: from the tokens', the weights', the scales' and the gate weights' buffers the body runs to the
    same, with the pieces it stored written to the two results' buffers. -/
def runOpen (hc : opens i) :
    Σ' (L5 : List (View.Piece (Elt F) S2048x1536 .bf16)), { L6 : List (View.Piece (Elt F) S2048x128 .f32) //
      ∀ (E : Set ℕ) (K : PUnit → sProp (Res F)),
        iprop(owns (c : Thread nD τ) arg2 fullShare x ∗ owns (c : Thread nD τ) arg4 fullShare wt
            ∗ owns (c : Thread nD τ) arg5 fullShare cs ∗ owns (c : Thread nD τ) arg6 fullShare wg
            ∗ (∃ d, owns (c : Thread nD τ) arg7 fullShare d) ∗ (∃ d, owns (c : Thread nD τ) arg8 fullShare d)
            ∗ (iprop(owns (c : Thread nD τ) arg2 fullShare x ∗ owns (c : Thread nD τ) arg4 fullShare wt
                ∗ owns (c : Thread nD τ) arg5 fullShare cs ∗ owns (c : Thread nD τ) arg6 fullShare wg
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6))
              -∗ K ⟨⟩))
          ⊢ wp frame (wpE (defs₀ (F := F)) Variants.none c none) E
              (cc0_norm_proj i arg2 harg2 arg3 harg3 arg4 harg4 arg5 harg5 arg6 harg6 arg7 harg7 arg8 harg8 arg9 harg9) K } := by
  refine ⟨?_, ?_, fun E K => ?run⟩
  case run =>
    simp only [cc0_norm_proj_eq_skeleton]; unfold cc0_norm_proj_skel
    unfold owns
    iintro ⟨⟨%f2, %hf2, H2⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf2; obtain rfl := harg4.eq_unread hf4; obtain rfl := harg5.eq_unread hf5
    obtain rfl := harg6.eq_unread hf6
    sl_exec (disch := sl_exact hc)
    sl_step
    iapply Hk
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

set_option maxHeartbeats 1000000 in
/-- Elsewhere the same without the gates, whose buffers it does not touch. -/
def runOn (hc : ¬opens i) :
    { L5 : List (View.Piece (Elt F) S2048x1536 .bf16) //
      ∀ (E : Set ℕ) (K : PUnit → sProp (Res F)),
        iprop(owns (c : Thread nD τ) arg2 fullShare x ∗ owns (c : Thread nD τ) arg4 fullShare wt
            ∗ owns (c : Thread nD τ) arg5 fullShare cs ∗ (∃ d, owns (c : Thread nD τ) arg7 fullShare d)
            ∗ (iprop(owns (c : Thread nD τ) arg2 fullShare x ∗ owns (c : Thread nD τ) arg4 fullShare wt
                ∗ owns (c : Thread nD τ) arg5 fullShare cs
                ∗ (∃ f, arg7.view.loc (c : Thread nD τ) ↦[arg7.view.set]{fullShare} arg7.view.writes (Elt F) f L5))
              -∗ K ⟨⟩))
          ⊢ wp frame (wpE (defs₀ (F := F)) Variants.none c none) E
              (cc0_norm_proj i arg2 harg2 arg3 harg3 arg4 harg4 arg5 harg5 arg6 harg6 arg7 harg7 arg8 harg8 arg9 harg9) K } := by
  refine ⟨?_, fun E K => ?run⟩
  case run =>
    simp only [cc0_norm_proj_eq_skeleton]; unfold cc0_norm_proj_skel
    unfold owns
    iintro ⟨⟨%f2, %hf2, H2⟩, ⟨%f4, %hf4, H4⟩, ⟨%f5, %hf5, H5⟩, ⟨%d7, %f7, -, H7⟩, Hk⟩
    obtain rfl := harg2.eq_unread hf2; obtain rfl := harg4.eq_unread hf4; obtain rfl := harg5.eq_unread hf5
    sl_exec (disch := sl_exact hc)
    sl_step
    iapply Hk
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    iexists _; iexact H7

end

end Cert.EvenIdeal.Body

end
-- ==== Proof.Even.IdealFrame.lean ====
/- What the even layers' input projection leaves in its buffers at every grid point, and its frame. The gates of a row block
   are stored at the block's first point, left alone at the next three, and written back after the last. -/
module

public import proofs.«01_k».proof.Proof.Even.IdealRuns

@[expose] public section

set_option maxRecDepth 16384

noncomputable section

namespace Cert.EvenIdeal.Body

open Cert.EvenIdeal Cert.EvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## What a point leaves -/

/-- The body's run at a point that opens a row block. -/
abbrev atOpen (c : Dev nD) (t : Fin cfg0.N) (h : t.val % 3 = 0) :=
  runOpen (F := F) c (grid0.coords t) (b0 t) (w0 t) (b1 t) (w1 t) (b2 t) (w2 t) (b3 t) (w3 t) (b4 t) (w4 t) (b5 t) (w5 t)
    (b6 t) (w6 t) scr (Memref.isWhole_whole _) (iblk m c 0 t) (iblk m c 2 t) (iblk m c 3 t) (iblk m c 4 t)
    ((opens_iff t).mpr h)

/-- The body's run at any other point. -/
abbrev atOn (c : Dev nD) (t : Fin cfg0.N) (h : ¬t.val % 3 = 0) :=
  runOn (F := F) c (grid0.coords t) (b0 t) (w0 t) (b1 t) (w1 t) (b2 t) (w2 t) (b3 t) (w3 t) (b4 t) (w4 t) (b5 t) (w5 t)
    (b6 t) (w6 t) scr (Memref.isWhole_whole _) (iblk m c 0 t) (iblk m c 2 t) (iblk m c 3 t)
    (fun h' => h ((opens_iff t).mp h'))

/-- The two stores of the main result fill its block, at an opening point -/
theorem cover5_open (c : Dev nD) (t : Fin cfg0.N) (h : t.val % 3 = 0) (y : S2048x1536.Idx) :
    ∃ pc ∈ (atOpen m c t h).1, y ∈ pc.1.set :=
  View.cover_of_tiledL (atOpen m c t h).1 S1024x1536.size (by sl_kernel_rfl) y

/-- and at any other. -/
theorem cover5_on (c : Dev nD) (t : Fin cfg0.N) (h : ¬t.val % 3 = 0) (y : S2048x1536.Idx) :
    ∃ pc ∈ (atOn m c t h).1, y ∈ pc.1.set :=
  View.cover_of_tiledL (atOn m c t h).1 S1024x1536.size (by sl_kernel_rfl) y

/-- The store of the gates fills theirs. -/
theorem cover6 (c : Dev nD) (t : Fin cfg0.N) (h : t.val % 3 = 0) (y : S2048x128.Idx) :
    ∃ pc ∈ (atOpen m c t h).2.1, y ∈ pc.1.set :=
  View.cover_of_tiledL (atOpen m c t h).2.1 S2048x128.size (by sl_kernel_rfl) y

/-- The main result's block as an opening point leaves it, -/
def out5_open (c : Dev nD) (t : Fin cfg0.N) (h : t.val % 3 = 0) : Vec F S2048x1536 .bf16 :=
  VO5.read (Elt F) (VO5.writes (Elt F) VO5.junk (atOpen m c t h).1)

/-- and as any other leaves it. -/
def out5_on (c : Dev nD) (t : Fin cfg0.N) (h : ¬t.val % 3 = 0) : Vec F S2048x1536 .bf16 :=
  VO5.read (Elt F) (VO5.writes (Elt F) VO5.junk (atOn m c t h).1)

/-- The main result's block as a point leaves it. -/
def out5 (c : Dev nD) (t : Fin cfg0.N) : Vec F S2048x1536 .bf16 :=
  if h : t.val % 3 = 0 then out5_open m c t h else out5_on m c t h

/-- The gates' block as an opening point leaves it. -/
def out6_open (c : Dev nD) (t : Fin cfg0.N) (h : t.val % 3 = 0) : Vec F S2048x128 .f32 :=
  VO6.read (Elt F) (VO6.writes (Elt F) VO6.junk (atOpen m c t h).2.1)

/-- The point that opened the row block `t` lies in. -/
def opener (t : Fin cfg0.N) : Fin cfg0.N := ⟨t.val - t.val % 3, Nat.lt_of_le_of_lt (Nat.sub_le _ _) t.isLt⟩

/-- It is an opening point. -/
theorem opener_opens (t : Fin cfg0.N) : (opener t).val % 3 = 0 := by
  show (t.val - t.val % 3) % 3 = 0; omega

/-- An opening point is its own. -/
theorem opener_self (t : Fin cfg0.N) (h : t.val % 3 = 0) : opener t = t := Fin.ext (by
  show t.val - t.val % 3 = t.val; omega)

/-- Any other shares its with the point before. -/
theorem opener_pred (t : Fin cfg0.N) (h : ¬t.val % 3 = 0) (h' : t.val - 1 < cfg0.N) :
    opener ⟨t.val - 1, h'⟩ = opener t := Fin.ext (by
  show t.val - 1 - (t.val - 1) % 3 = t.val - t.val % 3; omega)

/-- The gates' block after any point: as the row block's opening point left it. -/
def out6 (c : Dev nD) (t : Fin cfg0.N) : Vec F S2048x128 .f32 := out6_open m c (opener t) (opener_opens t)

/-- So it depends on the opening point alone, -/
theorem out6_congr (c : Dev nD) {s t : Fin cfg0.N} (h : opener s = opener t) : out6 m c s = out6 m c t := by
  unfold out6; congr 1

/-- and at an opening point is what that point leaves. -/
theorem out6_at (c : Dev nD) (t : Fin cfg0.N) (h : t.val % 3 = 0) : out6 m c t = out6_open m c t h := by
  unfold out6; congr 1; exact opener_self t h

/-! ## The proof data -/

/-- The arrays as the call finds them; after each point the inputs' buffers at their blocks and the results' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
  Φ _ := Pipeline.ΦA spec0 c
  q _ := fullShare
  owed _ := 0

/-- The arrays of the proof data. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = out5 m c t := by dsimp only [dats]
theorem after_6 (c : Dev nD) (t : Fin cfg0.N) : (dats m 0 c).after 6 t = out6 m c t := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]) t d).trans
    (by unfold Dat.fetched Dat.blockOf iblk; rw [A_eq]; try rfl)

/-- Away from a row block's opening the gates' buffer holds what the opening point left. -/
theorem before_6 (c : Dev nD) (t : Fin cfg0.N) (h : ¬t.val % 3 = 0) (d) : (dats m 0 c).before 6 t d = out6 m c t := by
  have carry : ∀ (s : Fin cfg0.N) (_ : s.val ≠ 0), cfg0.idle 6 (grid0.coords s) = true → cfg0.fresh 6 s.val = false →
      (dats m 0 c).after 6 s = (dats m 0 c).after 6 ⟨s.val - 1, by omega⟩ := by
    intro s _ hi _
    rw [after_6, after_6]
    by_cases hs : s.val % 3 = 0
    · rw [live6 s ((opens_iff s).mpr hs)] at hi
      exact absurd hi Bool.false_ne_true
    · exact out6_congr m c (opener_pred s hs _).symm
  rw [Dat.before_out_traj _ 6 rfl (fun _ _ => rfl) carry t.val t rfl d,
    if_neg (by rw [written6 t (fun h' => h ((opens_iff t).mp h'))]; exact Bool.false_ne_true), after_6]
  exact out6_congr m c (opener_pred t h _)

/-- So left alone it is as the pipeline wants it. -/
theorem leaves_6 (c : Dev nD) (t : Fin cfg0.N) (h : ¬t.val % 3 = 0) (d) :
    owns (c : Thread nD τ) (b6 t) fullShare ((dats m 0 c).before 6 t d) ⊢ ((dats m 0 c).leavesExact 6 t : sProp (Res F)) := by
  have now : owns (c : Thread nD τ) (b6 t) fullShare ((dats m 0 c).before 6 t d)
      ⊢ (owns (c : Thread nD τ) (b6 t) fullShare ((dats m 0 c).after 6 t) : sProp (Res F)) := by
    rw [before_6 m c t h d, after_6]
  unfold Dat.leavesExact
  cases cfg0.idle 6 (cfg0.grid.coords t)
  · exact now
  · cases (cfg0.win 6).flush t
    · iintro H; iexists d; iexact H
    · exact now

/-! ## The body at a point -/

/-- What the pipeline leaves besides the windows: the scratch buffer and the generator's state. -/
theorem rest_eq (c : Dev nD) :
    (Pipeline.ΦA spec0 c : sProp (Res F))
      = iprop(iprop((∃ d, owns (c : Thread nD τ) scr fullShare d)) ∗ (∃ r, prngReg c r)) := by
  unfold Pipeline.ΦA; rw [scopedRest0_eq]; simp only [scr, owns_whole]; try rfl

/-- What the body is handed at point `t`. -/
def bodyPre (c : Dev nD) (t : Fin cfg0.N) : sProp (Res F) :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d)))

/-- What it hands back. -/
def bodyPost (c : Dev nD) (t : Fin cfg0.N) : sProp (Res F) :=
  iprop((dats m 0 c).Φ t.succ ∗ (dats m 0 c).owesAt () t.succ
    ∗ owns (c : Thread nD τ) (b0 t) fullShare (iblk m c 0 t)
    ∗ owns (c : Thread nD τ) (b1 t) fullShare (iblk m c 1 t)
    ∗ owns (c : Thread nD τ) (b2 t) fullShare (iblk m c 2 t)
    ∗ owns (c : Thread nD τ) (b3 t) fullShare (iblk m c 3 t)
    ∗ owns (c : Thread nD τ) (b4 t) fullShare (iblk m c 4 t)
    ∗ owns (c : Thread nD τ) (b5 t) fullShare (out5 m c t)
    ∗ (dats m 0 c).leavesExact 6 t)

set_option maxHeartbeats 1600000 in
/-- The body at a point: by the run of its case, the buffers it does not touch carried along. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  by_cases h : t.val % 3 = 0
  · rw [show (dats m 0 c).leavesExact 6 t = owns (c : Thread nD τ) (b6 t) fullShare (out6_open m c t h) from by
      unfold Dat.leavesExact; rw [live6 t ((opens_iff t).mpr h), after_6, out6_at m c t h]]
    rw [show out5 m c t = out5_open m c t h from dif_pos h]
    unfold out5_open out6_open
    iintro ⟨Hr, Ho, ⟨%d0, H0⟩, ⟨%d1, H1⟩, ⟨%d2, H2⟩, ⟨%d3, H3⟩, ⟨%d4, H4⟩, ⟨%d5, H5⟩, ⟨%d6, H6⟩⟩
    iapply ((atOpen m c t h).2.2 Set.univ _)
    isplitl [H0]; · iexact H0
    isplitl [H2]; · iexact H2
    isplitl [H3]; · iexact H3
    isplitl [H4]; · iexact H4
    isplitl [H5]; · iexists _; iexact H5
    isplitl [H6]; · iexists _; iexact H6
    iintro ⟨H0, H2, H3, H4, ⟨%e5, H5⟩, ⟨%e6, H6⟩⟩
    isplitl [Hr]; · iexact Hr
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_open m c t h)
    unfold owns; iexists _; isplitr
    swap; · iexact H6
    ipureintro; exact View.read_writes_of_cover _ _ _ _ _ (cover6 m c t h)
  · rw [show out5 m c t = out5_on m c t h from dif_neg h]
    unfold out5_on
    iintro ⟨Hr, Ho, ⟨%d0, H0⟩, ⟨%d1, H1⟩, ⟨%d2, H2⟩, ⟨%d3, H3⟩, ⟨%d4, H4⟩, ⟨%d5, H5⟩, ⟨%d6, H6⟩⟩
    ihave H6 := (leaves_6 m c t h d6) $$ H6
    iapply ((atOn m c t h).2 Set.univ _)
    isplitl [H0]; · iexact H0
    isplitl [H2]; · iexact H2
    isplitl [H3]; · iexact H3
    isplitl [H5]; · iexists _; iexact H5
    iintro ⟨H0, H2, H3, ⟨%e5, H5⟩⟩
    isplitl [Hr]; · iexact Hr
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_on m c t h)
    iexact H6

/-- The table's row at a point is the body there. -/
theorem row_eq (t : Fin cfg0.N) :
    defs₀ (F := F) .tc cfg0.body (cfg0.bodyArgs t (cfg0.slots t)) = bodyAt0 t := by
  unfold defs₀; rw [Defs.onTc_tc]

/-- What the pipeline asks of the body, at every point. -/
theorem body_obligation (c : Dev nD) :
    BodyObligation (dats (F := F) m 0 c) (defs₀ (F := F)) Variants.none () Set.univ := fun t => by
  rw [bigSep_W0, bigSep_W0, row_eq]
  exact triple_restated (sound_body m c t) rfl .rfl fun _ => .rfl

/-! ## The run -/

set_option backward.isDefEq.respectTransparency.types false in
/-- The program terminates with the arrays as the proof data says and every semaphore at zero. -/
theorem run_full : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The frame: the program terminates, its arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => kept m r h.1 c, h.2⟩) (run_full m ρ)

/-- The run with the two results named. -/
theorem run_results : θ_run defs (onTc (τ := τ) (main (F := F))) ⟨m, fun _ => 0, ρ⟩ fun r => ∀ c : Dev nD,
      r.2.mem ((c : Thread nD τ).loc main_v16_0) = (dats m 0 c).arrAt 5 cfg0.N
      ∧ r.2.mem ((c : Thread nD τ).loc main_v16_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 5, (h.1 c).1 6, kept m r h.1 c⟩) (run_full m ρ)

end Cert.EvenIdeal.Body

end
-- ==== Proof.Even.Value.lean ====
/- The value of the input projection of the even layers, its gates beside it, as functions of the argument arrays. -/
module

public import proofs.«01_k».proof.Proof.Gen.EvenRefIdeal.Run
public import proofs.«01_k».proof.Proof.Even.IdealFrame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Even.Spec

/-- The dot product of a row and a column. -/
def dot (x w : Fin 2048 → EReal) : EReal := ∑ k, x k * w k

/-- Equal parts have equal dot products. -/
theorem dot_congr {x x' w w' : Fin 2048 → EReal} (hx : ∀ k, x k = x' k) (hw : ∀ k, w k = w' k) : dot x w = dot x' w' := by
  rw [funext hx, funext hw]

/-- With a column of zeros it is zero. -/
theorem dot_zero (x : Fin 2048 → EReal) : dot x (fun _ => 0) = 0 := by
  unfold dot; simp only [mul_zero, Finset.sum_const_zero]

/-- The integer zero as a number. -/
theorem int_zero : (FloatOps.sitofp (F := Ideal) FTy.f32 0#32 : EReal) = 0 := by
  show (((BitVec.toInt 0#32 : ℝ)) : EReal) = 0
  simp

section Ref
open Cert.EvenRefIdeal Cert.EvenRefIdeal.Gen

/-- The products of the rows with all weights. -/
abbrev PROJ (a0 : FVec Ideal S4x8192x2048 .f32) (a2 : FVec Ideal S2048x4616 .f32) : FVec Ideal S32768x4616 .f32 :=
  Host.dotGeneral dot_S32768x2048_S2048x4616_S32768x4616_1_0_0_1_n_n none (shapeCast _ a0 shapeCasts_S4x8192x2048_S32768x2048) a2

/-- The reference's projection, its parts in the order they are returned in. -/
def MAIN (a0 : FVec Ideal S4x8192x2048 .f32) (a2 : FVec Ideal S2048x4616 .f32) : FVec Ideal S32768x4608 .bf16 :=
  truncf .bf16 (concatenate S32768x4608 1
    [⟨S32768x1024, extractStridedSlice S32768x1024 ![0, 0] (PROJ a0 a2) slices_S32768x4616_S32768x1024_0_0⟩,
     ⟨S32768x1024, extractStridedSlice S32768x1024 ![0, 2560] (PROJ a0 a2) slices_S32768x4616_S32768x1024_0_2560⟩,
     ⟨S32768x1024, extractStridedSlice S32768x1024 ![0, 3584] (PROJ a0 a2) slices_S32768x4616_S32768x1024_0_3584⟩,
     ⟨S32768x512, extractStridedSlice S32768x512 ![0, 1536] (PROJ a0 a2) slices_S32768x4616_S32768x512_0_1536⟩,
     ⟨S32768x512, extractStridedSlice S32768x512 ![0, 2048] (PROJ a0 a2) slices_S32768x4616_S32768x512_0_2048⟩,
     ⟨S32768x256, extractStridedSlice S32768x256 ![0, 1024] (PROJ a0 a2) slices_S32768x4616_S32768x256_0_1024⟩,
     ⟨S32768x256, extractStridedSlice S32768x256 ![0, 1280] (PROJ a0 a2) slices_S32768x4616_S32768x256_0_1280⟩]
    concatenates_S32768x1024_S32768x1024_S32768x1024_S32768x512_S32768x512_S32768x256_S32768x256_S32768x4608_d1) bitsLt_bf16_f32

/-- The reference's gates, in 128 columns. -/
def GATES (a0 : FVec Ideal S4x8192x2048 .f32) (a2 : FVec Ideal S2048x4616 .f32) : FVec Ideal S32768x128 .f32 :=
  pad S32768x128 ![0, 0] ![0, 120] ![0, 0] (extractStridedSlice S32768x8 ![0, 4608] (PROJ a0 a2) slices_S32768x4616_S32768x8_0_4608) (sitofp .f32 (constantI S_ 32 0#32)) pads_S32768x8_S32768x128_000_01200 h_S_

/-- Which column of the weights column `n` of the projection comes from. -/
def ord (n : ℕ) : ℕ :=
  if n < 1024 then n else if n < 2048 then n + 1536 else if n < 3072 then n + 1536 else if n < 3584 then n - 1536
  else if n < 4096 then n - 1536 else n - 3072

/-- It is one of the weights' columns. -/
theorem ord_lt {n : ℕ} (h : n < 4608) : ord n < 4616 := by
  unfold ord; split_ifs <;> omega

/-- An entry of the products. -/
theorem proj_at (a0 : FVec Ideal S4x8192x2048 .f32) (a2 : FVec Ideal S2048x4616 .f32) (r : Fin 32768) (l : Fin 4616) :
    PROJ a0 a2 (ix2 r l)
      = dot (fun k => a0 (ix3 ⟨r.val / 8192, by omega⟩ ⟨r.val % 8192, by omega⟩ k)) (fun k => a2 (ix2 k l)) := by
  pointwise [dot]

/-- The parts of the products as they are returned, over any array. -/
theorem main_cols (p : FVec Ideal S32768x4616 .f32) (r : Fin 32768) (l : Fin 4608) :
    (truncf .bf16 (concatenate S32768x4608 1
    [⟨S32768x1024, extractStridedSlice S32768x1024 ![0, 0] p slices_S32768x4616_S32768x1024_0_0⟩,
     ⟨S32768x1024, extractStridedSlice S32768x1024 ![0, 2560] p slices_S32768x4616_S32768x1024_0_2560⟩,
     ⟨S32768x1024, extractStridedSlice S32768x1024 ![0, 3584] p slices_S32768x4616_S32768x1024_0_3584⟩,
     ⟨S32768x512, extractStridedSlice S32768x512 ![0, 1536] p slices_S32768x4616_S32768x512_0_1536⟩,
     ⟨S32768x512, extractStridedSlice S32768x512 ![0, 2048] p slices_S32768x4616_S32768x512_0_2048⟩,
     ⟨S32768x256, extractStridedSlice S32768x256 ![0, 1024] p slices_S32768x4616_S32768x256_0_1024⟩,
     ⟨S32768x256, extractStridedSlice S32768x256 ![0, 1280] p slices_S32768x4616_S32768x256_0_1280⟩]
    concatenates_S32768x1024_S32768x1024_S32768x1024_S32768x512_S32768x512_S32768x256_S32768x256_S32768x4608_d1) bitsLt_bf16_f32 : FVec Ideal S32768x4608 .bf16) (ix2 r l) = p (ix2 r ⟨ord l.val, ord_lt l.isLt⟩) := by
  pointwise
  split_ifs <;> exact congrArg p (congrArg (ix2 _) (Fin.ext (by simp only [ord]; split_ifs <;> omega)))

/-- The projection at row `r`, column `l`. -/
theorem main_at (a0 : FVec Ideal S4x8192x2048 .f32) (a2 : FVec Ideal S2048x4616 .f32) (r : Fin 32768) (l : Fin 4608) :
    MAIN a0 a2 (ix2 r l)
      = dot (fun k => a0 (ix3 ⟨r.val / 8192, by omega⟩ ⟨r.val % 8192, by omega⟩ k))
          (fun k => a2 (ix2 k ⟨ord l.val, ord_lt l.isLt⟩)) :=
  (main_cols _ r l).trans (proj_at a0 a2 r _)

/-- The gates at row `r`, column `l`: those of the 8 gate columns, zeros after. -/
theorem gates_at (a0 : FVec Ideal S4x8192x2048 .f32) (a2 : FVec Ideal S2048x4616 .f32) (r : Fin 32768) (l : Fin 128) :
    GATES a0 a2 (ix2 r l)
      = if h : l.val < 8 then dot (fun k => a0 (ix3 ⟨r.val / 8192, by omega⟩ ⟨r.val % 8192, by omega⟩ k))
          (fun k => a2 (ix2 k ⟨4608 + l.val, by omega⟩)) else 0 := by
  by_cases h : l.val < 8
  · rw [dif_pos h]
    pointwise [GATES, dot]
    rw [dif_pos h]
  · rw [dif_neg h]
    pointwise [GATES]
    rw [dif_neg h]; exact int_zero

/-- The projection at an index. -/
theorem main_at_idx (a0 : FVec Ideal S4x8192x2048 .f32) (a2 : FVec Ideal S2048x4616 .f32) (j : S32768x4608.Idx) :
    MAIN a0 a2 j
      = dot (fun k => a0 (ix3 ⟨(j 0).val / 8192, Nat.div_lt_of_lt_mul (j 0).isLt⟩ ⟨(j 0).val % 8192, Nat.mod_lt _ (by decide)⟩ k))
          (fun k => a2 (ix2 k ⟨ord (j 1).val, ord_lt (j 1).isLt⟩)) := by
  conv_lhs => rw [eq_ix2 j]
  exact main_at a0 a2 (j 0) (j 1)

/-- The gates at an index. -/
theorem gates_at_idx (a0 : FVec Ideal S4x8192x2048 .f32) (a2 : FVec Ideal S2048x4616 .f32) (j : S32768x128.Idx) :
    GATES a0 a2 j
      = if h : (j 1).val < 8 then
          dot (fun k => a0 (ix3 ⟨(j 0).val / 8192, Nat.div_lt_of_lt_mul (j 0).isLt⟩ ⟨(j 0).val % 8192, Nat.mod_lt _ (by decide)⟩ k))
            (fun k => a2 (ix2 k ⟨4608 + (j 1).val, Nat.add_lt_add_left h 4608⟩)) else 0 := by
  conv_lhs => rw [eq_ix2 j]
  exact gates_at a0 a2 (j 0) (j 1)

end Ref

section Kernel
open Cert.EvenIdeal Cert.EvenIdeal.Gen

/-- The stored gates at an index. -/
theorem pay1_at (x : FVec Ideal S2048x2048 .bf16) (w : FVec Ideal S2048x128 .bf16) (r : Fin 2048) (l : Fin 128) :
    k0_pay1 (F := Ideal) x w (ix2 r l) = dot (fun k => x (ix2 r k)) (fun k => w (ix2 k l)) := by
  pointwise [k0_pay1, dot]

/-- The first half of the stored projection at an index, -/
theorem pay2_at (x : FVec Ideal S1024x2048 .bf16) (w : FVec Ideal S2048x1536 .bf16) (s : FVec Ideal S1x1536 .f32)
    (r : Fin 1024) (l : Fin 1536) :
    k0_pay2 (F := Ideal) x w s (ix2 r l) = dot (fun k => x (ix2 r k)) (fun k => w (ix2 k l)) * s (ix2 0 l) := by
  pointwise [k0_pay2, dot]

/-- and the second. -/
theorem pay3_at (x : FVec Ideal S1024x2048 .bf16) (w : FVec Ideal S2048x1536 .bf16) (s : FVec Ideal S1x1536 .f32)
    (r : Fin 1024) (l : Fin 1536) :
    k0_pay3 (F := Ideal) x w s (ix2 r l) = dot (fun k => x (ix2 r k)) (fun k => w (ix2 k l)) * s (ix2 0 l) := by
  pointwise [k0_pay3, dot]

/-- The weights as the host code orders them. -/
def WMAIN (a2 : FVec Ideal S2048x4616 .f32) : FVec Ideal S2048x4608 .bf16 :=
  truncf .bf16 (concatenate S2048x4608 1
    [⟨S2048x1024, extractStridedSlice S2048x1024 ![0, 0] a2 slices_S2048x4616_S2048x1024_0_0⟩,
     ⟨S2048x1024, extractStridedSlice S2048x1024 ![0, 2560] a2 slices_S2048x4616_S2048x1024_0_2560⟩,
     ⟨S2048x1024, extractStridedSlice S2048x1024 ![0, 3584] a2 slices_S2048x4616_S2048x1024_0_3584⟩,
     ⟨S2048x512, extractStridedSlice S2048x512 ![0, 1536] a2 slices_S2048x4616_S2048x512_0_1536⟩,
     ⟨S2048x512, extractStridedSlice S2048x512 ![0, 2048] a2 slices_S2048x4616_S2048x512_0_2048⟩,
     ⟨S2048x256, extractStridedSlice S2048x256 ![0, 1024] a2 slices_S2048x4616_S2048x256_0_1024⟩,
     ⟨S2048x256, extractStridedSlice S2048x256 ![0, 1280] a2 slices_S2048x4616_S2048x256_0_1280⟩]
    concatenates_S2048x1024_S2048x1024_S2048x1024_S2048x512_S2048x512_S2048x256_S2048x256_S2048x4608_d1) bitsLt_bf16_f32

/-- They are the columns the projection's come from. -/
theorem weights_at (a2 : FVec Ideal S2048x4616 .f32) (k : Fin 2048) (l : Fin 4608) :
    WMAIN a2 (ix2 k l) = a2 (ix2 k ⟨ord l.val, ord_lt l.isLt⟩) := by
  pointwise [WMAIN]
  split_ifs <;> exact congrArg a2 (congrArg (ix2 _) (Fin.ext (by simp only [ord]; split_ifs <;> omega)))

end Kernel

end Cert.Even.Spec

namespace Cert.EvenIdeal.Body

open Cert.EvenIdeal Cert.EvenIdeal.Gen Cert.Even.Spec

variable (m : (ℓ : Loc nD τ sig) → Buf (Elt Ideal) ℓ)

/-- Every window's block index at every grid point. -/
theorem idx_val : ∀ t : Fin cfg0.N, win0_0.index t = ![t.val / 3, 0]
    ∧ win0_1.index t = ![0, 0]
    ∧ win0_2.index t = ![0, t.val % 3]
    ∧ win0_3.index t = ![0, t.val % 3]
    ∧ win0_4.index t = ![0, 0]
    ∧ win0_5.index t = ![t.val / 3, t.val % 3]
    ∧ win0_6.index t = ![t.val / 3, 0] :=
  (by decide +kernel : ∀ t : Fin grid0.N, _)

/-- The tokens as the kernel finds them: the argument, its two leading axes merged. -/
theorem entry_x (c : Dev nD) (r : Fin 32768) (k : Fin 2048) :
    (V m c main_v13 : FVec Ideal S32768x2048 .bf16) (ix2 r k)
      = (m ((c : Thread nD τ).loc main_arg0) : FVec Ideal S4x8192x2048 .f32)
          (ix3 ⟨r.val / 8192, by omega⟩ ⟨r.val % 8192, by omega⟩ k) := by
  simp only [V, hostOps0, hostOps0_1, hostOps0_2, List.flatten_cons, List.flatten_nil, List.append_nil, List.cons_append,
    List.nil_append]
  entry_read
  pointwise

/-- The weights as the kernel finds them. -/
theorem entry_eq (c : Dev nD) : V m c main_v9 = WMAIN (m ((c : Thread nD τ).loc main_arg2)) := rfl

/-- An entry of them: the column it comes from. -/
theorem entry_w (c : Dev nD) (k : Fin 2048) (l : Fin 4608) :
    (V m c main_v9 : FVec Ideal S2048x4608 .bf16) (ix2 k l)
      = (m ((c : Thread nD τ).loc main_arg2) : FVec Ideal S2048x4616 .f32) (ix2 k ⟨ord l.val, ord_lt l.isLt⟩) :=
  (congrFun (entry_eq m c) _).trans (weights_at _ k l)

/-- The column scales are ones. -/
theorem entry_s (c : Dev nD) (i : S1x4608.Idx) :
    (V m c main_v14 : FVec Ideal S1x4608 .f32) i = (1 : EReal) := by
  simp only [V, hostOps0, hostOps0_1, hostOps0_2, List.flatten_cons, List.flatten_nil, List.append_nil, List.cons_append,
    List.nil_append]
  entry_read
  pointwise

/-- The gate weights as the kernel finds them: the last 8 columns, then zeros. -/
theorem entry_g (c : Dev nD) (k : Fin 2048) (l : Fin 128) :
    (V m c main_v11 : FVec Ideal S2048x128 .bf16) (ix2 k l)
      = if h : l.val < 8 then (m ((c : Thread nD τ).loc main_arg2) : FVec Ideal S2048x4616 .f32) (ix2 k ⟨4608 + l.val, by omega⟩)
        else (0 : EReal) := by
  simp only [V, hostOps0, hostOps0_1, hostOps0_2, List.flatten_cons, List.flatten_nil, List.append_nil, List.cons_append,
    List.nil_append]
  entry_read
  change (pad S2048x128 ![0, 0] ![0, 120] ![0, 0]
    (extractStridedSlice S2048x8 ![0, 4608] (m (c, Proc.tc.devRef main_arg2) : FVec Ideal S2048x4616 .f32)
      slices_S2048x4616_S2048x8_0_4608)
    (sitofp FTy.f32 (constantI S_ 32 0#32) : FVec Ideal S_ .f32)
    pads_S2048x8_S2048x128_000_01200 h_S_ : FVec Ideal S2048x128 .f32) (ix2 k l) = _
  by_cases h : l.val < 8
  · rw [dif_pos h]
    pointwise
    rw [dif_pos h]
  · rw [dif_neg h]
    pointwise
    rw [dif_neg h]; exact int_zero

/-- The block of tokens a grid point is given. -/
theorem blk_x (c : Dev nD) (t : Fin cfg0.N) (r : Fin 2048) (k : Fin 2048) (R : Fin 32768)
    (hR : R.val = t.val / 3 * 2048 + r.val) :
    (iblk m c 0 t : FVec Ideal S2048x2048 .bf16) (ix2 r k) = (V m c main_v13 : FVec Ideal S32768x2048 .bf16) (ix2 R k) := by
  blk_ext [iblk, idx_val t]

/-- The block of weights a grid point is given. -/
theorem blk_w (c : Dev nD) (t : Fin cfg0.N) (k : Fin 2048) (l : Fin 1536) (L : Fin 4608)
    (hL : L.val = t.val % 3 * 1536 + l.val) :
    (iblk m c 2 t : FVec Ideal S2048x1536 .bf16) (ix2 k l) = (V m c main_v9 : FVec Ideal S2048x4608 .bf16) (ix2 k L) := by
  blk_ext [iblk, idx_val t]

/-- The block of column scales a grid point is given. -/
theorem blk_s (c : Dev nD) (t : Fin cfg0.N) (l : Fin 1536) (L : Fin 4608) (hL : L.val = t.val % 3 * 1536 + l.val) :
    (iblk m c 3 t : FVec Ideal S1x1536 .f32) (ix2 0 l) = (V m c main_v14 : FVec Ideal S1x4608 .f32) (ix2 0 L) := by
  blk_ext [iblk, idx_val t]

/-- The gate weights, whole at every grid point. -/
theorem blk_g (c : Dev nD) (t : Fin cfg0.N) (k : Fin 2048) (l : Fin 128) :
    (iblk m c 4 t : FVec Ideal S2048x128 .bf16) (ix2 k l) = (V m c main_v11 : FVec Ideal S2048x128 .bf16) (ix2 k l) := by
  blk_ext [iblk, idx_val t]

/-- An entry of a block of the projection, in terms of the arguments: row `R`, column `L` of the arrays. -/
theorem core_m (c : Dev nD) (t : Fin cfg0.N) (r : Fin 2048) (l : Fin 1536) (j : S32768x4608.Idx)
    (h0 : (j 0).val = t.val / 3 * 2048 + r.val) (h1 : (j 1).val = t.val % 3 * 1536 + l.val) :
    dot (fun k => (iblk m c 0 t : FVec Ideal S2048x2048 .bf16) (ix2 r k))
        (fun k => (iblk m c 2 t : FVec Ideal S2048x1536 .bf16) (ix2 k l)) * (iblk m c 3 t : FVec Ideal S1x1536 .f32) (ix2 0 l)
      = MAIN (m ((c : Thread nD τ).loc main_arg0)) (m ((c : Thread nD τ).loc main_arg2)) j := by
  rw [blk_s m c t l (j 1) h1, entry_s]
  refine (mul_one _).trans (Eq.trans ?_ (main_at_idx _ _ j).symm)
  exact dot_congr (fun k => (blk_x m c t r k (j 0) h0).trans (entry_x m c (j 0) k))
    (fun k => (blk_w m c t k l (j 1) h1).trans (entry_w m c k (j 1)))

/-- An entry of a block of the gates, in terms of the arguments. -/
theorem core_g (c : Dev nD) (t : Fin cfg0.N) (r : Fin 2048) (l : Fin 128) (j : S32768x128.Idx)
    (h0 : (j 0).val = t.val / 3 * 2048 + r.val) (h1 : j 1 = l) :
    dot (fun k => (iblk m c 0 t : FVec Ideal S2048x2048 .bf16) (ix2 r k))
        (fun k => (iblk m c 4 t : FVec Ideal S2048x128 .bf16) (ix2 k l))
      = GATES (m ((c : Thread nD τ).loc main_arg0)) (m ((c : Thread nD τ).loc main_arg2)) j := by
  subst h1
  refine Eq.trans ?_ (gates_at_idx _ _ j).symm
  refine (dot_congr (fun k => (blk_x m c t r k (j 0) h0).trans (entry_x m c (j 0) k))
    (fun k => (blk_g m c t k (j 1)).trans (entry_g m c k (j 1)))).trans ?_
  by_cases h : (j 1).val < 8
  · simp only [dif_pos h]
  · simp only [dif_neg h]; exact dot_zero _

/-- What an opening point stores of the projection is the reference at the array index it sits at, -/
theorem point5_open (c : Dev nD) (t : Fin cfg0.N) (h : t.val % 3 = 0) (y) :
    out5_open m c t h y
      = MAIN (m ((c : Thread nD τ).loc main_arg0)) (m ((c : Thread nD τ).loc main_arg2)) (((cfg0.win 5).blk t).view.emb y) := by
  unfold out5_open atOpen
  frame_out
  canon_tiles x h
  · idx_vars x
    refine (pay3_at _ _ _ _ _).trans ?_
    pointwise
    refine core_m m c t ⟨1024 + x0.val, by omega⟩ x1 _ ?_ ?_
    all_goals (blk_simp [idx_val t] <;> (dsimp only; omega))
  · idx_vars x
    refine (pay2_at _ _ _ _ _).trans ?_
    pointwise
    refine core_m m c t ⟨x0.val, by omega⟩ x1 _ ?_ ?_
    all_goals (blk_simp [idx_val t] <;> (dsimp only; omega))

/-- and what any other stores. -/
theorem point5_on (c : Dev nD) (t : Fin cfg0.N) (h : ¬t.val % 3 = 0) (y) :
    out5_on m c t h y
      = MAIN (m ((c : Thread nD τ).loc main_arg0)) (m ((c : Thread nD τ).loc main_arg2)) (((cfg0.win 5).blk t).view.emb y) := by
  unfold out5_on atOn
  frame_out
  canon_tiles x h
  · idx_vars x
    refine (pay3_at _ _ _ _ _).trans ?_
    pointwise
    refine core_m m c t ⟨1024 + x0.val, by omega⟩ x1 _ ?_ ?_
    all_goals (blk_simp [idx_val t] <;> (dsimp only; omega))
  · idx_vars x
    refine (pay2_at _ _ _ _ _).trans ?_
    pointwise
    refine core_m m c t ⟨x0.val, by omega⟩ x1 _ ?_ ?_
    all_goals (blk_simp [idx_val t] <;> (dsimp only; omega))

/-- What an opening point stores of the gates is the reference at the array index it sits at. -/
theorem point6 (c : Dev nD) (t : Fin cfg0.N) (h : t.val % 3 = 0) (y) :
    out6_open m c t h y
      = GATES (m ((c : Thread nD τ).loc main_arg0)) (m ((c : Thread nD τ).loc main_arg2)) (((cfg0.win 6).blk t).view.emb y) := by
  unfold out6_open atOpen
  frame_out
  idx_vars y
  refine (pay1_at _ _ _ _).trans ?_
  refine core_g m c t y0 y1 _ ?_ ?_
  · blk_simp [idx_val t] <;> (dsimp only; omega)
  · refine Fin.ext ?_
    blk_simp [idx_val t] <;> (dsimp only; omega)

/-- The projection after the run is the reference's. -/
theorem final_5 (c : Dev nD) : (dats m 0 c).arrAt 5 (cfgs 0).N
    = MAIN (m ((c : Thread nD τ).loc main_arg0)) (m ((c : Thread nD τ).loc main_arg2)) := by
  refine (dats m 0 c).arrAt_eq_of_covers 5 _ (by decide +kernel) fun t hf y => ?_
  blk_simp; rw [after_5]
  unfold out5
  by_cases h : t.val % 3 = 0
  · rw [dif_pos h]; exact point5_open m c t h y
  · rw [dif_neg h]; exact point5_on m c t h y

/-- A row block's points write the gates back to one block of the array. -/
theorem blk6_opener (t : Fin cfg0.N) (y) :
    ((cfg0.win 6).blk (opener t)).view.emb y = ((cfg0.win 6).blk t).view.emb y := by
  idx_vars y
  refine funext fun a => ?_
  fin_cases a
  · refine Fin.ext ?_
    blk_simp [idx_val t, idx_val (opener t)] <;> (dsimp only [opener]; omega)
  · refine Fin.ext ?_
    blk_simp [idx_val t, idx_val (opener t)] <;> (dsimp only [opener]; omega)

/-- The gates after the run are the reference's. -/
theorem final_6 (c : Dev nD) : (dats m 0 c).arrAt 6 (cfgs 0).N
    = GATES (m ((c : Thread nD τ).loc main_arg0)) (m ((c : Thread nD τ).loc main_arg2)) := by
  refine (dats m 0 c).arrAt_eq_of_covers 6 _ (by decide +kernel) fun t hf y => ?_
  blk_simp; rw [after_6]
  refine (point6 m c (opener t) (opener_opens t) y).trans ?_
  rw [blk6_opener]

end Cert.EvenIdeal.Body

end
-- ==== Proof.Even.Claims.lean ====
/- Hand-written: the claims about the input projection of the even layers. -/
module

public import proofs.«01_k».proof.Defs
public import proofs.«01_k».proof.Proof.Even.BitsFrame
public import proofs.«01_k».proof.Proof.Gen.EvenRefIdeal.Run
public import proofs.«01_k».proof.Proof.Even.Value
public import Idealize.ShloMosaic.Lib.Quiescent

@[expose] public section

noncomputable section

namespace Cert.Proof

open Idealize.ShloMosaic Idealize.ShloMosaic.TcCoe Idealize.SL.Sem

/-- The kernel at its machine formats terminates without a fault and keeps its arguments. -/
theorem frame_Even : Cert.quiescent_Even (hEven := Cert.Even.Gen.facts) :=
  fun m g _ => Cert.Even.Body.frame_run m g

/-- The idealized kernel terminates without a fault and keeps its arguments. -/
theorem frame_EvenIdeal : Cert.quiescent_EvenIdeal (hEvenIdeal := Cert.EvenIdeal.Gen.facts) :=
  fun m g _ => Cert.EvenIdeal.Body.frame_run m g

/-- The reference terminates without a fault and keeps its arguments. -/
theorem frame_EvenRefIdeal : Cert.quiescent_EvenRefIdeal (hEvenRefIdeal := Cert.EvenRefIdeal.Gen.facts) :=
  fun m g _ => (θ_run Cert.EvenRefIdeal.defs _ _).mono
    (fun r h => ⟨fun c => (h c).2.2, Idealize.ShloMosaic.sem_eq_zero_of_no_sems (by decide) r.2⟩)
    (Cert.EvenRefIdeal.Value.run (F := Ideal) m g)

/-- From memories that agree on the arguments, kernel and reference end with equal results. -/
theorem algebraic_Even : Cert.algebraic_EvenIdeal_EvenRefIdeal (hEvenIdeal := Cert.EvenIdeal.Gen.facts) (hEvenRefIdeal := Cert.EvenRefIdeal.Gen.facts) := by
  intro m g m' g' _ hagree
  refine ⟨_, _, Cert.EvenIdeal.Body.run_results (F := Ideal) m g, ?_⟩
  refine (θ_run Cert.EvenRefIdeal.defs _ _).mono (fun _ h c => ⟨(h c).1.trans ?_, (h c).2.1.trans ?_, (h c).2.2⟩)
    (Cert.EvenRefIdeal.Value.run (F := Ideal) m' g')
  · rw [(hagree c).1, (hagree c).2.2]
    exact (Cert.EvenIdeal.Body.final_5 m c).symm
  · rw [(hagree c).1, (hagree c).2.2]
    exact (Cert.EvenIdeal.Body.final_6 m c).symm

end Cert.Proof

end
-- ==== Proof.First.IdealRuns.lean ====
/- The body of the first layer's input projection, executed: once at a grid point that opens a row block of tokens (there the
   normed rows go into the scratch buffer and the gates are stored), once at any other (there the normed rows are read). Also
   what the pipeline hands the body. -/
module

public import proofs.«01_k».proof.Proof.Gen.FirstIdeal.Launch
public import proofs.«01_k».proof.Proof.Gen.FirstIdeal.Skeleton
public import proofs.«01_k».proof.Proof.Gen.FirstIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.FirstIdeal.Body

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the assertions are over. -/
abbrev Res (F : FTy → Type) := MT nD τ sig Unit (Elt F) ℕ (UR sig nD τ) ℕ

variable (m : (ℓ : Loc nD τ sig) → Buf (Elt F) ℓ) (ρ : Dev nD → PrngReg)

/-! ## The host operations before the call -/

/-- What core `c`'s buffer `b` holds when the call begins. -/
abbrev V (c : Dev nD) (b : Ref sig .tc) : Buf (Elt F) ((c : Thread nD τ).loc b) :=
  StableHlo.after (List.flatten [hostOps0, hostOps0_1, hostOps0_2]) (fun b => m (c, b)) b

/-- The first line of host operations allocates nothing. -/
theorem fresh0 : (hostOps0 : List (HloOp τ sig (Elt F))).Forall fun op => op.fresh = ∅ := by
  simp only [List.Forall]; repeat' constructor
/-- Nor does the second, -/
theorem fresh1 : (hostOps0_1 : List (HloOp τ sig (Elt F))).Forall fun op => op.fresh = ∅ := by
  simp only [List.Forall]; repeat' constructor
/-- nor the third. -/
theorem fresh2 : (hostOps0_2 : List (HloOp τ sig (Elt F))).Forall fun op => op.fresh = ∅ := by
  simp only [List.Forall]; repeat' constructor

set_option maxHeartbeats 800000 in
/-- The program is the host operations, then the call. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

/-- The call finds the tokens as they were given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      StableHlo.binaryIndexed_writes, Finset.mem_singleton]
    repeat' apply And.intro
    all_goals exact StableHlo.devRef_ne_of_ne (by decide)))
/-- It finds the norm's gain as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      StableHlo.binaryIndexed_writes, Finset.mem_singleton]
    repeat' apply And.intro
    all_goals exact StableHlo.devRef_ne_of_ne (by decide)))
/-- It finds the weights as they were given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.nary_writes,
      StableHlo.binaryIndexed_writes, Finset.mem_singleton]
    repeat' apply And.intro
    all_goals exact StableHlo.devRef_ne_of_ne (by decide)))

/-- Window `w`'s block at point `t`, read off its array as the call finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## Where the gates are stored -/

/-- The body's condition: the inner grid index is zero. -/
abbrev opens (i : grid0.Coords) : Prop := k0_cond1 i = 1#1

/-- It holds at every third point. -/
theorem opens_iff : ∀ t : Fin cfg0.N, opens (grid0.coords t) ↔ t.val % 3 = 0 :=
  (fun t => by
    have ht : t.val < 96 := Nat.lt_of_lt_of_eq t.isLt N_0
    have e0 : (grid0.coords t 0).val = t.val / 3 % 32 := Pipeline.Grid.coords_val t 0 (by decide) rfl
    have e1 : (grid0.coords t 1).val = t.val / 1 % 3 := Pipeline.Grid.coords_val t 1 (by decide) rfl
    simp only [opens, k0_cond1, e0, e1]
    word_cmp
   : ∀ t : Fin grid0.N, opens (grid0.coords t) ↔ t.val % 3 = 0)

/-- The gates' window is live where a row block opens. -/
theorem live6 : ∀ t : Fin cfg0.N, opens (grid0.coords t) → cfg0.idle 6 (grid0.coords t) = false := by decide +kernel

/-- Whether the gates' buffer is yet unwritten at a point: it is where a row block opens. -/
def unwritten : ℕ → Bool
  | 0 => true
  | n + 1 => (0x924924924924924924924924 : ℕ).testBit n

/-- `unwritten` follows the pipeline's own step. -/
theorem unwritten_step : ∀ t : Fin cfg0.N,
    unwritten (t.val + 1) = ((cfg0.win 6).flush t || (cfg0.idle 6 (cfg0.grid.coords t) && unwritten t.val)) := by
  decide +kernel

/-- So away from a row block's opening the gates' buffer is written. -/
theorem written6 : ∀ t : Fin cfg0.N, ¬opens (grid0.coords t) → cfg0.fresh 6 t.val = false := by
  intro t
  rw [Pipeline.Cfg.fresh_tab cfg0 6 unwritten rfl unwritten_step t.val (Nat.le_of_lt t.isLt)]
  revert t; decide +kernel

/-! ## The staging buffers at a point -/

/-- The buffer the main result's contents are stated through. -/
abbrev VO5 : View sig .tc .vmem S1024x1536 .bf16 := (Memref.whole cc0_stg5_0 : Memref sig .tc .vmem S1024x1536 .bf16).view
/-- The buffer the gates' contents are stated through. -/
abbrev VO6 : View sig .tc .vmem S1024x128 .f32 := (Memref.whole cc0_stg6_0 : Memref sig .tc .vmem S1024x128 .f32).view
/-- The buffer the normed rows are kept in. -/
abbrev scr : Memref sig .tc .vmem S1024x2048 .bf16 := Memref.whole cc0_scratch0
/-- And its contents' view. -/
abbrev VS : View sig .tc .vmem S1024x2048 .bf16 := scr.view

/-- The tokens' buffer at point `t`, whole. -/
abbrev b0 (t : Fin cfg0.N) : Memref sig .tc .vmem S1024x2048 .f32 := win0_0.stage (cfg0.slots t 0)
abbrev w0 (t : Fin cfg0.N) : (b0 t).IsWhole := hstage0_0 ((cfg0.slots t 0).cast nbuf0_0)
/-- The gain's. -/
abbrev b1 (t : Fin cfg0.N) : Memref sig .tc .vmem S1x2048 .f32 := win0_1.stage (cfg0.slots t 1)
abbrev w1 (t : Fin cfg0.N) : (b1 t).IsWhole := hstage0_1 ((cfg0.slots t 1).cast nbuf0_1)
/-- The weights'. -/
abbrev b2 (t : Fin cfg0.N) : Memref sig .tc .vmem S2048x1536 .bf16 := win0_2.stage (cfg0.slots t 2)
abbrev w2 (t : Fin cfg0.N) : (b2 t).IsWhole := hstage0_2 ((cfg0.slots t 2).cast nbuf0_2)
/-- The column scales'. -/
abbrev b3 (t : Fin cfg0.N) : Memref sig .tc .vmem S1x1536 .f32 := win0_3.stage (cfg0.slots t 3)
abbrev w3 (t : Fin cfg0.N) : (b3 t).IsWhole := hstage0_3 ((cfg0.slots t 3).cast nbuf0_3)
/-- The gate weights'. -/
abbrev b4 (t : Fin cfg0.N) : Memref sig .tc .vmem S2048x128 .bf16 := win0_4.stage (cfg0.slots t 4)
abbrev w4 (t : Fin cfg0.N) : (b4 t).IsWhole := hstage0_4 ((cfg0.slots t 4).cast nbuf0_4)
/-- The main result's. -/
abbrev b5 (t : Fin cfg0.N) : Memref sig .tc .vmem S1024x1536 .bf16 := win0_5.stage (cfg0.slots t 5)
abbrev w5 (t : Fin cfg0.N) : (b5 t).IsWhole := hstage0_5 ((cfg0.slots t 5).cast nbuf0_5)
/-- The gates'. -/
abbrev b6 (t : Fin cfg0.N) : Memref sig .tc .vmem S1024x128 .f32 := win0_6.stage (cfg0.slots t 6)
abbrev w6 (t : Fin cfg0.N) : (b6 t).IsWhole := hstage0_6 ((cfg0.slots t 6).cast nbuf0_6)

/-! ## The body, executed -/

section

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S2048x1536 .bf16) (harg4 : arg4.IsWhole)
  (arg5 : Memref sig .tc .vmem S1x1536 .f32) (harg5 : arg5.IsWhole)
  (arg6 : Memref sig .tc .vmem S2048x128 .bf16) (harg6 : arg6.IsWhole)
  (arg7 : Memref sig .tc .vmem S1024x1536 .bf16) (harg7 : arg7.IsWhole)
  (arg8 : Memref sig .tc .vmem S1024x128 .f32) (harg8 : arg8.IsWhole)
  (arg9 : Memref sig .tc .vmem S1024x2048 .bf16) (harg9 : arg9.IsWhole)
  (x : Vec F S1024x2048 .f32) (gn : Vec F S1x2048 .f32) (wt : Vec F S2048x1536 .bf16) (cs : Vec F S1x1536 .f32)
  (wg : Vec F S2048x128 .bf16) (xn : Vec F S1024x2048 .bf16)

set_option maxHeartbeats 1000000 in
/-- Where a row block opens: from the tokens', the gain's, the weights', the scales' and the gate weights' buffers the body
    runs to the same, with the pieces it stored written to the two results' buffers and to the scratch buffer. -/
def runOpen (hc : opens i) :
    Σ' (L5 : List (View.Piece (Elt F) S1024x1536 .bf16)) (L6 : List (View.Piece (Elt F) S1024x128 .f32)),
      { L9 : List (View.Piece (Elt F) S1024x2048 .bf16) //
      ∀ (E : Set ℕ) (K : PUnit → sProp (Res F)),
        iprop(owns (c : Thread nD τ) arg2 fullShare x ∗ owns (c : Thread nD τ) arg3 fullShare gn
            ∗ owns (c : Thread nD τ) arg4 fullShare wt
            ∗ owns (c : Thread nD τ) arg5 fullShare cs ∗ owns (c : Thread nD τ) arg6 fullShare wg
            ∗ (∃ d, owns (c : Thread nD τ) arg7 fullShare d) ∗ (∃ d, owns (c : Thread nD τ) arg8 fullShare d)
            ∗ (∃ d, owns (c : Thread nD τ) arg9 fullShare d)
            ∗ (iprop(owns (c : Thread nD τ) arg2 fullShare x ∗ owns (c : Thread nD τ) arg3 fullShare gn
                ∗ owns (c : Thread nD τ) arg4 fullShare wt
                ∗ owns (c : Thread nD τ) arg5 fullShare cs ∗ owns (c : Thread nD τ) arg6 fullShare wg
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L9))
              -∗ K ⟨⟩))
          ⊢ wp frame (wpE (defs₀ (F := F)) Variants.none c none) E
              (cc0_norm_proj i arg2 harg2 arg3 harg3 arg4 harg4 arg5 harg5 arg6 harg6 arg7 harg7 arg8 harg8 arg9 harg9) K } := by
  refine ⟨?_, ?_, ?_, fun E K => ?run⟩
  case run =>
    simp only [cc0_norm_proj_eq_skeleton]; unfold cc0_norm_proj_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf2; obtain rfl := harg3.eq_unread hf3; obtain rfl := harg4.eq_unread hf4
    obtain rfl := harg5.eq_unread hf5; obtain rfl := harg6.eq_unread hf6
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

set_option maxHeartbeats 1000000 in
/-- Elsewhere from the normed rows in the scratch buffer, which it leaves there; the gates' buffer it does not touch. -/
def runOn (hc : ¬opens i) :
    { L5 : List (View.Piece (Elt F) S1024x1536 .bf16) //
      ∀ (E : Set ℕ) (K : PUnit → sProp (Res F)),
        iprop(owns (c : Thread nD τ) arg4 fullShare wt
            ∗ owns (c : Thread nD τ) arg5 fullShare cs ∗ (∃ d, owns (c : Thread nD τ) arg7 fullShare d)
            ∗ owns (c : Thread nD τ) arg9 fullShare xn
            ∗ (iprop(owns (c : Thread nD τ) arg4 fullShare wt
                ∗ owns (c : Thread nD τ) arg5 fullShare cs
                ∗ (∃ f, arg7.view.loc (c : Thread nD τ) ↦[arg7.view.set]{fullShare} arg7.view.writes (Elt F) f L5)
                ∗ owns (c : Thread nD τ) arg9 fullShare xn)
              -∗ K ⟨⟩))
          ⊢ wp frame (wpE (defs₀ (F := F)) Variants.none c none) E
              (cc0_norm_proj i arg2 harg2 arg3 harg3 arg4 harg4 arg5 harg5 arg6 harg6 arg7 harg7 arg8 harg8 arg9 harg9) K } := by
  refine ⟨?_, fun E K => ?run⟩
  case run =>
    simp only [cc0_norm_proj_eq_skeleton]; unfold cc0_norm_proj_skel
    unfold owns
    iintro ⟨⟨%f4, %hf4, H4⟩, ⟨%f5, %hf5, H5⟩, ⟨%d7, %f7, -, H7⟩, ⟨%f9, %hf9, H9⟩, Hk⟩
    obtain rfl := harg4.eq_unread hf4; obtain rfl := harg5.eq_unread hf5; obtain rfl := harg9.eq_unread hf9
    sl_exec (disch := sl_exact hc)
    sl_step
    iapply Hk
    isplitl [H4]
    · iexists _; isplitr; · ipureintro; exact harg4.read_unread _
      iexact H4
    isplitl [H5]
    · iexists _; isplitr; · ipureintro; exact harg5.read_unread _
      iexact H5
    isplitl [H7]; · iexists _; iexact H7
    iexists _; isplitr; · ipureintro; exact harg9.read_unread _
    iexact H9

end

end Cert.FirstIdeal.Body

end
-- ==== Proof.First.IdealFrame.lean ====
/- What the first layer's input projection leaves in its buffers at every grid point, and its frame. The normed rows of a row
   block are put into the scratch buffer at the block's first point and read at every point of it; the gates are stored at the
   first point, left alone at the next two, and written back after the last. -/
module

public import proofs.«01_k».proof.Proof.First.IdealRuns

@[expose] public section

set_option maxRecDepth 16384

noncomputable section

namespace Cert.FirstIdeal.Body

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## What a point leaves -/

/-- The body's run at a point that opens a row block. -/
abbrev atOpen (c : Dev nD) (t : Fin cfg0.N) (h : t.val % 3 = 0) :=
  runOpen (F := F) c (grid0.coords t) (b0 t) (w0 t) (b1 t) (w1 t) (b2 t) (w2 t) (b3 t) (w3 t) (b4 t) (w4 t) (b5 t) (w5 t)
    (b6 t) (w6 t) scr (Memref.isWhole_whole _) (iblk m c 0 t) (iblk m c 1 t) (iblk m c 2 t) (iblk m c 3 t) (iblk m c 4 t)
    ((opens_iff t).mpr h)

/-- The store of the normed rows fills the scratch buffer. -/
theorem cover9 (c : Dev nD) (t : Fin cfg0.N) (h : t.val % 3 = 0) (y : S1024x2048.Idx) :
    ∃ pc ∈ (atOpen m c t h).2.2.1, y ∈ pc.1.set :=
  View.cover_of_tiledL (atOpen m c t h).2.2.1 S1024x2048.size (by sl_kernel_rfl) y

/-- The normed rows as an opening point leaves them. -/
def rows_open (c : Dev nD) (t : Fin cfg0.N) (h : t.val % 3 = 0) : Vec F S1024x2048 .bf16 :=
  VS.read (Elt F) (VS.writes (Elt F) VS.junk (atOpen m c t h).2.2.1)

/-- The point that opened the row block `t` lies in. -/
def opener (t : Fin cfg0.N) : Fin cfg0.N := ⟨t.val - t.val % 3, Nat.lt_of_le_of_lt (Nat.sub_le _ _) t.isLt⟩

/-- It is an opening point. -/
theorem opener_opens (t : Fin cfg0.N) : (opener t).val % 3 = 0 := by
  show (t.val - t.val % 3) % 3 = 0; omega

/-- An opening point is its own. -/
theorem opener_self (t : Fin cfg0.N) (h : t.val % 3 = 0) : opener t = t := Fin.ext (by
  show t.val - t.val % 3 = t.val; omega)

/-- Any other shares its with the point before. -/
theorem opener_pred (t : Fin cfg0.N) (h : ¬t.val % 3 = 0) (h' : t.val - 1 < cfg0.N) :
    opener ⟨t.val - 1, h'⟩ = opener t := Fin.ext (by
  show t.val - 1 - (t.val - 1) % 3 = t.val - t.val % 3; omega)

/-- The normed rows after any point: as the row block's opening point left them. -/
def rows (c : Dev nD) (t : Fin cfg0.N) : Vec F S1024x2048 .bf16 := rows_open m c (opener t) (opener_opens t)

/-- So they depend on the opening point alone, -/
theorem rows_congr (c : Dev nD) {s t : Fin cfg0.N} (h : opener s = opener t) : rows m c s = rows m c t := by
  unfold rows; congr 1

/-- and at an opening point are what that point leaves. -/
theorem rows_at (c : Dev nD) (t : Fin cfg0.N) (h : t.val % 3 = 0) : rows m c t = rows_open m c t h := by
  unfold rows; congr 1; exact opener_self t h

/-- The body's run at any other point. -/
abbrev atOn (c : Dev nD) (t : Fin cfg0.N) (h : ¬t.val % 3 = 0) :=
  runOn (F := F) c (grid0.coords t) (b0 t) (w0 t) (b1 t) (w1 t) (b2 t) (w2 t) (b3 t) (w3 t) (b4 t) (w4 t) (b5 t) (w5 t)
    (b6 t) (w6 t) scr (Memref.isWhole_whole _) (iblk m c 2 t) (iblk m c 3 t) (rows m c t)
    (fun h' => h ((opens_iff t).mp h'))

/-- The two stores of the main result fill its block, at an opening point -/
theorem cover5_open (c : Dev nD) (t : Fin cfg0.N) (h : t.val % 3 = 0) (y : S1024x1536.Idx) :
    ∃ pc ∈ (atOpen m c t h).1, y ∈ pc.1.set :=
  View.cover_of_tiledL (atOpen m c t h).1 S1024x1536.size (by sl_kernel_rfl) y

/-- and at any other. -/
theorem cover5_on (c : Dev nD) (t : Fin cfg0.N) (h : ¬t.val % 3 = 0) (y : S1024x1536.Idx) :
    ∃ pc ∈ (atOn m c t h).1, y ∈ pc.1.set :=
  View.cover_of_tiledL (atOn m c t h).1 S1024x1536.size (by sl_kernel_rfl) y

/-- The store of the gates fills theirs. -/
theorem cover6 (c : Dev nD) (t : Fin cfg0.N) (h : t.val % 3 = 0) (y : S1024x128.Idx) :
    ∃ pc ∈ (atOpen m c t h).2.1, y ∈ pc.1.set :=
  View.cover_of_tiledL (atOpen m c t h).2.1 S1024x128.size (by sl_kernel_rfl) y

/-- The main result's block as an opening point leaves it, -/
def out5_open (c : Dev nD) (t : Fin cfg0.N) (h : t.val % 3 = 0) : Vec F S1024x1536 .bf16 :=
  VO5.read (Elt F) (VO5.writes (Elt F) VO5.junk (atOpen m c t h).1)

/-- and as any other leaves it. -/
def out5_on (c : Dev nD) (t : Fin cfg0.N) (h : ¬t.val % 3 = 0) : Vec F S1024x1536 .bf16 :=
  VO5.read (Elt F) (VO5.writes (Elt F) VO5.junk (atOn m c t h).1)

/-- The main result's block as a point leaves it. -/
def out5 (c : Dev nD) (t : Fin cfg0.N) : Vec F S1024x1536 .bf16 :=
  if h : t.val % 3 = 0 then out5_open m c t h else out5_on m c t h

/-- The gates' block as an opening point leaves it. -/
def out6_open (c : Dev nD) (t : Fin cfg0.N) (h : t.val % 3 = 0) : Vec F S1024x128 .f32 :=
  VO6.read (Elt F) (VO6.writes (Elt F) VO6.junk (atOpen m c t h).2.1)

/-- The gates' block after any point: as the row block's opening point left it. -/
def out6 (c : Dev nD) (t : Fin cfg0.N) : Vec F S1024x128 .f32 := out6_open m c (opener t) (opener_opens t)

/-- So it depends on the opening point alone, -/
theorem out6_congr (c : Dev nD) {s t : Fin cfg0.N} (h : opener s = opener t) : out6 m c s = out6 m c t := by
  unfold out6; congr 1

/-- and at an opening point is what that point leaves. -/
theorem out6_at (c : Dev nD) (t : Fin cfg0.N) (h : t.val % 3 = 0) : out6 m c t = out6_open m c t h := by
  unfold out6; congr 1; exact opener_self t h

/-! ## The proof data -/

/-- What the pipeline leaves besides the windows: the scratch buffer and the generator's state. -/
theorem rest_eq (c : Dev nD) :
    (Pipeline.ΦA spec0 c : sProp (Res F))
      = iprop(iprop((∃ d, owns (c : Thread nD τ) scr fullShare d)) ∗ (∃ r, prngReg c r)) := by
  unfold Pipeline.ΦA; rw [scopedRest0_eq]; simp only [scr, owns_whole]; try rfl

/-- What holds between the points: before the first the scratch buffer at anything, after a point at the normed rows of its
    row block. -/
def between (c : Dev nD) : (n : ℕ) → n ≤ cfg0.N → sProp (Res F)
  | 0, _ => Pipeline.ΦA spec0 c
  | n + 1, hn => iprop(iprop(owns (c : Thread nD τ) scr fullShare (rows m c ⟨n, hn⟩)) ∗ (∃ r, prngReg c r))

/-- After a point. -/
theorem between_succ (c : Dev nD) (n : ℕ) (hn : n < cfg0.N) :
    between m c (n + 1) hn
      = iprop(iprop(owns (c : Thread nD τ) scr fullShare (rows m c ⟨n, hn⟩)) ∗ (∃ r, prngReg c r)) := rfl

/-- Before a point that is not the first. -/
theorem between_pos (c : Dev nD) (n : ℕ) (h : n ≤ cfg0.N) (hz : n ≠ 0) :
    between m c n h
      = iprop(iprop(owns (c : Thread nD τ) scr fullShare (rows m c ⟨n - 1, by omega⟩)) ∗ (∃ r, prngReg c r)) := by
  cases n with
  | zero => exact absurd rfl hz
  | succ n => rfl

/-- The scratch buffer's contents may always be forgotten. -/
theorem between_rest (c : Dev nD) (n : ℕ) (h : n ≤ cfg0.N) :
    between m c n h ⊢ iprop(iprop((∃ d, owns (c : Thread nD τ) scr fullShare d)) ∗ (∃ r, prngReg c r)) := by
  cases n with
  | zero =>
    rw [← rest_eq]
    exact Idealize.SL.BI.Entails.refl _
  | succ n =>
    rw [between_succ]
    iintro ⟨Hs, Hg⟩
    isplitl [Hs]
    · iexists _; iexact Hs
    iexact Hg

/-- The arrays as the call finds them; after each point the inputs' buffers at their blocks and the results' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
  Φ t := between m c t.val (Nat.le_of_lt_succ t.isLt)
  q _ := fullShare
  owed _ := 0

/-- The arrays of the proof data. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = out5 m c t := by dsimp only [dats]
theorem after_6 (c : Dev nD) (t : Fin cfg0.N) : (dats m 0 c).after 6 t = out6 m c t := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]) t d).trans
    (by unfold Dat.fetched Dat.blockOf iblk; rw [A_eq]; try rfl)

/-- Away from a row block's opening the gates' buffer holds what the opening point left. -/
theorem before_6 (c : Dev nD) (t : Fin cfg0.N) (h : ¬t.val % 3 = 0) (d) : (dats m 0 c).before 6 t d = out6 m c t := by
  have carry : ∀ (s : Fin cfg0.N) (_ : s.val ≠ 0), cfg0.idle 6 (grid0.coords s) = true → cfg0.fresh 6 s.val = false →
      (dats m 0 c).after 6 s = (dats m 0 c).after 6 ⟨s.val - 1, by omega⟩ := by
    intro s _ hi _
    rw [after_6, after_6]
    by_cases hs : s.val % 3 = 0
    · rw [live6 s ((opens_iff s).mpr hs)] at hi
      exact absurd hi Bool.false_ne_true
    · exact out6_congr m c (opener_pred s hs _).symm
  rw [Dat.before_out_traj _ 6 rfl (fun _ _ => rfl) carry t.val t rfl d,
    if_neg (by rw [written6 t (fun h' => h ((opens_iff t).mp h'))]; exact Bool.false_ne_true), after_6]
  exact out6_congr m c (opener_pred t h _)

/-- So left alone it is as the pipeline wants it. -/
theorem leaves_6 (c : Dev nD) (t : Fin cfg0.N) (h : ¬t.val % 3 = 0) (d) :
    owns (c : Thread nD τ) (b6 t) fullShare ((dats m 0 c).before 6 t d) ⊢ ((dats m 0 c).leavesExact 6 t : sProp (Res F)) := by
  have now : owns (c : Thread nD τ) (b6 t) fullShare ((dats m 0 c).before 6 t d)
      ⊢ (owns (c : Thread nD τ) (b6 t) fullShare ((dats m 0 c).after 6 t) : sProp (Res F)) := by
    rw [before_6 m c t h d, after_6]
  unfold Dat.leavesExact
  cases cfg0.idle 6 (cfg0.grid.coords t)
  · exact now
  · cases (cfg0.win 6).flush t
    · iintro H; iexists d; iexact H
    · exact now

/-! ## The body at a point -/

/-- What holds before a point, stated at the point. -/
theorem between_at (c : Dev nD) (t : Fin cfg0.N) :
    (dats m 0 c).Φ t.castSucc = between m c t.val (Nat.le_of_lt t.isLt) := by
  dsimp only [dats]; exact Pipeline.Dat.Φ_castSucc (between m c) t

/-- What the body is handed at point `t`. -/
def bodyPre (c : Dev nD) (t : Fin cfg0.N) : sProp (Res F) :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d)))

/-- What it hands back. -/
def bodyPost (c : Dev nD) (t : Fin cfg0.N) : sProp (Res F) :=
  iprop((dats m 0 c).Φ t.succ ∗ (dats m 0 c).owesAt () t.succ
    ∗ owns (c : Thread nD τ) (b0 t) fullShare (iblk m c 0 t)
    ∗ owns (c : Thread nD τ) (b1 t) fullShare (iblk m c 1 t)
    ∗ owns (c : Thread nD τ) (b2 t) fullShare (iblk m c 2 t)
    ∗ owns (c : Thread nD τ) (b3 t) fullShare (iblk m c 3 t)
    ∗ owns (c : Thread nD τ) (b4 t) fullShare (iblk m c 4 t)
    ∗ owns (c : Thread nD τ) (b5 t) fullShare (out5 m c t)
    ∗ (dats m 0 c).leavesExact 6 t)

set_option maxHeartbeats 1600000 in
/-- The body at a point: by the run of its case, the buffers it does not touch carried along. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    show (dats m 0 c).Φ t.succ = between m c (t.val + 1) t.isLt from rfl, between_succ, between_at]
  by_cases h : t.val % 3 = 0
  · rw [show (dats m 0 c).leavesExact 6 t = owns (c : Thread nD τ) (b6 t) fullShare (out6_open m c t h) from by
      unfold Dat.leavesExact; rw [live6 t ((opens_iff t).mpr h), after_6, out6_at m c t h]]
    rw [show out5 m c t = out5_open m c t h from dif_pos h, show rows m c ⟨t.val, t.isLt⟩ = rows_open m c t h from rows_at m c t h]
    unfold out5_open out6_open rows_open
    iintro ⟨Hr, Ho, ⟨%d0, H0⟩, ⟨%d1, H1⟩, ⟨%d2, H2⟩, ⟨%d3, H3⟩, ⟨%d4, H4⟩, ⟨%d5, H5⟩, ⟨%d6, H6⟩⟩
    ihave Hr := (between_rest m c t.val (Nat.le_of_lt t.isLt)) $$ Hr
    icases Hr with ⟨Hs, Hg⟩
    iapply ((atOpen m c t h).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexact Hs
    iintro ⟨H0, H1, H2, H3, H4, ⟨%e5, H5⟩, ⟨%e6, H6⟩, ⟨%e9, H9⟩⟩
    isplitl [H9 Hg]
    · isplitl [H9]
      · unfold owns; iexists _; isplitr
        swap; · iexact H9
        ipureintro; exact View.read_writes_of_cover _ _ _ _ _ (cover9 m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_open m c t h)
    unfold owns; iexists _; isplitr
    swap; · iexact H6
    ipureintro; exact View.read_writes_of_cover _ _ _ _ _ (cover6 m c t h)
  · have hz : t.val ≠ 0 := fun e => h (by omega)
    rw [show out5 m c t = out5_on m c t h from dif_neg h, between_pos m c t.val _ hz,
      rows_congr m c (opener_pred t h _)]
    unfold out5_on
    iintro ⟨⟨Hs, Hg⟩, Ho, ⟨%d0, H0⟩, ⟨%d1, H1⟩, ⟨%d2, H2⟩, ⟨%d3, H3⟩, ⟨%d4, H4⟩, ⟨%d5, H5⟩, ⟨%d6, H6⟩⟩
    ihave H6 := (leaves_6 m c t h d6) $$ H6
    iapply ((atOn m c t h).2 Set.univ _)
    isplitl [H2]; · iexact H2
    isplitl [H3]; · iexact H3
    isplitl [H5]; · iexists _; iexact H5
    isplitl [Hs]; · iexact Hs
    iintro ⟨H2, H3, ⟨%e5, H5⟩, Hs⟩
    isplitl [Hs Hg]
    · isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover5_on m c t h)
    iexact H6

/-- The table's row at a point is the body there. -/
theorem row_eq (t : Fin cfg0.N) :
    defs₀ (F := F) .tc cfg0.body (cfg0.bodyArgs t (cfg0.slots t)) = bodyAt0 t := by
  unfold defs₀; rw [Defs.onTc_tc]

/-- What the pipeline asks of the body, at every point. -/
theorem body_obligation (c : Dev nD) :
    BodyObligation (dats (F := F) m 0 c) (defs₀ (F := F)) Variants.none () Set.univ := fun t => by
  rw [bigSep_W0, bigSep_W0, row_eq]
  exact triple_restated (sound_body m c t) rfl .rfl fun _ => .rfl

/-- What the pipeline has besides the windows is what holds before the first point. -/
theorem enter (c : Dev nD) : Pipeline.ΦA spec0 c ⊢ (dats m 0 c).Φ 0 := by
  rw [show (dats m 0 c).Φ 0 = Pipeline.ΦA spec0 c from rfl]

/-- And after the last point it is given back. -/
theorem leave (c : Dev nD) : (dats m 0 c).Φ (Fin.last cfg0.N) ⊢ Pipeline.ΦA spec0 c := by
  rw [rest_eq, show (dats m 0 c).Φ (Fin.last cfg0.N) = between m c cfg0.N (Nat.le_refl _) from rfl]
  exact between_rest m c _ _

/-! ## The run -/

set_option backward.isDefEq.respectTransparency.types false in
/-- The program terminates with the arrays as the proof data says and every semaphore at zero. -/
theorem run_full : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The arguments end as they began. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The frame: the program terminates, its arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => kept m r h.1 c, h.2⟩) (run_full m ρ)

/-- The run with the two results named. -/
theorem run_results : θ_run defs (onTc (τ := τ) (main (F := F))) ⟨m, fun _ => 0, ρ⟩ fun r => ∀ c : Dev nD,
      r.2.mem ((c : Thread nD τ).loc main_v15_0) = (dats m 0 c).arrAt 5 cfg0.N
      ∧ r.2.mem ((c : Thread nD τ).loc main_v15_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 5, (h.1 c).1 6, kept m r h.1 c⟩) (run_full m ρ)

end Cert.FirstIdeal.Body

end
-- ==== Proof.First.Value.lean ====
/- The value of the input projection of the first layer, its gates beside it, as functions of the argument arrays. -/
module

public import proofs.«01_k».proof.Proof.Gen.FirstRefIdeal.Run
public import proofs.«01_k».proof.Proof.First.IdealFrame
public import proofs.«01_k».proof.Proof.Norm.Row
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.First.Spec

/-- The dot product of a row and a column. -/
def dot (x w : Fin 2048 → EReal) : EReal := ∑ k, x k * w k

/-- Equal parts have equal dot products. -/
theorem dot_congr {x x' w w' : Fin 2048 → EReal} (hx : ∀ k, x k = x' k) (hw : ∀ k, w k = w' k) : dot x w = dot x' w' := by
  rw [funext hx, funext hw]

/-- With a column of zeros it is zero. -/
theorem dot_zero (x : Fin 2048 → EReal) : dot x (fun _ => 0) = 0 := by
  unfold dot; simp only [mul_zero, Finset.sum_const_zero]

/-- The integer zero as a number. -/
theorem int_zero : (FloatOps.sitofp (F := Ideal) FTy.f32 0#32 : EReal) = 0 := by
  show (((BitVec.toInt 0#32 : ℝ)) : EReal) = 0
  simp

section Ref
open Cert.FirstRefIdeal Cert.FirstRefIdeal.Gen

/-- The reference's normed rows. -/
abbrev NORM (h : FVec Ideal S32768x2048 .f32) (g : FVec Ideal S2048 .f32) : FVec Ideal S32768x2048 .f32 :=
  mulf (mulf h (broadcastInDim S32768x2048 ![0, 1] bcast_S32768x1_S32768x2048_0_1 (Host.rsqrt (addf (Host.divf (broadcastInDim S32768x1 ![0] bcast_S32768_S32768x1_0 (Host.reduceAdd (mulf h h) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x3727C5AC#32)))))) (broadcastInDim S32768x2048 ![0, 1] bcast_S1x2048_S32768x2048_0_1 (broadcastInDim S1x2048 ![1] bcast_S2048_S1x2048_1 g))

/-- An entry of them. -/
theorem norm_at (h : FVec Ideal S32768x2048 .f32) (g : FVec Ideal S2048 .f32) (r : Fin 32768) (l : Fin 2048) :
    NORM h g (ix2 r l) = Norm.row (fun k => h (ix2 r k)) (g (ix1 l)) l := by
  pointwise [NORM, Norm.row]

/-- The products of the normed rows with all weights. -/
abbrev PROJ (a0 : FVec Ideal S4x8192x2048 .f32) (a1 : FVec Ideal S2048 .f32) (a2 : FVec Ideal S2048x4616 .f32) : FVec Ideal S32768x4616 .f32 :=
  Host.dotGeneral dot_S32768x2048_S2048x4616_S32768x4616_1_0_0_1_n_n none (NORM (shapeCast _ a0 shapeCasts_S4x8192x2048_S32768x2048) a1) a2

/-- Entry `k` of the normed row `r` of the tokens. -/
def nrow (a0 : FVec Ideal S4x8192x2048 .f32) (a1 : FVec Ideal S2048 .f32) (b : Fin 4) (i : Fin 8192) (k : Fin 2048) : EReal :=
  Norm.row (fun q => a0 (ix3 b i q)) (a1 (ix1 k)) k

/-- An entry of the normed rows, in terms of the arguments. -/
theorem norm_cast_at (a0 : FVec Ideal S4x8192x2048 .f32) (a1 : FVec Ideal S2048 .f32) (r : Fin 32768) (k : Fin 2048) :
    NORM (shapeCast _ a0 shapeCasts_S4x8192x2048_S32768x2048) a1 (ix2 r k)
      = nrow a0 a1 ⟨r.val / 8192, by omega⟩ ⟨r.val % 8192, by omega⟩ k := by
  refine (norm_at _ _ r k).trans (Norm.row_congr _ (fun q => ?_) rfl)
  pointwise

/-- An entry of the products of any rows. -/
theorem dot_at (x : FVec Ideal S32768x2048 .f32) (a2 : FVec Ideal S2048x4616 .f32) (r : Fin 32768) (l : Fin 4616) :
    (Host.dotGeneral dot_S32768x2048_S2048x4616_S32768x4616_1_0_0_1_n_n none x a2 : FVec Ideal S32768x4616 .f32) (ix2 r l)
      = dot (fun k => x (ix2 r k)) (fun k => a2 (ix2 k l)) := by
  pointwise [dot]

/-- The reference's projection, its parts in the order they are returned in. -/
def MAIN (a0 : FVec Ideal S4x8192x2048 .f32) (a1 : FVec Ideal S2048 .f32) (a2 : FVec Ideal S2048x4616 .f32) : FVec Ideal S32768x4608 .bf16 :=
  truncf .bf16 (concatenate S32768x4608 1
    [⟨S32768x1024, extractStridedSlice S32768x1024 ![0, 0] (PROJ a0 a1 a2) slices_S32768x4616_S32768x1024_0_0⟩,
     ⟨S32768x1024, extractStridedSlice S32768x1024 ![0, 2560] (PROJ a0 a1 a2) slices_S32768x4616_S32768x1024_0_2560⟩,
     ⟨S32768x1024, extractStridedSlice S32768x1024 ![0, 3584] (PROJ a0 a1 a2) slices_S32768x4616_S32768x1024_0_3584⟩,
     ⟨S32768x512, extractStridedSlice S32768x512 ![0, 1536] (PROJ a0 a1 a2) slices_S32768x4616_S32768x512_0_1536⟩,
     ⟨S32768x512, extractStridedSlice S32768x512 ![0, 2048] (PROJ a0 a1 a2) slices_S32768x4616_S32768x512_0_2048⟩,
     ⟨S32768x256, extractStridedSlice S32768x256 ![0, 1024] (PROJ a0 a1 a2) slices_S32768x4616_S32768x256_0_1024⟩,
     ⟨S32768x256, extractStridedSlice S32768x256 ![0, 1280] (PROJ a0 a1 a2) slices_S32768x4616_S32768x256_0_1280⟩]
    concatenates_S32768x1024_S32768x1024_S32768x1024_S32768x512_S32768x512_S32768x256_S32768x256_S32768x4608_d1) bitsLt_bf16_f32

/-- The reference's gates, in 128 columns. -/
def GATES (a0 : FVec Ideal S4x8192x2048 .f32) (a1 : FVec Ideal S2048 .f32) (a2 : FVec Ideal S2048x4616 .f32) : FVec Ideal S32768x128 .f32 :=
  pad S32768x128 ![0, 0] ![0, 120] ![0, 0] (extractStridedSlice S32768x8 ![0, 4608] (PROJ a0 a1 a2) slices_S32768x4616_S32768x8_0_4608) (sitofp .f32 (constantI S_ 32 0#32)) pads_S32768x8_S32768x128_000_01200 h_S_

/-- Which column of the weights column `n` of the projection comes from. -/
def ord (n : ℕ) : ℕ :=
  if n < 1024 then n else if n < 2048 then n + 1536 else if n < 3072 then n + 1536 else if n < 3584 then n - 1536
  else if n < 4096 then n - 1536 else n - 3072

/-- It is one of the weights' columns. -/
theorem ord_lt {n : ℕ} (h : n < 4608) : ord n < 4616 := by
  unfold ord; split_ifs <;> omega

/-- An entry of the products. -/
theorem proj_at (a0 : FVec Ideal S4x8192x2048 .f32) (a1 : FVec Ideal S2048 .f32) (a2 : FVec Ideal S2048x4616 .f32) (r : Fin 32768) (l : Fin 4616) :
    PROJ a0 a1 a2 (ix2 r l)
      = dot (nrow a0 a1 ⟨r.val / 8192, by omega⟩ ⟨r.val % 8192, by omega⟩) (fun k => a2 (ix2 k l)) := by
  exact (dot_at _ _ r l).trans (dot_congr (norm_cast_at a0 a1 r) fun _ => rfl)

/-- The parts of the products as they are returned, over any array. -/
theorem main_cols (p : FVec Ideal S32768x4616 .f32) (r : Fin 32768) (l : Fin 4608) :
    (truncf .bf16 (concatenate S32768x4608 1
    [⟨S32768x1024, extractStridedSlice S32768x1024 ![0, 0] p slices_S32768x4616_S32768x1024_0_0⟩,
     ⟨S32768x1024, extractStridedSlice S32768x1024 ![0, 2560] p slices_S32768x4616_S32768x1024_0_2560⟩,
     ⟨S32768x1024, extractStridedSlice S32768x1024 ![0, 3584] p slices_S32768x4616_S32768x1024_0_3584⟩,
     ⟨S32768x512, extractStridedSlice S32768x512 ![0, 1536] p slices_S32768x4616_S32768x512_0_1536⟩,
     ⟨S32768x512, extractStridedSlice S32768x512 ![0, 2048] p slices_S32768x4616_S32768x512_0_2048⟩,
     ⟨S32768x256, extractStridedSlice S32768x256 ![0, 1024] p slices_S32768x4616_S32768x256_0_1024⟩,
     ⟨S32768x256, extractStridedSlice S32768x256 ![0, 1280] p slices_S32768x4616_S32768x256_0_1280⟩]
    concatenates_S32768x1024_S32768x1024_S32768x1024_S32768x512_S32768x512_S32768x256_S32768x256_S32768x4608_d1) bitsLt_bf16_f32 : FVec Ideal S32768x4608 .bf16) (ix2 r l) = p (ix2 r ⟨ord l.val, ord_lt l.isLt⟩) := by
  pointwise
  split_ifs <;> exact congrArg p (congrArg (ix2 _) (Fin.ext (by simp only [ord]; split_ifs <;> omega)))

/-- The projection at row `r`, column `l`. -/
theorem main_at (a0 : FVec Ideal S4x8192x2048 .f32) (a1 : FVec Ideal S2048 .f32) (a2 : FVec Ideal S2048x4616 .f32) (r : Fin 32768) (l : Fin 4608) :
    MAIN a0 a1 a2 (ix2 r l)
      = dot (nrow a0 a1 ⟨r.val / 8192, by omega⟩ ⟨r.val % 8192, by omega⟩)
          (fun k => a2 (ix2 k ⟨ord l.val, ord_lt l.isLt⟩)) :=
  (main_cols _ r l).trans (proj_at a0 a1 a2 r _)

/-- The gate columns of the products and the zeros after them, over any array. -/
theorem gates_cols (p : FVec Ideal S32768x4616 .f32) (r : Fin 32768) (l : Fin 128) :
    (pad S32768x128 ![0, 0] ![0, 120] ![0, 0] (extractStridedSlice S32768x8 ![0, 4608] p slices_S32768x4616_S32768x8_0_4608) (sitofp .f32 (constantI S_ 32 0#32) : FVec Ideal S_ .f32) pads_S32768x8_S32768x128_000_01200 h_S_ : FVec Ideal S32768x128 .f32) (ix2 r l)
      = if h : l.val < 8 then p (ix2 r ⟨4608 + l.val, by omega⟩) else (0 : EReal) := by
  by_cases h : l.val < 8
  · rw [dif_pos h]
    pointwise
    rw [dif_pos h]
  · rw [dif_neg h]
    pointwise
    rw [dif_neg h]; exact int_zero

/-- The gates at row `r`, column `l`: those of the 8 gate columns, zeros after. -/
theorem gates_at (a0 : FVec Ideal S4x8192x2048 .f32) (a1 : FVec Ideal S2048 .f32) (a2 : FVec Ideal S2048x4616 .f32) (r : Fin 32768) (l : Fin 128) :
    GATES a0 a1 a2 (ix2 r l)
      = if h : l.val < 8 then dot (nrow a0 a1 ⟨r.val / 8192, by omega⟩ ⟨r.val % 8192, by omega⟩)
          (fun k => a2 (ix2 k ⟨4608 + l.val, by omega⟩)) else 0 := by
  by_cases h : l.val < 8
  · rw [dif_pos h]
    refine (gates_cols _ r l).trans ?_
    rw [dif_pos h]
    exact proj_at a0 a1 a2 r _
  · rw [dif_neg h]
    refine (gates_cols _ r l).trans ?_
    rw [dif_neg h]

/-- The projection at an index. -/
theorem main_at_idx (a0 : FVec Ideal S4x8192x2048 .f32) (a1 : FVec Ideal S2048 .f32) (a2 : FVec Ideal S2048x4616 .f32) (j : S32768x4608.Idx) :
    MAIN a0 a1 a2 j
      = dot (nrow a0 a1 ⟨(j 0).val / 8192, Nat.div_lt_of_lt_mul (j 0).isLt⟩ ⟨(j 0).val % 8192, Nat.mod_lt _ (by decide)⟩)
          (fun k => a2 (ix2 k ⟨ord (j 1).val, ord_lt (j 1).isLt⟩)) := by
  conv_lhs => rw [eq_ix2 j]
  exact main_at a0 a1 a2 (j 0) (j 1)

/-- The gates at an index. -/
theorem gates_at_idx (a0 : FVec Ideal S4x8192x2048 .f32) (a1 : FVec Ideal S2048 .f32) (a2 : FVec Ideal S2048x4616 .f32) (j : S32768x128.Idx) :
    GATES a0 a1 a2 j
      = if h : (j 1).val < 8 then
          dot (nrow a0 a1 ⟨(j 0).val / 8192, Nat.div_lt_of_lt_mul (j 0).isLt⟩ ⟨(j 0).val % 8192, Nat.mod_lt _ (by decide)⟩)
            (fun k => a2 (ix2 k ⟨4608 + (j 1).val, Nat.add_lt_add_left h 4608⟩)) else 0 := by
  conv_lhs => rw [eq_ix2 j]
  exact gates_at a0 a1 a2 (j 0) (j 1)

end Ref

section Kernel
open Cert.FirstIdeal Cert.FirstIdeal.Gen

/-- The normed rows put into the scratch buffer, at an index. -/
theorem pay1_at (x : FVec Ideal S1024x2048 .f32) (g : FVec Ideal S1x2048 .f32) (r : Fin 1024) (l : Fin 2048) :
    k0_pay1 (F := Ideal) x g (ix2 r l) = Norm.row (fun k => x (ix2 r k)) (g (ix2 0 l)) l := by
  pointwise [k0_pay1, Norm.row]

/-- The stored gates at an index, -/
theorem pay2_at (x : FVec Ideal S1024x2048 .bf16) (w : FVec Ideal S2048x128 .bf16) (r : Fin 1024) (l : Fin 128) :
    k0_pay2 (F := Ideal) x w (ix2 r l) = dot (fun k => x (ix2 r k)) (fun k => w (ix2 k l)) := by
  pointwise [k0_pay2, dot]

/-- and the stored projection. -/
theorem pay3_at (x : FVec Ideal S1024x2048 .bf16) (w : FVec Ideal S2048x1536 .bf16) (s : FVec Ideal S1x1536 .f32)
    (r : Fin 1024) (l : Fin 1536) :
    k0_pay3 (F := Ideal) x w s (ix2 r l) = dot (fun k => x (ix2 r k)) (fun k => w (ix2 k l)) * s (ix2 0 l) := by
  pointwise [k0_pay3, dot]

/-- The weights as the host code orders them. -/
def WMAIN (a2 : FVec Ideal S2048x4616 .f32) : FVec Ideal S2048x4608 .bf16 :=
  truncf .bf16 (concatenate S2048x4608 1
    [⟨S2048x1024, extractStridedSlice S2048x1024 ![0, 0] a2 slices_S2048x4616_S2048x1024_0_0⟩,
     ⟨S2048x1024, extractStridedSlice S2048x1024 ![0, 2560] a2 slices_S2048x4616_S2048x1024_0_2560⟩,
     ⟨S2048x1024, extractStridedSlice S2048x1024 ![0, 3584] a2 slices_S2048x4616_S2048x1024_0_3584⟩,
     ⟨S2048x512, extractStridedSlice S2048x512 ![0, 1536] a2 slices_S2048x4616_S2048x512_0_1536⟩,
     ⟨S2048x512, extractStridedSlice S2048x512 ![0, 2048] a2 slices_S2048x4616_S2048x512_0_2048⟩,
     ⟨S2048x256, extractStridedSlice S2048x256 ![0, 1024] a2 slices_S2048x4616_S2048x256_0_1024⟩,
     ⟨S2048x256, extractStridedSlice S2048x256 ![0, 1280] a2 slices_S2048x4616_S2048x256_0_1280⟩]
    concatenates_S2048x1024_S2048x1024_S2048x1024_S2048x512_S2048x512_S2048x256_S2048x256_S2048x4608_d1) bitsLt_bf16_f32

/-- They are the columns the projection's come from. -/
theorem weights_at (a2 : FVec Ideal S2048x4616 .f32) (k : Fin 2048) (l : Fin 4608) :
    WMAIN a2 (ix2 k l) = a2 (ix2 k ⟨ord l.val, ord_lt l.isLt⟩) := by
  pointwise [WMAIN]
  split_ifs <;> exact congrArg a2 (congrArg (ix2 _) (Fin.ext (by simp only [ord]; split_ifs <;> omega)))

end Kernel

end Cert.First.Spec

namespace Cert.FirstIdeal.Body

open Cert.FirstIdeal Cert.FirstIdeal.Gen Cert.First.Spec

variable (m : (ℓ : Loc nD τ sig) → Buf (Elt Ideal) ℓ)

/-- Every window's block index at every grid point. -/
theorem idx_val : ∀ t : Fin cfg0.N, win0_0.index t = ![t.val / 3, 0]
    ∧ win0_1.index t = ![0, 0]
    ∧ win0_2.index t = ![0, t.val % 3]
    ∧ win0_3.index t = ![0, t.val % 3]
    ∧ win0_4.index t = ![0, 0]
    ∧ win0_5.index t = ![t.val / 3, t.val % 3]
    ∧ win0_6.index t = ![t.val / 3, 0] :=
  (by decide +kernel : ∀ t : Fin grid0.N, _)

/-- The tokens as the kernel finds them: the argument, its two leading axes merged. -/
theorem entry_x (c : Dev nD) (r : Fin 32768) (k : Fin 2048) :
    (V m c main_v12 : FVec Ideal S32768x2048 .f32) (ix2 r k)
      = (m ((c : Thread nD τ).loc main_arg0) : FVec Ideal S4x8192x2048 .f32)
          (ix3 ⟨r.val / 8192, by omega⟩ ⟨r.val % 8192, by omega⟩ k) := by
  simp only [V, hostOps0, hostOps0_1, hostOps0_2, List.flatten_cons, List.flatten_nil, List.append_nil, List.cons_append,
    List.nil_append]
  entry_read
  pointwise

/-- The gain as the kernel finds it. -/
theorem entry_n (c : Dev nD) (l : Fin 2048) :
    (V m c main_v14 : FVec Ideal S1x2048 .f32) (ix2 0 l)
      = (m ((c : Thread nD τ).loc main_arg1) : FVec Ideal S2048 .f32) (ix1 l) := by
  simp only [V, hostOps0, hostOps0_1, hostOps0_2, List.flatten_cons, List.flatten_nil, List.append_nil, List.cons_append,
    List.nil_append]
  entry_read
  pointwise

/-- The weights as the kernel finds them. -/
theorem entry_eq (c : Dev nD) : V m c main_v9 = WMAIN (m ((c : Thread nD τ).loc main_arg2)) := rfl

/-- An entry of them: the column it comes from. -/
theorem entry_w (c : Dev nD) (k : Fin 2048) (l : Fin 4608) :
    (V m c main_v9 : FVec Ideal S2048x4608 .bf16) (ix2 k l)
      = (m ((c : Thread nD τ).loc main_arg2) : FVec Ideal S2048x4616 .f32) (ix2 k ⟨ord l.val, ord_lt l.isLt⟩) :=
  (congrFun (entry_eq m c) _).trans (weights_at _ k l)

/-- The column scales are ones. -/
theorem entry_s (c : Dev nD) (i : S1x4608.Idx) :
    (V m c main_v13 : FVec Ideal S1x4608 .f32) i = (1 : EReal) := by
  simp only [V, hostOps0, hostOps0_1, hostOps0_2, List.flatten_cons, List.flatten_nil, List.append_nil, List.cons_append,
    List.nil_append]
  entry_read
  pointwise

/-- The gate weights as the kernel finds them: the last 8 columns, then zeros. -/
theorem entry_g (c : Dev nD) (k : Fin 2048) (l : Fin 128) :
    (V m c main_v11 : FVec Ideal S2048x128 .bf16) (ix2 k l)
      = if h : l.val < 8 then (m ((c : Thread nD τ).loc main_arg2) : FVec Ideal S2048x4616 .f32) (ix2 k ⟨4608 + l.val, by omega⟩)
        else (0 : EReal) := by
  simp only [V, hostOps0, hostOps0_1, hostOps0_2, List.flatten_cons, List.flatten_nil, List.append_nil, List.cons_append,
    List.nil_append]
  entry_read
  change (pad S2048x128 ![0, 0] ![0, 120] ![0, 0]
    (extractStridedSlice S2048x8 ![0, 4608] (m (c, Proc.tc.devRef main_arg2) : FVec Ideal S2048x4616 .f32)
      slices_S2048x4616_S2048x8_0_4608)
    (sitofp FTy.f32 (constantI S_ 32 0#32) : FVec Ideal S_ .f32)
    pads_S2048x8_S2048x128_000_01200 h_S_ : FVec Ideal S2048x128 .f32) (ix2 k l) = _
  by_cases h : l.val < 8
  · rw [dif_pos h]
    pointwise
    rw [dif_pos h]
  · rw [dif_neg h]
    pointwise
    rw [dif_neg h]; exact int_zero

/-- The block of tokens a grid point is given. -/
theorem blk_x (c : Dev nD) (t : Fin cfg0.N) (r : Fin 1024) (k : Fin 2048) (R : Fin 32768)
    (hR : R.val = t.val / 3 * 1024 + r.val) :
    (iblk m c 0 t : FVec Ideal S1024x2048 .f32) (ix2 r k) = (V m c main_v12 : FVec Ideal S32768x2048 .f32) (ix2 R k) := by
  blk_ext [iblk, idx_val t]

/-- The gain, whole at every grid point. -/
theorem blk_n (c : Dev nD) (t : Fin cfg0.N) (l : Fin 2048) :
    (iblk m c 1 t : FVec Ideal S1x2048 .f32) (ix2 0 l) = (V m c main_v14 : FVec Ideal S1x2048 .f32) (ix2 0 l) := by
  blk_ext [iblk, idx_val t]

/-- The block of weights a grid point is given. -/
theorem blk_w (c : Dev nD) (t : Fin cfg0.N) (k : Fin 2048) (l : Fin 1536) (L : Fin 4608)
    (hL : L.val = t.val % 3 * 1536 + l.val) :
    (iblk m c 2 t : FVec Ideal S2048x1536 .bf16) (ix2 k l) = (V m c main_v9 : FVec Ideal S2048x4608 .bf16) (ix2 k L) := by
  blk_ext [iblk, idx_val t]

/-- The block of column scales a grid point is given. -/
theorem blk_s (c : Dev nD) (t : Fin cfg0.N) (l : Fin 1536) (L : Fin 4608) (hL : L.val = t.val % 3 * 1536 + l.val) :
    (iblk m c 3 t : FVec Ideal S1x1536 .f32) (ix2 0 l) = (V m c main_v13 : FVec Ideal S1x4608 .f32) (ix2 0 L) := by
  blk_ext [iblk, idx_val t]

/-- The gate weights, whole at every grid point. -/
theorem blk_g (c : Dev nD) (t : Fin cfg0.N) (k : Fin 2048) (l : Fin 128) :
    (iblk m c 4 t : FVec Ideal S2048x128 .bf16) (ix2 k l) = (V m c main_v11 : FVec Ideal S2048x128 .bf16) (ix2 k l) := by
  blk_ext [iblk, idx_val t]

/-- An entry of a point's normed rows, in terms of the arguments: row `R` of the arrays. -/
theorem norm_blk (c : Dev nD) (t : Fin cfg0.N) (r : Fin 1024) (k : Fin 2048) (R : Fin 32768)
    (hR : R.val = t.val / 3 * 1024 + r.val) :
    k0_pay1 (F := Ideal) (iblk m c 0 t) (iblk m c 1 t) (ix2 r k)
      = nrow (m ((c : Thread nD τ).loc main_arg0)) (m ((c : Thread nD τ).loc main_arg1))
          ⟨R.val / 8192, by omega⟩ ⟨R.val % 8192, by omega⟩ k := by
  refine (pay1_at _ _ _ _).trans ?_
  exact Norm.row_congr _ (fun q => (blk_x m c t r q R hR).trans (entry_x m c R q)) ((blk_n m c t k).trans (entry_n m c k))

/-- The scratch buffer after an opening point holds them. -/
theorem rows_open_eq (c : Dev nD) (t : Fin cfg0.N) (h : t.val % 3 = 0) :
    rows_open m c t h = k0_pay1 (F := Ideal) (iblk m c 0 t) (iblk m c 1 t) := by
  funext y
  unfold rows_open atOpen
  frame_out
  try rfl

/-- The scratch buffer after any point, in terms of the arguments. -/
theorem rows_blk (c : Dev nD) (t : Fin cfg0.N) (r : Fin 1024) (k : Fin 2048) (R : Fin 32768)
    (hR : R.val = t.val / 3 * 1024 + r.val) :
    (rows m c t : FVec Ideal S1024x2048 .bf16) (ix2 r k)
      = nrow (m ((c : Thread nD τ).loc main_arg0)) (m ((c : Thread nD τ).loc main_arg1))
          ⟨R.val / 8192, by omega⟩ ⟨R.val % 8192, by omega⟩ k := by
  unfold rows
  rw [rows_open_eq]
  refine norm_blk m c (opener t) r k R ?_
  rw [hR]; dsimp only [opener]; omega

/-- An entry of a block of the projection, in terms of the arguments: row `j 0`, column `j 1` of the arrays. -/
theorem core_m (c : Dev nD) (t : Fin cfg0.N) (x : FVec Ideal S1024x2048 .bf16)
    (hx : ∀ (r : Fin 1024) (k : Fin 2048) (R : Fin 32768), R.val = t.val / 3 * 1024 + r.val → x (ix2 r k)
      = nrow (m ((c : Thread nD τ).loc main_arg0)) (m ((c : Thread nD τ).loc main_arg1))
          ⟨R.val / 8192, by omega⟩ ⟨R.val % 8192, by omega⟩ k)
    (r : Fin 1024) (l : Fin 1536) (j : S32768x4608.Idx)
    (h0 : (j 0).val = t.val / 3 * 1024 + r.val) (h1 : (j 1).val = t.val % 3 * 1536 + l.val) :
    dot (fun k => x (ix2 r k))
        (fun k => (iblk m c 2 t : FVec Ideal S2048x1536 .bf16) (ix2 k l)) * (iblk m c 3 t : FVec Ideal S1x1536 .f32) (ix2 0 l)
      = MAIN (m ((c : Thread nD τ).loc main_arg0)) (m ((c : Thread nD τ).loc main_arg1))
        (m ((c : Thread nD τ).loc main_arg2)) j := by
  rw [blk_s m c t l (j 1) h1, entry_s]
  refine (mul_one _).trans (Eq.trans ?_ (main_at_idx _ _ _ j).symm)
  exact dot_congr (fun k => hx r k (j 0) h0)
    (fun k => (blk_w m c t k l (j 1) h1).trans (entry_w m c k (j 1)))

/-- An entry of a block of the gates, in terms of the arguments. -/
theorem core_g (c : Dev nD) (t : Fin cfg0.N) (x : FVec Ideal S1024x2048 .bf16)
    (hx : ∀ (r : Fin 1024) (k : Fin 2048) (R : Fin 32768), R.val = t.val / 3 * 1024 + r.val → x (ix2 r k)
      = nrow (m ((c : Thread nD τ).loc main_arg0)) (m ((c : Thread nD τ).loc main_arg1))
          ⟨R.val / 8192, by omega⟩ ⟨R.val % 8192, by omega⟩ k)
    (r : Fin 1024) (l : Fin 128) (j : S32768x128.Idx)
    (h0 : (j 0).val = t.val / 3 * 1024 + r.val) (h1 : j 1 = l) :
    dot (fun k => x (ix2 r k))
        (fun k => (iblk m c 4 t : FVec Ideal S2048x128 .bf16) (ix2 k l))
      = GATES (m ((c : Thread nD τ).loc main_arg0)) (m ((c : Thread nD τ).loc main_arg1))
        (m ((c : Thread nD τ).loc main_arg2)) j := by
  subst h1
  refine Eq.trans ?_ (gates_at_idx _ _ _ j).symm
  refine (dot_congr (fun k => hx r k (j 0) h0)
    (fun k => (blk_g m c t k (j 1)).trans (entry_g m c k (j 1)))).trans ?_
  by_cases h : (j 1).val < 8
  · simp only [dif_pos h]
  · simp only [dif_neg h]; exact dot_zero _

/-- What an opening point stores of the projection is the reference at the array index it sits at, -/
theorem point5_open (c : Dev nD) (t : Fin cfg0.N) (h : t.val % 3 = 0) (y) :
    out5_open m c t h y
      = MAIN (m ((c : Thread nD τ).loc main_arg0)) (m ((c : Thread nD τ).loc main_arg1))
        (m ((c : Thread nD τ).loc main_arg2)) (((cfg0.win 5).blk t).view.emb y) := by
  unfold out5_open atOpen
  frame_out
  idx_vars y
  refine (pay3_at _ _ _ _ _).trans ?_
  refine core_m m c t _ (norm_blk m c t) y0 y1 _ ?_ ?_
  all_goals (blk_simp [idx_val t] <;> (dsimp only; omega))

/-- and what any other stores. -/
theorem point5_on (c : Dev nD) (t : Fin cfg0.N) (h : ¬t.val % 3 = 0) (y) :
    out5_on m c t h y
      = MAIN (m ((c : Thread nD τ).loc main_arg0)) (m ((c : Thread nD τ).loc main_arg1))
        (m ((c : Thread nD τ).loc main_arg2)) (((cfg0.win 5).blk t).view.emb y) := by
  have hx := rows_blk m c t
  unfold out5_on atOn
  generalize rows m c t = xn at hx ⊢
  frame_out
  idx_vars y
  refine (pay3_at _ _ _ _ _).trans ?_
  refine core_m m c t _ (fun r k R hR =>
    (congrFun ((Memref.isWhole_whole cc0_scratch0).read_unread xn) _).trans (hx r k R hR)) y0 y1 _ ?_ ?_
  all_goals (blk_simp [idx_val t] <;> (dsimp only; omega))

/-- What an opening point stores of the gates is the reference at the array index it sits at. -/
theorem point6 (c : Dev nD) (t : Fin cfg0.N) (h : t.val % 3 = 0) (y) :
    out6_open m c t h y
      = GATES (m ((c : Thread nD τ).loc main_arg0)) (m ((c : Thread nD τ).loc main_arg1))
        (m ((c : Thread nD τ).loc main_arg2)) (((cfg0.win 6).blk t).view.emb y) := by
  unfold out6_open atOpen
  frame_out
  idx_vars y
  refine (pay2_at _ _ _ _).trans ?_
  refine core_g m c t _ (norm_blk m c t) y0 y1 _ ?_ ?_
  · blk_simp [idx_val t] <;> (dsimp only; omega)
  · refine Fin.ext ?_
    blk_simp [idx_val t] <;> (dsimp only; omega)

/-- The projection after the run is the reference's. -/
theorem final_5 (c : Dev nD) : (dats m 0 c).arrAt 5 (cfgs 0).N
    = MAIN (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp; rw [after_5]
  unfold out5
  by_cases h : t.val % 3 = 0
  · rw [dif_pos h]; exact point5_open m c t h y
  · rw [dif_neg h]; exact point5_on m c t h y

/-- A row block's points write the gates back to one block of the array. -/
theorem blk6_opener (t : Fin cfg0.N) (y) :
    ((cfg0.win 6).blk (opener t)).view.emb y = ((cfg0.win 6).blk t).view.emb y := by
  idx_vars y
  refine funext fun a => ?_
  fin_cases a
  · refine Fin.ext ?_
    blk_simp [idx_val t, idx_val (opener t)] <;> (dsimp only [opener]; omega)
  · refine Fin.ext ?_
    blk_simp [idx_val t, idx_val (opener t)] <;> (dsimp only [opener]; omega)

/-- The gates after the run are the reference's. -/
theorem final_6 (c : Dev nD) : (dats m 0 c).arrAt 6 (cfgs 0).N
    = GATES (m ((c : Thread nD τ).loc main_arg0)) (m ((c : Thread nD τ).loc main_arg1))
        (m ((c : Thread nD τ).loc main_arg2)) := by
  refine (dats m 0 c).arrAt_eq_of_covers 6 _ (by decide +kernel) fun t hf y => ?_
  blk_simp; rw [after_6]
  refine (point6 m c (opener t) (opener_opens t) y).trans ?_
  rw [blk6_opener]

end Cert.FirstIdeal.Body

end
-- ==== Proof.First.Claims.lean ====
/- Hand-written: the claims about the input projection of the first layer. -/
module

public import proofs.«01_k».proof.Defs
public import proofs.«01_k».proof.Proof.First.BitsFrame
public import proofs.«01_k».proof.Proof.Gen.FirstRefIdeal.Run
public import proofs.«01_k».proof.Proof.First.Value
public import Idealize.ShloMosaic.Lib.Quiescent

@[expose] public section

noncomputable section

namespace Cert.Proof

open Idealize.ShloMosaic Idealize.ShloMosaic.TcCoe Idealize.SL.Sem

/-- The kernel at its machine formats terminates without a fault and keeps its arguments. -/
theorem frame_First : Cert.quiescent_First (hFirst := Cert.First.Gen.facts) :=
  fun m g _ => Cert.First.Body.frame_run m g

/-- The idealized kernel terminates without a fault and keeps its arguments. -/
theorem frame_FirstIdeal : Cert.quiescent_FirstIdeal (hFirstIdeal := Cert.FirstIdeal.Gen.facts) :=
  fun m g _ => Cert.FirstIdeal.Body.frame_run m g

/-- The reference terminates without a fault and keeps its arguments. -/
theorem frame_FirstRefIdeal : Cert.quiescent_FirstRefIdeal (hFirstRefIdeal := Cert.FirstRefIdeal.Gen.facts) :=
  fun m g _ => (θ_run Cert.FirstRefIdeal.defs _ _).mono
    (fun r h => ⟨fun c => (h c).2.2, Idealize.ShloMosaic.sem_eq_zero_of_no_sems (by decide) r.2⟩)
    (Cert.FirstRefIdeal.Value.run (F := Ideal) m g)

/-- From memories that agree on the arguments, kernel and reference end with equal results. -/
theorem algebraic_First : Cert.algebraic_FirstIdeal_FirstRefIdeal (hFirstIdeal := Cert.FirstIdeal.Gen.facts) (hFirstRefIdeal := Cert.FirstRefIdeal.Gen.facts) := by
  intro m g m' g' _ hagree
  refine ⟨_, _, Cert.FirstIdeal.Body.run_results (F := Ideal) m g, ?_⟩
  refine (θ_run Cert.FirstRefIdeal.defs _ _).mono (fun _ h c => ⟨(h c).1.trans ?_, (h c).2.1.trans ?_, (h c).2.2⟩)
    (Cert.FirstRefIdeal.Value.run (F := Ideal) m' g')
  · unfold Cert.FirstRefIdeal.Value.res_main_v24
    rw [(hagree c).1, (hagree c).2.1, (hagree c).2.2]
    exact (Cert.FirstIdeal.Body.final_5 m c).symm
  · rw [(hagree c).1, (hagree c).2.1, (hagree c).2.2]
    exact (Cert.FirstIdeal.Body.final_6 m c).symm

end Cert.Proof

end
-- ==== Proof.lean ====
module

public import proofs.«01_k».proof.Defs
public import proofs.«01_k».proof.Proof.Swa.Frames
public import proofs.«01_k».proof.Proof.Swa.Claims
public import proofs.«01_k».proof.Proof.Ffn.Claims
public import proofs.«01_k».proof.Proof.Down.Claims
public import proofs.«01_k».proof.Proof.Out.Claims
public import proofs.«01_k».proof.Proof.Odd.Claims
public import proofs.«01_k».proof.Proof.Mid.Claims
public import proofs.«01_k».proof.Proof.Proj.Claims
public import proofs.«01_k».proof.Proof.Even.Claims
public import proofs.«01_k».proof.Proof.First.Claims
public import Idealize.ShloMosaic.Adequacy
public import Idealize.ShloMosaic.Init

@[expose] public section

noncomputable section

namespace Cert.Proof

open Idealize.ShloMosaic Idealize.SL.Sem

/-- Every claim, each proved in the module of its call. -/
theorem claim : Cert.Claim :=
  ⟨Cert.Kernel.Gen.facts, Cert.KernelIdeal.Gen.facts, Cert.ReferenceIdeal.Gen.facts, Cert.Ffn.Gen.facts,
    Cert.FfnIdeal.Gen.facts, Cert.FfnRefIdeal.Gen.facts, Cert.Down.Gen.facts, Cert.DownIdeal.Gen.facts,
    Cert.DownRefIdeal.Gen.facts, Cert.Out.Gen.facts, Cert.OutIdeal.Gen.facts, Cert.OutRefIdeal.Gen.facts,
    Cert.Odd.Gen.facts, Cert.OddIdeal.Gen.facts, Cert.OddRefIdeal.Gen.facts, Cert.Mid.Gen.facts, Cert.MidIdeal.Gen.facts,
    Cert.MidRefIdeal.Gen.facts, Cert.Proj.Gen.facts, Cert.ProjIdeal.Gen.facts, Cert.ProjRefIdeal.Gen.facts,
    Cert.Even.Gen.facts, Cert.EvenIdeal.Gen.facts, Cert.EvenRefIdeal.Gen.facts,
    Cert.First.Gen.facts, Cert.FirstIdeal.Gen.facts, Cert.FirstRefIdeal.Gen.facts,
    Cert.Pre_finite.Gen.facts,
    frame_Kernel, frame_KernelIdeal, frame_KernelIdeal_pre, frame_ReferenceIdeal, frame_ReferenceIdeal_pre, frame_Ffn, frame_FfnIdeal, frame_FfnRefIdeal,
    frame_Down, frame_DownIdeal, frame_DownRefIdeal, frame_Out, frame_OutIdeal, frame_OutRefIdeal,
    frame_Odd, frame_OddIdeal, frame_OddRefIdeal, frame_Mid, frame_MidIdeal, frame_MidRefIdeal,
    frame_Proj, frame_ProjIdeal, frame_ProjRefIdeal, frame_Even, frame_EvenIdeal, frame_EvenRefIdeal,
    frame_First, frame_FirstIdeal, frame_FirstRefIdeal,
    preserves_Kernel, algebraic_Swa, trivial, algebraic_Ffn, trivial, algebraic_Down, trivial, algebraic_Out,
    trivial, algebraic_Odd, trivial, algebraic_Mid,
    trivial, algebraic_Proj, trivial, algebraic_Even, trivial, algebraic_First⟩

end Cert.Proof

end
